-- ==== Defs.lean ====
def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresRefIdeal (m : (ℓ : Loc Cert.ScoresRefIdeal.nD Cert.ScoresRefIdeal.τ Cert.ScoresRefIdeal.sig) → Buf (Elt Ideal) ℓ) : Prop :=
  True

def Pre_ResLn (m : (ℓ : Loc Cert.ResLn.nD Cert.ResLn.τ Cert.ResLn.sig) → Buf (Elt Bits) ℓ) : Prop :=
  True

def Pre_ResLnIdeal (m : (ℓ : Loc Cert.ResLnIdeal.nD Cert.ResLnIdeal.τ Cert.ResLnIdeal.sig) → Buf (Elt Ideal) ℓ) : Prop :=
  True

def Pre_ResLnRefIdeal (m : (ℓ : Loc Cert.ResLnRefIdeal.nD Cert.ResLnRefIdeal.τ Cert.ResLnRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_Sample (m : (ℓ : Loc Cert.Sample.nD Cert.Sample.τ Cert.Sample.sig) → Buf (Elt Bits) ℓ) : Prop :=
  True

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresRefIdeal [hScoresRefIdeal : Cert.ScoresRefIdeal.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2))
      ∧ r.2.sem = fun _ => 0)

def quiescent_ResLn [hResLn : Cert.ResLn.Facts] : Prop :=
  ∀ (m : (ℓ : Loc Cert.ResLn.nD Cert.ResLn.τ Cert.ResLn.sig) → Buf (Elt Bits) ℓ) (g : Dev Cert.ResLn.nD → PrngReg), Pre_ResLn m →
    θ_run (Cert.ResLn.defs (F := Bits)) (onTc (τ := Cert.ResLn.τ) (Cert.ResLn.main (F := Bits))) ⟨m, fun _ => 0, g⟩ (fun r => (∀ c : Dev Cert.ResLn.nD,
      r.2.mem ((c.tc : Thread Cert.ResLn.nD Cert.ResLn.τ).loc Cert.ResLn.main_arg0) = m ((c.tc : Thread Cert.ResLn.nD Cert.ResLn.τ).loc Cert.ResLn.main_arg0)
      ∧ r.2.mem ((c.tc : Thread Cert.ResLn.nD Cert.ResLn.τ).loc Cert.ResLn.main_arg1) = m ((c.tc : Thread Cert.ResLn.nD Cert.ResLn.τ).loc Cert.ResLn.main_arg1)
      ∧ r.2.mem ((c.tc : Thread Cert.ResLn.nD Cert.ResLn.τ).loc Cert.ResLn.main_arg2) = m ((c.tc : Thread Cert.ResLn.nD Cert.ResLn.τ).loc Cert.ResLn.main_arg2)
      ∧ r.2.mem ((c.tc : Thread Cert.ResLn.nD Cert.ResLn.τ).loc Cert.ResLn.main_arg3) = m ((c.tc : Thread Cert.ResLn.nD Cert.ResLn.τ).loc Cert.ResLn.main_arg3))
      ∧ r.2.sem = fun _ => 0)

def quiescent_ResLnIdeal [hResLnIdeal : Cert.ResLnIdeal.Facts] : Prop :=
  ∀ (m : (ℓ : Loc Cert.ResLnIdeal.nD Cert.ResLnIdeal.τ Cert.ResLnIdeal.sig) → Buf (Elt Ideal) ℓ) (g : Dev Cert.ResLnIdeal.nD → PrngReg), Pre_ResLnIdeal m →
    θ_run (Cert.ResLnIdeal.defs (F := Ideal)) (onTc (τ := Cert.ResLnIdeal.τ) (Cert.ResLnIdeal.main (F := Ideal))) ⟨m, fun _ => 0, g⟩ (fun r => (∀ c : Dev Cert.ResLnIdeal.nD,
      r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
      ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
      ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
      ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3))
      ∧ r.2.sem = fun _ => 0)

def quiescent_ResLnRefIdeal [hResLnRefIdeal : Cert.ResLnRefIdeal.Facts] : Prop :=
  ∀ (m : (ℓ : Loc Cert.ResLnRefIdeal.nD Cert.ResLnRefIdeal.τ Cert.ResLnRefIdeal.sig) → Buf (Elt Ideal) ℓ) (g : Dev Cert.ResLnRefIdeal.nD → PrngReg), Pre_ResLnRefIdeal m →
    θ_run (Cert.ResLnRefIdeal.defs (F := Ideal)) (onTc (τ := Cert.ResLnRefIdeal.τ) (Cert.ResLnRefIdeal.main (F := Ideal))) ⟨m, fun _ => 0, g⟩ (fun r => (∀ c : Dev Cert.ResLnRefIdeal.nD,
      r.2.mem ((c.tc : Thread Cert.ResLnRefIdeal.nD Cert.ResLnRefIdeal.τ).loc Cert.ResLnRefIdeal.main_arg0) = m ((c.tc : Thread Cert.ResLnRefIdeal.nD Cert.ResLnRefIdeal.τ).loc Cert.ResLnRefIdeal.main_arg0)
      ∧ r.2.mem ((c.tc : Thread Cert.ResLnRefIdeal.nD Cert.ResLnRefIdeal.τ).loc Cert.ResLnRefIdeal.main_arg1) = m ((c.tc : Thread Cert.ResLnRefIdeal.nD Cert.ResLnRefIdeal.τ).loc Cert.ResLnRefIdeal.main_arg1)
      ∧ r.2.mem ((c.tc : Thread Cert.ResLnRefIdeal.nD Cert.ResLnRefIdeal.τ).loc Cert.ResLnRefIdeal.main_arg2) = m ((c.tc : Thread Cert.ResLnRefIdeal.nD Cert.ResLnRefIdeal.τ).loc Cert.ResLnRefIdeal.main_arg2)
      ∧ r.2.mem ((c.tc : Thread Cert.ResLnRefIdeal.nD Cert.ResLnRefIdeal.τ).loc Cert.ResLnRefIdeal.main_arg3) = m ((c.tc : Thread Cert.ResLnRefIdeal.nD Cert.ResLnRefIdeal.τ).loc Cert.ResLnRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8))
      ∧ r.2.sem = fun _ => 0)

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)
      ∧ m' ((c.tc : Thread Cert.DenseRefIdeal.nD Cert.DenseRefIdeal.τ).loc Cert.DenseRefIdeal.main_arg6) = m ((c.tc : Thread Cert.DenseIdeal.nD Cert.DenseIdeal.τ).loc Cert.DenseIdeal.main_arg6)) →
    ∃ (v0 : (c : Dev Cert.DenseIdeal.nD) → Buf (Elt Ideal) ((c.tc : Thread Cert.DenseIdeal.nD Cert.DenseIdeal.τ).loc Cert.DenseIdeal.main_v4)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v4) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v34) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5)
          ∧ r.2.mem ((c.tc : Thread Cert.DenseRefIdeal.nD Cert.DenseRefIdeal.τ).loc Cert.DenseRefIdeal.main_arg6) = m' ((c.tc : Thread Cert.DenseRefIdeal.nD Cert.DenseRefIdeal.τ).loc Cert.DenseRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v3)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v3) = v0 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v28) = v0 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4))

def preserves_Scores_ScoresIdeal : Prop :=
  True

def algebraic_ScoresIdeal_ScoresRefIdeal [hScoresIdeal : Cert.ScoresIdeal.Facts] [hScoresRefIdeal : Cert.ScoresRefIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v3_0)) (v1 : (c : Dev Cert.ScoresIdeal.nD) → Buf (Elt Ideal) ((c.tc : Thread Cert.ScoresIdeal.nD Cert.ScoresIdeal.τ).loc Cert.ScoresIdeal.main_v3_1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v3_0) = v0 c
          ∧ r.2.mem ((c.tc : Thread Cert.ScoresIdeal.nD Cert.ScoresIdeal.τ).loc Cert.ScoresIdeal.main_v3_1) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v5) = v0 c
          ∧ r.2.mem ((c.tc : Thread Cert.ScoresRefIdeal.nD Cert.ScoresRefIdeal.τ).loc Cert.ScoresRefIdeal.main_v7) = v1 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2))

def preserves_ResLn_ResLnIdeal : Prop :=
  True

def algebraic_ResLnIdeal_ResLnRefIdeal [hResLnIdeal : Cert.ResLnIdeal.Facts] [hResLnRefIdeal : Cert.ResLnRefIdeal.Facts] : Prop :=
  ∀ (m : (ℓ : Loc Cert.ResLnIdeal.nD Cert.ResLnIdeal.τ Cert.ResLnIdeal.sig) → Buf (Elt Ideal) ℓ) (g : Dev Cert.ResLnIdeal.nD → PrngReg)
    (m' : (ℓ : Loc Cert.ResLnRefIdeal.nD Cert.ResLnRefIdeal.τ Cert.ResLnRefIdeal.sig) → Buf (Elt Ideal) ℓ) (g' : Dev Cert.ResLnRefIdeal.nD → PrngReg), Pre_ResLnIdeal m →
    (∀ c : Dev Cert.ResLnIdeal.nD,
      m' ((c.tc : Thread Cert.ResLnRefIdeal.nD Cert.ResLnRefIdeal.τ).loc Cert.ResLnRefIdeal.main_arg0) = m ((c.tc : Thread Cert.ResLnIdeal.nD Cert.ResLnIdeal.τ).loc Cert.ResLnIdeal.main_arg0)
      ∧ m' ((c.tc : Thread Cert.ResLnRefIdeal.nD Cert.ResLnRefIdeal.τ).loc Cert.ResLnRefIdeal.main_arg1) = m ((c.tc : Thread Cert.ResLnIdeal.nD Cert.ResLnIdeal.τ).loc Cert.ResLnIdeal.main_arg1)
      ∧ m' ((c.tc : Thread Cert.ResLnRefIdeal.nD Cert.ResLnRefIdeal.τ).loc Cert.ResLnRefIdeal.main_arg2) = m ((c.tc : Thread Cert.ResLnIdeal.nD Cert.ResLnIdeal.τ).loc Cert.ResLnIdeal.main_arg2)
      ∧ m' ((c.tc : Thread Cert.ResLnRefIdeal.nD Cert.ResLnRefIdeal.τ).loc Cert.ResLnRefIdeal.main_arg3) = m ((c.tc : Thread Cert.ResLnIdeal.nD Cert.ResLnIdeal.τ).loc Cert.ResLnIdeal.main_arg3)) →
    ∃ (v0 : (c : Dev Cert.ResLnIdeal.nD) → Buf (Elt Ideal) ((c.tc : Thread Cert.ResLnIdeal.nD Cert.ResLnIdeal.τ).loc Cert.ResLnIdeal.main_v2_0)) (v1 : (c : Dev Cert.ResLnIdeal.nD) → Buf (Elt Ideal) ((c.tc : Thread Cert.ResLnIdeal.nD Cert.ResLnIdeal.τ).loc Cert.ResLnIdeal.main_v2_1)),
      θ_run (Cert.ResLnIdeal.defs (F := Ideal)) (onTc (τ := Cert.ResLnIdeal.τ) (Cert.ResLnIdeal.main (F := Ideal))) ⟨m, fun _ => 0, g⟩ (fun r => ∀ c : Dev Cert.ResLnIdeal.nD,
          r.2.mem ((c.tc : Thread Cert.ResLnIdeal.nD Cert.ResLnIdeal.τ).loc Cert.ResLnIdeal.main_v2_0) = v0 c
          ∧ r.2.mem ((c.tc : Thread Cert.ResLnIdeal.nD Cert.ResLnIdeal.τ).loc Cert.ResLnIdeal.main_v2_1) = v1 c
          ∧ r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
          ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
          ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
          ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3))
      ∧ θ_run (Cert.ResLnRefIdeal.defs (F := Ideal)) (onTc (τ := Cert.ResLnRefIdeal.τ) (Cert.ResLnRefIdeal.main (F := Ideal))) ⟨m', fun _ => 0, g'⟩ (fun r => ∀ c : Dev Cert.ResLnRefIdeal.nD,
          r.2.mem ((c.tc : Thread Cert.ResLnRefIdeal.nD Cert.ResLnRefIdeal.τ).loc Cert.ResLnRefIdeal.main_v26) = v0 c
          ∧ r.2.mem ((c.tc : Thread Cert.ResLnRefIdeal.nD Cert.ResLnRefIdeal.τ).loc Cert.ResLnRefIdeal.main_v27) = v1 c
          ∧ r.2.mem ((c.tc : Thread Cert.ResLnRefIdeal.nD Cert.ResLnRefIdeal.τ).loc Cert.ResLnRefIdeal.main_arg0) = m' ((c.tc : Thread Cert.ResLnRefIdeal.nD Cert.ResLnRefIdeal.τ).loc Cert.ResLnRefIdeal.main_arg0)
          ∧ r.2.mem ((c.tc : Thread Cert.ResLnRefIdeal.nD Cert.ResLnRefIdeal.τ).loc Cert.ResLnRefIdeal.main_arg1) = m' ((c.tc : Thread Cert.ResLnRefIdeal.nD Cert.ResLnRefIdeal.τ).loc Cert.ResLnRefIdeal.main_arg1)
          ∧ r.2.mem ((c.tc : Thread Cert.ResLnRefIdeal.nD Cert.ResLnRefIdeal.τ).loc Cert.ResLnRefIdeal.main_arg2) = m' ((c.tc : Thread Cert.ResLnRefIdeal.nD Cert.ResLnRefIdeal.τ).loc Cert.ResLnRefIdeal.main_arg2)
          ∧ r.2.mem ((c.tc : Thread Cert.ResLnRefIdeal.nD Cert.ResLnRefIdeal.τ).loc Cert.ResLnRefIdeal.main_arg3) = m' ((c.tc : Thread Cert.ResLnRefIdeal.nD Cert.ResLnRefIdeal.τ).loc Cert.ResLnRefIdeal.main_arg3))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v95_0)) (v1 : (c : Dev Cert.PrepIdeal.nD) → Buf (Elt Ideal) ((c.tc : Thread Cert.PrepIdeal.nD Cert.PrepIdeal.τ).loc Cert.PrepIdeal.main_v95_1)) (v2 : (c : Dev Cert.PrepIdeal.nD) → Buf (Elt Ideal) ((c.tc : Thread Cert.PrepIdeal.nD Cert.PrepIdeal.τ).loc Cert.PrepIdeal.main_v95_2)) (v3 : (c : Dev Cert.PrepIdeal.nD) → Buf (Elt Ideal) ((c.tc : Thread Cert.PrepIdeal.nD Cert.PrepIdeal.τ).loc Cert.PrepIdeal.main_v95_3)) (v4 : (c : Dev Cert.PrepIdeal.nD) → Buf (Elt Ideal) ((c.tc : Thread Cert.PrepIdeal.nD Cert.PrepIdeal.τ).loc Cert.PrepIdeal.main_v95_4)) (v5 : (c : Dev Cert.PrepIdeal.nD) → Buf (Elt Ideal) ((c.tc : Thread Cert.PrepIdeal.nD Cert.PrepIdeal.τ).loc Cert.PrepIdeal.main_v95_5)) (v6 : (c : Dev Cert.PrepIdeal.nD) → Buf (Elt Ideal) ((c.tc : Thread Cert.PrepIdeal.nD Cert.PrepIdeal.τ).loc Cert.PrepIdeal.main_v95_6)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v95_0) = v0 c
          ∧ r.2.mem ((c.tc : Thread Cert.PrepIdeal.nD Cert.PrepIdeal.τ).loc Cert.PrepIdeal.main_v95_1) = v1 c
          ∧ r.2.mem ((c.tc : Thread Cert.PrepIdeal.nD Cert.PrepIdeal.τ).loc Cert.PrepIdeal.main_v95_2) = v2 c
          ∧ r.2.mem ((c.tc : Thread Cert.PrepIdeal.nD Cert.PrepIdeal.τ).loc Cert.PrepIdeal.main_v95_3) = v3 c
          ∧ r.2.mem ((c.tc : Thread Cert.PrepIdeal.nD Cert.PrepIdeal.τ).loc Cert.PrepIdeal.main_v95_4) = v4 c
          ∧ r.2.mem ((c.tc : Thread Cert.PrepIdeal.nD Cert.PrepIdeal.τ).loc Cert.PrepIdeal.main_v95_5) = v5 c
          ∧ r.2.mem ((c.tc : Thread Cert.PrepIdeal.nD Cert.PrepIdeal.τ).loc Cert.PrepIdeal.main_v95_6) = v6 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v107) = v0 c
          ∧ r.2.mem ((c.tc : Thread Cert.PrepRefIdeal.nD Cert.PrepRefIdeal.τ).loc Cert.PrepRefIdeal.main_v69) = v1 c
          ∧ r.2.mem ((c.tc : Thread Cert.PrepRefIdeal.nD Cert.PrepRefIdeal.τ).loc Cert.PrepRefIdeal.main_v108) = v2 c
          ∧ r.2.mem ((c.tc : Thread Cert.PrepRefIdeal.nD Cert.PrepRefIdeal.τ).loc Cert.PrepRefIdeal.main_v109) = v3 c
          ∧ r.2.mem ((c.tc : Thread Cert.PrepRefIdeal.nD Cert.PrepRefIdeal.τ).loc Cert.PrepRefIdeal.main_v110) = v4 c
          ∧ r.2.mem ((c.tc : Thread Cert.PrepRefIdeal.nD Cert.PrepRefIdeal.τ).loc Cert.PrepRefIdeal.main_v106) = v5 c
          ∧ r.2.mem ((c.tc : Thread Cert.PrepRefIdeal.nD Cert.PrepRefIdeal.τ).loc Cert.PrepRefIdeal.main_v111) = v6 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1))

def Claim : Prop :=
  ∃ (hDense : Cert.Dense.Facts) (hDenseIdeal : Cert.DenseIdeal.Facts) (hDenseRefIdeal : Cert.DenseRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutLn : Cert.OutLn.Facts) (hOutLnIdeal : Cert.OutLnIdeal.Facts) (hOutLnRefIdeal : Cert.OutLnRefIdeal.Facts) (hScores : Cert.Scores.Facts) (hScoresIdeal : Cert.ScoresIdeal.Facts) (hScoresRefIdeal : Cert.ScoresRefIdeal.Facts) (hResLn : Cert.ResLn.Facts) (hResLnIdeal : Cert.ResLnIdeal.Facts) (hResLnRefIdeal : Cert.ResLnRefIdeal.Facts) (hPrep : Cert.Prep.Facts) (hPrepIdeal : Cert.PrepIdeal.Facts) (hPrepRefIdeal : Cert.PrepRefIdeal.Facts) (hPrompt : Cert.Prompt.Facts) (hSample : Cert.Sample.Facts),
    quiescent_Dense (hDense := hDense)
    ∧ quiescent_DenseIdeal (hDenseIdeal := hDenseIdeal)
    ∧ quiescent_DenseRefIdeal (hDenseRefIdeal := hDenseRefIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_Scores (hScores := hScores)
    ∧ quiescent_ScoresIdeal (hScoresIdeal := hScoresIdeal)
    ∧ quiescent_ScoresRefIdeal (hScoresRefIdeal := hScoresRefIdeal)
    ∧ quiescent_ResLn (hResLn := hResLn)
    ∧ quiescent_ResLnIdeal (hResLnIdeal := hResLnIdeal)
    ∧ quiescent_ResLnRefIdeal (hResLnRefIdeal := hResLnRefIdeal)
    ∧ quiescent_Prep (hPrep := hPrep)
    ∧ quiescent_PrepIdeal (hPrepIdeal := hPrepIdeal)
    ∧ quiescent_PrepRefIdeal (hPrepRefIdeal := hPrepRefIdeal)
    ∧ quiescent_Prompt (hPrompt := hPrompt)
    ∧ quiescent_Sample (hSample := hSample)
    ∧ preserves_Dense_DenseIdeal
    ∧ algebraic_DenseIdeal_DenseRefIdeal (hDenseIdeal := hDenseIdeal) (hDenseRefIdeal := hDenseRefIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutLn_OutLnIdeal
    ∧ algebraic_OutLnIdeal_OutLnRefIdeal (hOutLnIdeal := hOutLnIdeal) (hOutLnRefIdeal := hOutLnRefIdeal)
    ∧ preserves_Scores_ScoresIdeal
    ∧ algebraic_ScoresIdeal_ScoresRefIdeal (hScoresIdeal := hScoresIdeal) (hScoresRefIdeal := hScoresRefIdeal)
    ∧ preserves_ResLn_ResLnIdeal
    ∧ algebraic_ResLnIdeal_ResLnRefIdeal (hResLnIdeal := hResLnIdeal) (hResLnRefIdeal := hResLnRefIdeal)
    ∧ preserves_Prep_PrepIdeal
    ∧ algebraic_PrepIdeal_PrepRefIdeal (hPrepIdeal := hPrepIdeal) (hPrepRefIdeal := hPrepRefIdeal)
-- ==== Dense.lean ====
abbrev S2048x10240 : Shape := ⟨2, ![2048, 10240]⟩
abbrev S16384x2048 : Shape := ⟨2, ![16384, 2048]⟩
abbrev S8x128x10240 : Shape := ⟨3, ![8, 128, 10240]⟩
abbrev S16x128x10240 : Shape := ⟨3, ![16, 128, 10240]⟩
abbrev S2048x16384 : Shape := ⟨2, ![2048, 16384]⟩
abbrev S8x2x128x10240 : Shape := ⟨4, ![8, 2, 128, 10240]⟩
abbrev S10240x2048 : Shape := ⟨2, ![10240, 2048]⟩
abbrev S2048x512 : Shape := ⟨2, ![2048, 512]⟩
abbrev S512x2048 : Shape := ⟨2, ![512, 2048]⟩
abbrev S8x128x512 : Shape := ⟨3, ![8, 128, 512]⟩
abbrev S8x1x128x512 : Shape := ⟨4, ![8, 1, 128, 512]⟩
abbrev S512x512 : Shape := ⟨2, ![512, 512]⟩
abbrev S128x256 : Shape := ⟨2, ![128, 256]⟩
abbrev S1x1x256 : Shape := ⟨3, ![1, 1, 256]⟩
abbrev S1x256 : Shape := ⟨2, ![1, 256]⟩
abbrev S1x1x128x256 : Shape := ⟨4, ![1, 1, 128, 256]⟩
abbrev S1x128x256 : Shape := ⟨3, ![1, 128, 256]⟩

abbrev nBuf : Space → Nat
  | .hbm => 12
  | .vmem => 19
  | .smem => 0
  | _ => 0

abbrev bufTy : (tb : Table) → Fin (tcTables nBuf tb) → BufTy
  | .hbm, ⟨0, _⟩ => ⟨S2048x10240, .bf16⟩
  | .hbm, ⟨1, _⟩ => ⟨S16384x2048, .f32⟩
  | .hbm, ⟨2, _⟩ => ⟨S16384x2048, .f32⟩
  | .hbm, ⟨3, _⟩ => ⟨S8x128x10240, .f32⟩
  | .hbm, ⟨4, _⟩ => ⟨S8x128x10240, .f32⟩
  | .hbm, ⟨5, _⟩ => ⟨S8x128x10240, .f32⟩
  | .hbm, ⟨6, _⟩ => ⟨S16x128x10240, .f32⟩
  | .hbm, ⟨7, _⟩ => ⟨S16384x2048, .bf16⟩
  | .hbm, ⟨8, _⟩ => ⟨S2048x16384, .f32⟩
  | .hbm, ⟨9, _⟩ => ⟨S2048x16384, .bf16⟩
  | .hbm, ⟨10, _⟩ => ⟨S8x2x128x10240, .f32⟩
  | .hbm, ⟨11, _⟩ => ⟨S10240x2048, .f32⟩
  | .local _ .vmem, ⟨0, _⟩ => ⟨S2048x512, .bf16⟩
  | .local _ .vmem, ⟨1, _⟩ => ⟨S2048x512, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S8x1x128x512, .f32⟩
  | .local _ .vmem, ⟨13, _⟩ => ⟨S8x1x128x512, .f32⟩
  | .local _ .vmem, ⟨14, _⟩ => ⟨S512x2048, .f32⟩
  | .local _ .vmem, ⟨15, _⟩ => ⟨S512x2048, .f32⟩
  | .local _ .vmem, ⟨16, _⟩ => ⟨S2048x512, .f32⟩
  | .local _ .vmem, ⟨17, _⟩ => ⟨S512x512, .f32⟩
  | .local _ .vmem, ⟨18, _⟩ => ⟨S512x512, .bf16⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![20, 32], ![false, false]⟩

@[reducible] def k0_t1_loop : Scf.Loop 32 :=
  let c0_i32_6 : BitVec 32 := 0#32
  let c2_i32 : BitVec 32 := 2#32
  let v10 : BitVec 32 := Scalar.addi c0_i32_6 c2_i32
  let c1_i32 : BitVec 32 := 1#32
  ⟨c0_i32_6, v10, c1_i32⟩
def k0_mult1 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  v23
def k0_off1 (i : grid0.Coords) (k0_t1 : Fin k0_t1_loop.trips) (c0_i32_18 : BitVec 32) : Fin 3 → Nat :=
  let c0_20 : Index := 0#32
  let arg1 : BitVec 32 := BitVec.ofNat 32 (i 1).val
  let c4_i32 : BitVec 32 := 4#32
  let v25 : BitVec 32 := Scalar.muli arg1 c4_i32
  let v26 : BitVec 32 := Scalar.addi v25 c0_i32_18
  let v28 : Index := Scalar.indexCast v26
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v29 : Index := Scalar.indexCast v24
  ![0, v28.toNat, v29.toNat]
def k0_off2 (k0_t1 : Fin k0_t1_loop.trips) : Fin 4 → Nat :=
  let c0_22 : Index := 0#32
  let c0_23 : Index := 0#32
  let c0_24 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v36 : Index := Scalar.indexCast v24
  ![0, 0, 0, v36.toNat]
def k0_off3 (k0_t1 : Fin k0_t1_loop.trips) : Fin 3 → Nat :=
  let c0_25 : Index := 0#32
  let c0_26 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v39 : Index := Scalar.indexCast v24
  ![0, 0, v39.toNat]
def k0_off4 (i : grid0.Coords) (k0_t1 : Fin k0_t1_loop.trips) (c0_i32_18 : BitVec 32) : Fin 3 → Nat :=
  let c1 : Index := 1#32
  let arg1 : BitVec 32 := BitVec.ofNat 32 (i 1).val
  let c4_i32 : BitVec 32 := 4#32
  let v25 : BitVec 32 := Scalar.muli arg1 c4_i32
  let v26 : BitVec 32 := Scalar.addi v25 c0_i32_18
  let v49 : Index := Scalar.indexCast v26
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v50 : Index := Scalar.indexCast v24
  ![1, v49.toNat, v50.toNat]
def k0_off5 (k0_t1 : Fin k0_t1_loop.trips) : Fin 4 → Nat :=
  let c1_29 : Index := 1#32
  let c0_30 : Index := 0#32
  let c0_31 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v57 : Index := Scalar.indexCast v24
  ![1, 0, 0, v57.toNat]
def k0_off6 (k0_t1 : Fin k0_t1_loop.trips) : Fin 3 → Nat :=
  let c1_32 : Index := 1#32
  let c0_33 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v60 : Index := Scalar.indexCast v24
  ![1, 0, v60.toNat]
def k0_off7 (i : grid0.Coords) (k0_t1 : Fin k0_t1_loop.trips) (c0_i32_18 : BitVec 32) : Fin 3 → Nat :=
  let c2 : Index := 2#32
  let arg1 : BitVec 32 := BitVec.ofNat 32 (i 1).val
  let c4_i32 : BitVec 32 := 4#32
  let v25 : BitVec 32 := Scalar.muli arg1 c4_i32
  let v26 : BitVec 32 := Scalar.addi v25 c0_i32_18
  let v70 : Index := Scalar.indexCast v26
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v71 : Index := Scalar.indexCast v24
  ![2, v70.toNat, v71.toNat]
def k0_off8 (k0_t1 : Fin k0_t1_loop.trips) : Fin 4 → Nat :=
  let c2_36 : Index := 2#32
  let c0_37 : Index := 0#32
  let c0_38 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v78 : Index := Scalar.indexCast v24
  ![2, 0, 0, v78.toNat]
def k0_off9 (k0_t1 : Fin k0_t1_loop.trips) : Fin 3 → Nat :=
  let c2_39 : Index := 2#32
  let c0_40 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v81 : Index := Scalar.indexCast v24
  ![2, 0, v81.toNat]
def k0_off10 (i : grid0.Coords) (k0_t1 : Fin k0_t1_loop.trips) (c0_i32_18 : BitVec 32) : Fin 3 → Nat :=
  let c3 : Index := 3#32
  let arg1 : BitVec 32 := BitVec.ofNat 32 (i 1).val
  let c4_i32 : BitVec 32 := 4#32
  let v25 : BitVec 32 := Scalar.muli arg1 c4_i32
  let v26 : BitVec 32 := Scalar.addi v25 c0_i32_18
  let v91 : Index := Scalar.indexCast v26
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v92 : Index := Scalar.indexCast v24
  ![3, v91.toNat, v92.toNat]
def k0_off11 (k0_t1 : Fin k0_t1_loop.trips) : Fin 4 → Nat :=
  let c3_43 : Index := 3#32
  let c0_44 : Index := 0#32
  let c0_45 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v99 : Index := Scalar.indexCast v24
  ![3, 0, 0, v99.toNat]
def k0_off12 (k0_t1 : Fin k0_t1_loop.trips) : Fin 3 → Nat :=
  let c3_46 : Index := 3#32
  let c0_47 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v102 : Index := Scalar.indexCast v24
  ![3, 0, v102.toNat]
def k0_off13 (i : grid0.Coords) (k0_t1 : Fin k0_t1_loop.trips) (c0_i32_18 : BitVec 32) : Fin 3 → Nat :=
  let c4 : Index := 4#32
  let arg1 : BitVec 32 := BitVec.ofNat 32 (i 1).val
  let c4_i32 : BitVec 32 := 4#32
  let v25 : BitVec 32 := Scalar.muli arg1 c4_i32
  let v26 : BitVec 32 := Scalar.addi v25 c0_i32_18
  let v112 : Index := Scalar.indexCast v26
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v113 : Index := Scalar.indexCast v24
  ![4, v112.toNat, v113.toNat]
def k0_off14 (k0_t1 : Fin k0_t1_loop.trips) : Fin 4 → Nat :=
  let c4_50 : Index := 4#32
  let c0_51 : Index := 0#32
  let c0_52 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v120 : Index := Scalar.indexCast v24
  ![4, 0, 0, v120.toNat]
def k0_off15 (k0_t1 : Fin k0_t1_loop.trips) : Fin 3 → Nat :=
  let c4_53 : Index := 4#32
  let c0_54 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v123 : Index := Scalar.indexCast v24
  ![4, 0, v123.toNat]
def k0_off16 (i : grid0.Coords) (k0_t1 : Fin k0_t1_loop.trips) (c0_i32_18 : BitVec 32) : Fin 3 → Nat :=
  let c5 : Index := 5#32
  let arg1 : BitVec 32 := BitVec.ofNat 32 (i 1).val
  let c4_i32 : BitVec 32 := 4#32
  let v25 : BitVec 32 := Scalar.muli arg1 c4_i32
  let v26 : BitVec 32 := Scalar.addi v25 c0_i32_18
  let v133 : Index := Scalar.indexCast v26
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v134 : Index := Scalar.indexCast v24
  ![5, v133.toNat, v134.toNat]
def k0_off17 (k0_t1 : Fin k0_t1_loop.trips) : Fin 4 → Nat :=
  let c5_57 : Index := 5#32
  let c0_58 : Index := 0#32
  let c0_59 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v141 : Index := Scalar.indexCast v24
  ![5, 0, 0, v141.toNat]
def k0_off18 (k0_t1 : Fin k0_t1_loop.trips) : Fin 3 → Nat :=
  let c5_60 : Index := 5#32
  let c0_61 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v144 : Index := Scalar.indexCast v24
  ![5, 0, v144.toNat]
def k0_off19 (i : grid0.Coords) (k0_t1 : Fin k0_t1_loop.trips) (c0_i32_18 : BitVec 32) : Fin 3 → Nat :=
  let c6 : Index := 6#32
  let arg1 : BitVec 32 := BitVec.ofNat 32 (i 1).val
  let c4_i32 : BitVec 32 := 4#32
  let v25 : BitVec 32 := Scalar.muli arg1 c4_i32
  let v26 : BitVec 32 := Scalar.addi v25 c0_i32_18
  let v154 : Index := Scalar.indexCast v26
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v155 : Index := Scalar.indexCast v24
  ![6, v154.toNat, v155.toNat]
def k0_off20 (k0_t1 : Fin k0_t1_loop.trips) : Fin 4 → Nat :=
  let c6_64 : Index := 6#32
  let c0_65 : Index := 0#32
  let c0_66 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v162 : Index := Scalar.indexCast v24
  ![6, 0, 0, v162.toNat]
def k0_off21 (k0_t1 : Fin k0_t1_loop.trips) : Fin 3 → Nat :=
  let c6_67 : Index := 6#32
  let c0_68 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v165 : Index := Scalar.indexCast v24
  ![6, 0, v165.toNat]
def k0_off22 (i : grid0.Coords) (k0_t1 : Fin k0_t1_loop.trips) (c0_i32_18 : BitVec 32) : Fin 3 → Nat :=
  let c7 : Index := 7#32
  let arg1 : BitVec 32 := BitVec.ofNat 32 (i 1).val
  let c4_i32 : BitVec 32 := 4#32
  let v25 : BitVec 32 := Scalar.muli arg1 c4_i32
  let v26 : BitVec 32 := Scalar.addi v25 c0_i32_18
  let v175 : Index := Scalar.indexCast v26
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v176 : Index := Scalar.indexCast v24
  ![7, v175.toNat, v176.toNat]
def k0_off23 (k0_t1 : Fin k0_t1_loop.trips) : Fin 4 → Nat :=
  let c7_71 : Index := 7#32
  let c0_72 : Index := 0#32
  let c0_73 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v183 : Index := Scalar.indexCast v24
  ![7, 0, 0, v183.toNat]
def k0_off24 (k0_t1 : Fin k0_t1_loop.trips) : Fin 3 → Nat :=
  let c7_74 : Index := 7#32
  let c0_75 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v186 : Index := Scalar.indexCast v24
  ![7, 0, v186.toNat]
def k0_off25 (k0_t1 : Fin k0_t1_loop.trips) : Fin 2 → Nat :=
  let c0_77 : Index := 0#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v196 : Index := Scalar.indexCast v24
  ![0, v196.toNat]
def k0_off26 (k0_t1 : Fin k0_t1_loop.trips) : Fin 2 → Nat :=
  let c128 : Index := 128#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v388 : Index := Scalar.indexCast v24
  ![128, v388.toNat]
def k0_off27 (k0_t1 : Fin k0_t1_loop.trips) : Fin 2 → Nat :=
  let c256 : Index := 256#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v580 : Index := Scalar.indexCast v24
  ![256, v580.toNat]
def k0_off28 (k0_t1 : Fin k0_t1_loop.trips) : Fin 2 → Nat :=
  let c384 : Index := 384#32
  let c0_i32_6 : BitVec 32 := 0#32
  let c1_i32 : BitVec 32 := 1#32
  let arg13 : BitVec 32 := Scf.iv c0_i32_6 c1_i32 k0_t1
  let c256_i32 : BitVec 32 := 256#32
  let v23 : BitVec 32 := Scalar.muli arg13 c256_i32
  let v24 : BitVec 32 := v23
  let v772 : Index := Scalar.indexCast v24
  ![384, v772.toNat]
def k0_cond2 (i : grid0.Coords) : BitVec 1 :=
  let arg1 : BitVec 32 := BitVec.ofNat 32 (i 1).val
  let c31_i32 : BitVec 32 := 31#32
  let v20 : BitVec 1 := Scalar.cmpi .eq arg1 c31_i32
  let v21 : BitVec 32 := Scalar.extui v20
  let c0_i32_17 : BitVec 32 := 0#32
  let v22 : BitVec 1 := Scalar.cmpi .ne v21 c0_i32_17
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DenseRefIdeal.lean ====
abbrev S2048x10240 : Shape := ⟨2, ![2048, 10240]⟩
abbrev S16384x2048 : Shape := ⟨2, ![16384, 2048]⟩
abbrev S8x128x10240 : Shape := ⟨3, ![8, 128, 10240]⟩
abbrev S16x128x10240 : Shape := ⟨3, ![16, 128, 10240]⟩
abbrev S10240x2048 : Shape := ⟨2, ![10240, 2048]⟩
abbrev S10240x16384 : Shape := ⟨2, ![10240, 16384]⟩
abbrev S8x2x128x10240 : Shape := ⟨4, ![8, 2, 128, 10240]⟩
abbrev S8x1x128x10240 : Shape := ⟨4, ![8, 1, 128, 10240]⟩
abbrev S8x128x1x10240 : Shape := ⟨4, ![8, 128, 1, 10240]⟩
abbrev S8x128x128x10240 : Shape := ⟨4, ![8, 128, 128, 10240]⟩
abbrev S_ : Shape := ⟨0, ![]⟩
abbrev S128x128x10240 : Shape := ⟨3, ![128, 128, 10240]⟩
abbrev S16384x10240 : Shape := ⟨2, ![16384, 10240]⟩

abbrev nBuf : Space → Nat
  | .hbm => 50
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S16384x2048, .f32⟩
  | .hbm, ⟨2, _⟩ => ⟨S16384x2048, .f32⟩
  | .hbm, ⟨3, _⟩ => ⟨S8x128x10240, .f32⟩
  | .hbm, ⟨4, _⟩ => ⟨S8x128x10240, .f32⟩
  | .hbm, ⟨5, _⟩ => ⟨S8x128x10240, .f32⟩
  | .hbm, ⟨6, _⟩ => ⟨S16x128x10240, .f32⟩
  | .hbm, ⟨7, _⟩ => ⟨S2048x10240, .f32⟩
  | .hbm, ⟨8, _⟩ => ⟨S10240x2048, .f32⟩
  | .hbm, ⟨9, _⟩ => ⟨S10240x16384, .f32⟩
  | .hbm, ⟨10, _⟩ => ⟨S8x2x128x10240, .f32⟩
  | .hbm, ⟨11, _⟩ => ⟨S8x1x128x10240, .f32⟩
  | .hbm, ⟨12, _⟩ => ⟨S8x128x10240, .f32⟩
  | .hbm, ⟨13, _⟩ => ⟨S8x1x128x10240, .f32⟩
  | .hbm, ⟨14, _⟩ => ⟨S8x128x1x10240, .f32⟩
  | .hbm, ⟨15, _⟩ => ⟨S8x128x128x10240, .f32⟩
  | .hbm, ⟨16, _⟩ => ⟨S8x128x128x10240, .f32⟩
  | .hbm, ⟨17, _⟩ => ⟨S8x128x128x10240, .i1⟩
  | .hbm, ⟨18, _⟩ => ⟨S8x128x1x10240, .f32⟩
  | .hbm, ⟨19, _⟩ => ⟨S8x1x128x10240, .f32⟩
  | .hbm, ⟨20, _⟩ => ⟨S8x128x128x10240, .f32⟩
  | .hbm, ⟨21, _⟩ => ⟨S8x128x128x10240, .f32⟩
  | .hbm, ⟨22, _⟩ => ⟨S8x128x128x10240, .f32⟩
  | .hbm, ⟨23, _⟩ => ⟨S_, .f32⟩
  | .hbm, ⟨24, _⟩ => ⟨S_, .f32⟩
  | .hbm, ⟨25, _⟩ => ⟨S8x128x128x10240, .f32⟩
  | .hbm, ⟨26, _⟩ => ⟨S8x128x128x10240, .f32⟩
  | .hbm, ⟨27, _⟩ => ⟨S_, .f32⟩
  | .hbm, ⟨28, _⟩ => ⟨S128x128x10240, .f32⟩
  | .hbm, ⟨29, _⟩ => ⟨S16384x10240, .f32⟩
  | .hbm, ⟨30, _⟩ => ⟨S10240x16384, .f32⟩
  | .hbm, ⟨31, _⟩ => ⟨S10240x16384, .f32⟩
  | .hbm, ⟨32, _⟩ => ⟨S10240x16384, .f32⟩
  | .hbm, ⟨33, _⟩ => ⟨S_, .f32⟩
  | .hbm, ⟨34, _⟩ => ⟨S10240x16384, .f32⟩
  | .hbm, ⟨35, _⟩ => ⟨S10240x16384, .f32⟩
  | .hbm, ⟨36, _⟩ => ⟨S10240x16384, .f32⟩
  | .hbm, ⟨37, _⟩ => ⟨S_, .f32⟩
  | .hbm, ⟨38, _⟩ => ⟨S10240x16384, .f32⟩
  | .hbm, ⟨39, _⟩ => ⟨S10240x16384, .f32⟩
  | .hbm, ⟨40, _⟩ => ⟨S10240x16384, .f32⟩
  | .hbm, ⟨41, _⟩ => ⟨S_, .f32⟩
  | .hbm, ⟨42, _⟩ => ⟨S10240x16384, .f32⟩
  | .hbm, ⟨43, _⟩ => ⟨S10240x16384, .f32⟩
  | .hbm, ⟨44, _⟩ => ⟨S_, .f32⟩
  | .hbm, ⟨45, _⟩ => ⟨S10240x16384, .f32⟩
  | .hbm, ⟨46, _⟩ => ⟨S10240x16384, .f32⟩
  | .hbm, ⟨47, _⟩ => ⟨S10240x16384, .f32⟩
  | .hbm, ⟨48, _⟩ => ⟨S10240x16384, .f32⟩
  | .hbm, ⟨49, _⟩ => ⟨S10240x2048, .f32⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== InProj.lean ====
abbrev S10240x2048 : Shape := ⟨2, ![10240, 2048]⟩
abbrev S2048x15432 : Shape := ⟨2, ![2048, 15432]⟩
abbrev S2048x72 : Shape := ⟨2, ![2048, 72]⟩
abbrev S_ : Shape := ⟨0, ![]⟩
abbrev S2048x128 : Shape := ⟨2, ![2048, 128]⟩
abbrev S2048x6144 : Shape := ⟨2, ![2048, 6144]⟩
abbrev S2048x9216 : Shape := ⟨2, ![2048, 9216]⟩
abbrev S2048x15488 : Shape := ⟨2, ![2048, 15488]⟩
abbrev S10240x15488 : Shape := ⟨2, ![10240, 15488]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 11
  | .vmem => 6
  | .smem => 0
  | _ => 0

abbrev bufTy : (tb : Table) → Fin (tcTables nBuf tb) → BufTy
  | .hbm, ⟨0, _⟩ => ⟨S10240x2048, .bf16⟩
  | .hbm, ⟨1, _⟩ => ⟨S2048x15432, .f32⟩
  | .hbm, ⟨2, _⟩ => ⟨S2048x72, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x6144, .f32⟩
  | .hbm, ⟨7, _⟩ => ⟨S2048x9216, .f32⟩
  | .hbm, ⟨8, _⟩ => ⟨S2048x15488, .f32⟩
  | .hbm, ⟨9, _⟩ => ⟨S2048x15488, .bf16⟩
  | .hbm, ⟨10, _⟩ => ⟨S10240x15488, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S10240x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S10240x2048 : Shape := ⟨2, ![10240, 2048]⟩
abbrev S2048x15432 : Shape := ⟨2, ![2048, 15432]⟩
abbrev S10240x15432 : Shape := ⟨2, ![10240, 15432]⟩
abbrev S10240x1024 : Shape := ⟨2, ![10240, 1024]⟩
abbrev S10240x256 : Shape := ⟨2, ![10240, 256]⟩
abbrev S10240x512 : Shape := ⟨2, ![10240, 512]⟩
abbrev S10240x64 : Shape := ⟨2, ![10240, 64]⟩
abbrev S10240x8 : Shape := ⟨2, ![10240, 8]⟩
abbrev S10240x8192 : Shape := ⟨2, ![10240, 8192]⟩
abbrev S_ : Shape := ⟨0, ![]⟩
abbrev S10240x56 : Shape := ⟨2, ![10240, 56]⟩
abbrev S10240x15488 : Shape := ⟨2, ![10240, 15488]⟩

abbrev nBuf : Space → Nat
  | .hbm => 18
  | .vmem => 0
  | .smem => 0
  | _ => 0

abbrev bufTy : (tb : Table) → Fin (tcTables nBuf tb) → BufTy
  | .hbm, ⟨0, _⟩ => ⟨S10240x2048, .bf16⟩
  | .hbm, ⟨1, _⟩ => ⟨S2048x15432, .f32⟩
  | .hbm, ⟨2, _⟩ => ⟨S10240x2048, .f32⟩
  | .hbm, ⟨3, _⟩ => ⟨S10240x15432, .f32⟩
  | .hbm, ⟨4, _⟩ => ⟨S10240x1024, .f32⟩
  | .hbm, ⟨5, _⟩ => ⟨S10240x1024, .f32⟩
  | .hbm, ⟨6, _⟩ => ⟨S10240x2048, .f32⟩
  | .hbm, ⟨7, _⟩ => ⟨S10240x1024, .f32⟩
  | .hbm, ⟨8, _⟩ => ⟨S10240x256, .f32⟩
  | .hbm, ⟨9, _⟩ => ⟨S10240x256, .f32⟩
  | .hbm, ⟨10, _⟩ => ⟨S10240x512, .f32⟩
  | .hbm, ⟨11, _⟩ => ⟨S10240x64, .f32⟩
  | .hbm, ⟨12, _⟩ => ⟨S10240x8, .f32⟩
  | .hbm, ⟨13, _⟩ => ⟨S10240x1024, .f32⟩
  | .hbm, ⟨14, _⟩ => ⟨S10240x8192, .f32⟩
  | .hbm, ⟨15, _⟩ => ⟨S_, .f32⟩
  | .hbm, ⟨16, _⟩ => ⟨S10240x56, .f32⟩
  | .hbm, ⟨17, _⟩ => ⟨S10240x15488, .f32⟩
  | _, _ => ⟨S10240x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Merge.lean ====
abbrev S10240x1024 : Shape := ⟨2, ![10240, 1024]⟩
abbrev S4x1024x2048 : Shape := ⟨3, ![4, 1024, 2048]⟩
abbrev S10240x15488 : Shape := ⟨2, ![10240, 15488]⟩
abbrev S10240x2048 : Shape := ⟨2, ![10240, 2048]⟩
abbrev S512x1024 : Shape := ⟨2, ![512, 1024]⟩
abbrev S4x1024x512 : Shape := ⟨3, ![4, 1024, 512]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 8
  | .vmem => 20
  | .smem => 0
  | _ => 0

abbrev bufTy : (tb : Table) → Fin (tcTables nBuf tb) → BufTy
  | .hbm, ⟨0, _⟩ => ⟨S10240x1024, .bf16⟩
  | .hbm, ⟨1, _⟩ => ⟨S10240x1024, .bf16⟩
  | .hbm, ⟨2, _⟩ => ⟨S10240x1024, .bf16⟩
  | .hbm, ⟨3, _⟩ => ⟨S10240x1024, .bf16⟩
  | .hbm, ⟨4, _⟩ => ⟨S4x1024x2048, .f32⟩
  | .hbm, ⟨5, _⟩ => ⟨S10240x15488, .f32⟩
  | .hbm, ⟨6, _⟩ => ⟨S4x1024x2048, .bf16⟩
  | .hbm, ⟨7, _⟩ => ⟨S10240x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S4x1024x512, .bf16⟩
  | .local _ .vmem, ⟨9, _⟩ => ⟨S4x1024x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | _, _ => ⟨S10240x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![20, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S10240x1024 : Shape := ⟨2, ![10240, 1024]⟩
abbrev S4x1024x2048 : Shape := ⟨3, ![4, 1024, 2048]⟩
abbrev S10240x15488 : Shape := ⟨2, ![10240, 15488]⟩
abbrev S10240x1x1024 : Shape := ⟨3, ![10240, 1, 1024]⟩
abbrev S10240x4x1024 : Shape := ⟨3, ![10240, 4, 1024]⟩
abbrev S4x2048x10240 : Shape := ⟨3, ![4, 2048, 10240]⟩
abbrev S10240x4x2048 : Shape := ⟨3, ![10240, 4, 2048]⟩
abbrev S10240x8192 : Shape := ⟨2, ![10240, 8192]⟩
abbrev S_ : Shape := ⟨0, ![]⟩
abbrev S10240x2048 : Shape := ⟨2, ![10240, 2048]⟩

abbrev nBuf : Space → Nat
  | .hbm => 31
  | .vmem => 0
  | .smem => 0
  | _ => 0

abbrev bufTy : (tb : Table) → Fin (tcTables nBuf tb) → BufTy
  | .hbm, ⟨0, _⟩ => ⟨S10240x1024, .bf16⟩
  | .hbm, ⟨1, _⟩ => ⟨S10240x1024, .bf16⟩
  | .hbm, ⟨2, _⟩ => ⟨S10240x1024, .bf16⟩
  | .hbm, ⟨3, _⟩ => ⟨S10240x1024, .bf16⟩
  | .hbm, ⟨4, _⟩ => ⟨S4x1024x2048, .f32⟩
  | .hbm, ⟨5, _⟩ => ⟨S10240x15488, .f32⟩
  | .hbm, ⟨6, _⟩ => ⟨S10240x1024, .f32⟩
  | .hbm, ⟨7, _⟩ => ⟨S10240x1024, .f32⟩
  | .hbm, ⟨8, _⟩ => ⟨S10240x1024, .f32⟩
  | .hbm, ⟨9, _⟩ => ⟨S10240x1024, .f32⟩
  | .hbm, ⟨10, _⟩ => ⟨S10240x1x1024, .f32⟩
  | .hbm, ⟨11, _⟩ => ⟨S10240x1x1024, .f32⟩
  | .hbm, ⟨12, _⟩ => ⟨S10240x1x1024, .f32⟩
  | .hbm, ⟨13, _⟩ => ⟨S10240x1x1024, .f32⟩
  | .hbm, ⟨14, _⟩ => ⟨S10240x4x1024, .f32⟩
  | .hbm, ⟨15, _⟩ => ⟨S4x2048x10240, .f32⟩
  | .hbm, ⟨16, _⟩ => ⟨S10240x4x2048, .f32⟩
  | .hbm, ⟨17, _⟩ => ⟨S10240x8192, .f32⟩
  | .hbm, ⟨18, _⟩ => ⟨S10240x4x2048, .f32⟩
  | .hbm, ⟨19, _⟩ => ⟨S10240x4x2048, .f32⟩
  | .hbm, ⟨20, _⟩ => ⟨S10240x4x2048, .f32⟩
  | .hbm, ⟨21, _⟩ => ⟨S_, .f32⟩
  | .hbm, ⟨22, _⟩ => ⟨S10240x4x2048, .f32⟩
  | .hbm, ⟨23, _⟩ => ⟨S10240x4x2048, .f32⟩
  | .hbm, ⟨24, _⟩ => ⟨S_, .f32⟩
  | .hbm, ⟨25, _⟩ => ⟨S10240x4x2048, .f32⟩
  | .hbm, ⟨26, _⟩ => ⟨S10240x4x2048, .f32⟩
  | .hbm, ⟨27, _⟩ => ⟨S10240x4x2048, .f32⟩
  | .hbm, ⟨28, _⟩ => ⟨S_, .f32⟩
  | .hbm, ⟨29, _⟩ => ⟨S10240x2048, .f32⟩
  | .hbm, ⟨30, _⟩ => ⟨S10240x2048, .bf16⟩
  | _, _ => ⟨S10240x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OutLn.lean ====
abbrev S10240x2048 : Shape := ⟨2, ![10240, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S10240x2048, .f32⟩
  | .hbm, ⟨1, _⟩ => ⟨S10240x2048, .bf16⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S10240x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutLnRefIdeal.lean ====
abbrev S10240x2048 : Shape := ⟨2, ![10240, 2048]⟩
abbrev S2048x2048 : Shape := ⟨2, ![2048, 2048]⟩
abbrev S2048 : Shape := ⟨1, ![2048]⟩
abbrev S_ : Shape := ⟨0, ![]⟩
abbrev S10240 : Shape := ⟨1, ![10240]⟩
abbrev S10240x1 : Shape := ⟨2, ![10240, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S10240x2048, .bf16⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S10240x2048, .f32⟩
  | .hbm, ⟨7, _⟩ => ⟨S10240x2048, .f32⟩
  | .hbm, ⟨8, _⟩ => ⟨S10240x2048, .f32⟩
  | .hbm, ⟨9, _⟩ => ⟨S10240x2048, .f32⟩
  | .hbm, ⟨10, _⟩ => ⟨S10240x2048, .f32⟩
  | .hbm, ⟨11, _⟩ => ⟨S_, .f32⟩
  | .hbm, ⟨12, _⟩ => ⟨S10240, .f32⟩
  | .hbm, ⟨13, _⟩ => ⟨S10240x1, .f32⟩
  | .hbm, ⟨14, _⟩ => ⟨S_, .f32⟩
  | .hbm, ⟨15, _⟩ => ⟨S10240x1, .f32⟩
  | .hbm, ⟨16, _⟩ => ⟨S10240x1, .f32⟩
  | .hbm, ⟨17, _⟩ => ⟨S10240x2048, .f32⟩
  | .hbm, ⟨18, _⟩ => ⟨S10240x2048, .f32⟩
  | .hbm, ⟨19, _⟩ => ⟨S10240x2048, .f32⟩
  | .hbm, ⟨20, _⟩ => ⟨S_, .f32⟩
  | .hbm, ⟨21, _⟩ => ⟨S10240, .f32⟩
  | .hbm, ⟨22, _⟩ => ⟨S10240x1, .f32⟩
  | .hbm, ⟨23, _⟩ => ⟨S_, .f32⟩
  | .hbm, ⟨24, _⟩ => ⟨S10240x1, .f32⟩
  | .hbm, ⟨25, _⟩ => ⟨S10240x1, .f32⟩
  | .hbm, ⟨26, _⟩ => ⟨S10240x2048, .f32⟩
  | .hbm, ⟨27, _⟩ => ⟨S10240x2048, .f32⟩
  | .hbm, ⟨28, _⟩ => ⟨S_, .f32⟩
  | .hbm, ⟨29, _⟩ => ⟨S10240x1, .f32⟩
  | .hbm, ⟨30, _⟩ => ⟨S10240x1, .f32⟩
  | .hbm, ⟨31, _⟩ => ⟨S10240x1, .f32⟩
  | .hbm, ⟨32, _⟩ => ⟨S10240x2048, .f32⟩
  | .hbm, ⟨33, _⟩ => ⟨S10240x2048, .f32⟩
  | .hbm, ⟨34, _⟩ => ⟨S1x2048, .f32⟩
  | .hbm, ⟨35, _⟩ => ⟨S10240x2048, .f32⟩
  | .hbm, ⟨36, _⟩ => ⟨S10240x2048, .f32⟩
  | .hbm, ⟨37, _⟩ => ⟨S1x2048, .f32⟩
  | .hbm, ⟨38, _⟩ => ⟨S10240x2048, .f32⟩
  | .hbm, ⟨39, _⟩ => ⟨S10240x2048, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Scores.lean ====
abbrev S10240x2048 : Shape := ⟨2, ![10240, 2048]⟩
abbrev S2048x2048 : Shape := ⟨2, ![2048, 2048]⟩
abbrev S8x2x128x128 : Shape := ⟨4, ![8, 2, 128, 128]⟩
abbrev S16x128x128 : Shape := ⟨3, ![16, 128, 128]⟩
abbrev S16x128x10240 : Shape := ⟨3, ![16, 128, 10240]⟩
abbrev S2048x10240 : Shape := ⟨2, ![2048, 10240]⟩
abbrev S512x2048 : Shape := ⟨2, ![512, 2048]⟩
abbrev S16x128x512 : Shape := ⟨3, ![16, 128, 512]⟩
abbrev S2048x512 : Shape := ⟨2, ![2048, 512]⟩
abbrev S512x128 : Shape := ⟨2, ![512, 128]⟩
abbrev S1x128x128 : Shape := ⟨3, ![1, 128, 128]⟩
abbrev S128x128 : Shape := ⟨2, ![128, 128]⟩
abbrev S128x512 : Shape := ⟨2, ![128, 512]⟩
abbrev S1x128x512 : Shape := ⟨3, ![1, 128, 512]⟩

abbrev nBuf : Space → Nat
  | .hbm => 8
  | .vmem => 8
  | .smem => 0
  | _ => 0

abbrev bufTy : (tb : Table) → Fin (tcTables nBuf tb) → BufTy
  | .hbm, ⟨0, _⟩ => ⟨S10240x2048, .f32⟩
  | .hbm, ⟨1, _⟩ => ⟨S2048x2048, .f32⟩
  | .hbm, ⟨2, _⟩ => ⟨S8x2x128x128, .f32⟩
  | .hbm, ⟨3, _⟩ => ⟨S16x128x128, .f32⟩
  | .hbm, ⟨4, _⟩ => ⟨S16x128x128, .bf16⟩
  | .hbm, ⟨5, _⟩ => ⟨S2048x2048, .bf16⟩
  | .hbm, ⟨6, _⟩ => ⟨S16x128x10240, .f32⟩
  | .hbm, ⟨7, _⟩ => ⟨S2048x10240, .bf16⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S16x128x128, .bf16⟩
  | .local _ .vmem, ⟨4, _⟩ => ⟨S16x128x512, .f32⟩
  | .local _ .vmem, ⟨5, _⟩ => ⟨S16x128x512, .f32⟩
  | .local _ .vmem, ⟨6, _⟩ => ⟨S2048x512, .bf16⟩
  | .local _ .vmem, ⟨7, _⟩ => ⟨S2048x512, .bf16⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ScoresRefIdeal.lean ====
abbrev S10240x2048 : Shape := ⟨2, ![10240, 2048]⟩
abbrev S2048x2048 : Shape := ⟨2, ![2048, 2048]⟩
abbrev S8x2x128x128 : Shape := ⟨4, ![8, 2, 128, 128]⟩
abbrev S10240x8x2x128 : Shape := ⟨4, ![10240, 8, 2, 128]⟩
abbrev S8x2x128x10240 : Shape := ⟨4, ![8, 2, 128, 10240]⟩
abbrev S16x128x10240 : Shape := ⟨3, ![16, 128, 10240]⟩
abbrev S2048x10240 : Shape := ⟨2, ![2048, 10240]⟩

abbrev nBuf : Space → Nat
  | .hbm => 11
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S2048x2048, .f32⟩
  | .hbm, ⟨2, _⟩ => ⟨S8x2x128x128, .f32⟩
  | .hbm, ⟨3, _⟩ => ⟨S10240x2048, .f32⟩
  | .hbm, ⟨4, _⟩ => ⟨S10240x8x2x128, .f32⟩
  | .hbm, ⟨5, _⟩ => ⟨S8x2x128x10240, .f32⟩
  | .hbm, ⟨6, _⟩ => ⟨S10240x8x2x128, .f32⟩
  | .hbm, ⟨7, _⟩ => ⟨S8x2x128x10240, .f32⟩
  | .hbm, ⟨8, _⟩ => ⟨S16x128x10240, .f32⟩
  | .hbm, ⟨9, _⟩ => ⟨S2048x10240, .f32⟩
  | .hbm, ⟨10, _⟩ => ⟨S2048x10240, .bf16⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ResLn.lean ====
abbrev S10240x2048 : Shape := ⟨2, ![10240, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S10240x2048, .f32⟩
  | .hbm, ⟨1, _⟩ => ⟨S10240x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S10240x2048, .f32⟩
  | .hbm, ⟨7, _⟩ => ⟨S10240x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResLnRefIdeal.lean ====
abbrev S10240x2048 : Shape := ⟨2, ![10240, 2048]⟩
abbrev S2048 : Shape := ⟨1, ![2048]⟩
abbrev S_ : Shape := ⟨0, ![]⟩
abbrev S10240 : Shape := ⟨1, ![10240]⟩
abbrev S10240x1 : Shape := ⟨2, ![10240, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S10240x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S10240x2048, .f32⟩
  | .hbm, ⟨6, _⟩ => ⟨S10240x2048, .f32⟩
  | .hbm, ⟨7, _⟩ => ⟨S10240x2048, .f32⟩
  | .hbm, ⟨8, _⟩ => ⟨S_, .f32⟩
  | .hbm, ⟨9, _⟩ => ⟨S10240, .f32⟩
  | .hbm, ⟨10, _⟩ => ⟨S10240x1, .f32⟩
  | .hbm, ⟨11, _⟩ => ⟨S_, .f32⟩
  | .hbm, ⟨12, _⟩ => ⟨S10240x1, .f32⟩
  | .hbm, ⟨13, _⟩ => ⟨S10240x1, .f32⟩
  | .hbm, ⟨14, _⟩ => ⟨S10240x2048, .f32⟩
  | .hbm, ⟨15, _⟩ => ⟨S10240x2048, .f32⟩
  | .hbm, ⟨16, _⟩ => ⟨S10240x2048, .f32⟩
  | .hbm, ⟨17, _⟩ => ⟨S_, .f32⟩
  | .hbm, ⟨18, _⟩ => ⟨S10240, .f32⟩
  | .hbm, ⟨19, _⟩ => ⟨S10240x1, .f32⟩
  | .hbm, ⟨20, _⟩ => ⟨S_, .f32⟩
  | .hbm, ⟨21, _⟩ => ⟨S10240x1, .f32⟩
  | .hbm, ⟨22, _⟩ => ⟨S10240x1, .f32⟩
  | .hbm, ⟨23, _⟩ => ⟨S10240x2048, .f32⟩
  | .hbm, ⟨24, _⟩ => ⟨S10240x2048, .f32⟩
  | .hbm, ⟨25, _⟩ => ⟨S_, .f32⟩
  | .hbm, ⟨26, _⟩ => ⟨S10240x1, .f32⟩
  | .hbm, ⟨27, _⟩ => ⟨S10240x1, .f32⟩
  | .hbm, ⟨28, _⟩ => ⟨S10240x1, .f32⟩
  | .hbm, ⟨29, _⟩ => ⟨S10240x2048, .f32⟩
  | .hbm, ⟨30, _⟩ => ⟨S10240x2048, .f32⟩
  | .hbm, ⟨31, _⟩ => ⟨S1x2048, .f32⟩
  | .hbm, ⟨32, _⟩ => ⟨S10240x2048, .f32⟩
  | .hbm, ⟨33, _⟩ => ⟨S10240x2048, .f32⟩
  | .hbm, ⟨34, _⟩ => ⟨S1x2048, .f32⟩
  | .hbm, ⟨35, _⟩ => ⟨S10240x2048, .f32⟩
  | .hbm, ⟨36, _⟩ => ⟨S10240x2048, .f32⟩
  | .hbm, ⟨37, _⟩ => ⟨S10240x2048, .bf16⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Prep.lean ====
abbrev S10240x15488 : Shape := ⟨2, ![10240, 15488]⟩
abbrev S10240 : Shape := ⟨1, ![10240]⟩
abbrev S10240x1 : Shape := ⟨2, ![10240, 1]⟩
abbrev S16 : Shape := ⟨1, ![16]⟩
abbrev S_ : Shape := ⟨0, ![]⟩
abbrev S1x16 : Shape := ⟨2, ![1, 16]⟩
abbrev S10240x16 : Shape := ⟨2, ![10240, 16]⟩
abbrev S10240x96 : Shape := ⟨2, ![10240, 96]⟩
abbrev S10240x128 : Shape := ⟨2, ![10240, 128]⟩
abbrev S1x10240x1x128 : Shape := ⟨4, ![1, 10240, 1, 128]⟩
abbrev S128 : Shape := ⟨1, ![128]⟩
abbrev S1x128 : Shape := ⟨2, ![1, 128]⟩
abbrev S8 : Shape := ⟨1, ![8]⟩
abbrev S1x8 : Shape := ⟨2, ![1, 8]⟩
abbrev S10240x8 : Shape := ⟨2, ![10240, 8]⟩
abbrev S10240x48 : Shape := ⟨2, ![10240, 48]⟩
abbrev S10240x64 : Shape := ⟨2, ![10240, 64]⟩
abbrev S1x10240x1x64 : Shape := ⟨4, ![1, 10240, 1, 64]⟩
abbrev S1x10240x2x64 : Shape := ⟨4, ![1, 10240, 2, 64]⟩
abbrev S10240x1024 : Shape := ⟨2, ![10240, 1024]⟩
abbrev S10240x256 : Shape := ⟨2, ![10240, 256]⟩
abbrev S10240x512 : Shape := ⟨2, ![10240, 512]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩

abbrev nBuf : Space → Nat
  | .hbm => 146
  | .vmem => 36
  | .smem => 0
  | _ => 0

abbrev hbmTy0_0 (i : Nat) : BufTy := match i % 128 with
  | 0 => ⟨S10240x15488, .f32⟩
  | 1 => ⟨S10240, .i32⟩
  | 2 => ⟨S10240, .f32⟩
  | 3 => ⟨S10240x1, .f32⟩
  | 4 => ⟨S16, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S1x16, .f32⟩
  | 13 => ⟨S10240x16, .f32⟩
  | 14 => ⟨S10240x16, .f32⟩
  | 15 => ⟨S10240x16, .f32⟩
  | 16 => ⟨S10240x16, .f32⟩
  | 17 => ⟨S10240x16, .f32⟩
  | 18 => ⟨S_, .f32⟩
  | 19 => ⟨S10240x96, .f32⟩
  | 20 => ⟨S10240x128, .f32⟩
  | 21 => ⟨S10240x16, .f32⟩
  | 22 => ⟨S_, .f32⟩
  | 23 => ⟨S10240x96, .f32⟩
  | 24 => ⟨S10240x128, .f32⟩
  | 25 => ⟨S1x10240x1x128, .f32⟩
  | 26 => ⟨S1x10240x1x128, .f32⟩
  | 27 => ⟨S10240x128, .f32⟩
  | 28 => ⟨S1x10240x1x128, .f32⟩
  | 29 => ⟨S1x10240x1x128, .f32⟩
  | 30 => ⟨S10240x128, .f32⟩
  | 31 => ⟨S128, .i32⟩
  | 32 => ⟨S1x128, .i32⟩
  | 33 => ⟨S_, .i32⟩
  | 34 => ⟨S1x128, .i32⟩
  | 35 => ⟨S1x128, .i1⟩
  | 36 => ⟨S_, .f32⟩
  | 37 => ⟨S_, .f32⟩
  | 38 => ⟨S10240x128, .i1⟩
  | 39 => ⟨S10240x128, .f32⟩
  | 40 => ⟨S10240x128, .f32⟩
  | 41 => ⟨S_, .i32⟩
  | 42 => ⟨S1x128, .i32⟩
  | 43 => ⟨S1x128, .i1⟩
  | 44 => ⟨S_, .f32⟩
  | 45 => ⟨S_, .f32⟩
  | 46 => ⟨S10240x128, .i1⟩
  | 47 => ⟨S10240x128, .f32⟩
  | 48 => ⟨S10240x128, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S1x8, .f32⟩
  | 58 => ⟨S10240x8, .f32⟩
  | 59 => ⟨S10240x8, .f32⟩
  | 60 => ⟨S10240x8, .f32⟩
  | 61 => ⟨S10240x8, .f32⟩
  | 62 => ⟨S10240x8, .f32⟩
  | 63 => ⟨S_, .f32⟩
  | 64 => ⟨S10240x48, .f32⟩
  | 65 => ⟨S10240x64, .f32⟩
  | 66 => ⟨S10240x8, .f32⟩
  | 67 => ⟨S_, .f32⟩
  | 68 => ⟨S10240x48, .f32⟩
  | 69 => ⟨S10240x64, .f32⟩
  | 70 => ⟨S1x10240x1x64, .f32⟩
  | 71 => ⟨S1x10240x2x64, .f32⟩
  | 72 => ⟨S10240x128, .f32⟩
  | 73 => ⟨S1x10240x1x64, .f32⟩
  | 74 => ⟨S1x10240x2x64, .f32⟩
  | 75 => ⟨S10240x128, .f32⟩
  | 76 => ⟨S128, .i32⟩
  | 77 => ⟨S1x128, .i32⟩
  | 78 => ⟨S_, .i32⟩
  | 79 => ⟨S1x128, .i32⟩
  | 80 => ⟨S1x128, .i1⟩
  | 81 => ⟨S_, .f32⟩
  | 82 => ⟨S_, .f32⟩
  | 83 => ⟨S10240x128, .i1⟩
  | 84 => ⟨S10240x128, .f32⟩
  | 85 => ⟨S10240x128, .f32⟩
  | 86 => ⟨S_, .i32⟩
  | 87 => ⟨S1x128, .i32⟩
  | 88 => ⟨S1x128, .i1⟩
  | 89 => ⟨S_, .f32⟩
  | 90 => ⟨S_, .f32⟩
  | 91 => ⟨S10240x128, .i1⟩
  | 92 => ⟨S10240x128, .f32⟩
  | 93 => ⟨S10240x128, .f32⟩
  | 94 => ⟨S8, .f32⟩
  | 95 => ⟨S8, .f32⟩
  | 96 => ⟨S_, .f32⟩
  | 97 => ⟨S8, .f32⟩
  | 98 => ⟨S8, .f32⟩
  | 99 => ⟨S_, .f32⟩
  | 100 => ⟨S8, .f32⟩
  | 101 => ⟨S8, .f32⟩
  | 102 => ⟨S1x8, .f32⟩
  | 103 => ⟨S10240x8, .f32⟩
  | 104 => ⟨S10240x8, .f32⟩
  | 105 => ⟨S10240x8, .f32⟩
  | 106 => ⟨S10240x8, .f32⟩
  | 107 => ⟨S10240x8, .f32⟩
  | 108 => ⟨S_, .f32⟩
  | 109 => ⟨S10240x48, .f32⟩
  | 110 => ⟨S10240x64, .f32⟩
  | 111 => ⟨S10240x8, .f32⟩
  | 112 => ⟨S_, .f32⟩
  | 113 => ⟨S10240x48, .f32⟩
  | 114 => ⟨S10240x64, .f32⟩
  | 115 => ⟨S1x10240x1x64, .f32⟩
  | 116 => ⟨S1x10240x2x64, .f32⟩
  | 117 => ⟨S10240x128, .f32⟩
  | 118 => ⟨S1x10240x1x64, .f32⟩
  | 119 => ⟨S1x10240x2x64, .f32⟩
  | 120 => ⟨S10240x128, .f32⟩
  | 121 => ⟨S128, .i32⟩
  | 122 => ⟨S1x128, .i32⟩
  | 123 => ⟨S_, .i32⟩
  | 124 => ⟨S1x128, .i32⟩
  | 125 => ⟨S1x128, .i1⟩
  | 126 => ⟨S_, .f32⟩
  | 127 => ⟨S_, .f32⟩
  | _ => ⟨S10240x15488, .f32⟩

abbrev hbmTy0_1 (i : Nat) : BufTy := match i % 128 with
  | 0 => ⟨S10240x128, .i1⟩
  | 1 => ⟨S10240x128, .f32⟩
  | 2 => ⟨S10240x128, .f32⟩
  | 3 => ⟨S_, .i32⟩
  | 4 => ⟨S1x128, .i32⟩
  | 5 => ⟨S1x128, .i1⟩
  | 6 => ⟨S_, .f32⟩
  | 7 => ⟨S_, .f32⟩
  | 8 => ⟨S10240x128, .i1⟩
  | 9 => ⟨S10240x128, .f32⟩
  | 10 => ⟨S10240x128, .f32⟩
  | 11 => ⟨S10240x1024, .bf16⟩
  | 12 => ⟨S10240x256, .f32⟩
  | 13 => ⟨S10240x256, .bf16⟩
  | 14 => ⟨S10240x256, .bf16⟩
  | 15 => ⟨S10240x512, .bf16⟩
  | 16 => ⟨S10240x128, .f32⟩
  | 17 => ⟨S10240x128, .bf16⟩
  | _ => ⟨S10240x15488, .f32⟩

abbrev hbmTy (i : Nat) : BufTy := match i / 128 with
  | 0 => hbmTy0_0 i
  | 1 => hbmTy0_1 i
  | _ => ⟨S10240x15488, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x1024, .bf16⟩
  | .local _ .vmem, ⟨23, _⟩ => ⟨S512x1024, .bf16⟩
  | .local _ .vmem, ⟨24, _⟩ => ⟨S512x256, .f32⟩
  | .local _ .vmem, ⟨25, _⟩ => ⟨S512x256, .f32⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x512, .bf16⟩
  | .local _ .vmem, ⟨31, _⟩ => ⟨S512x512, .bf16⟩
  | .local _ .vmem, ⟨32, _⟩ => ⟨S512x128, .f32⟩
  | .local _ .vmem, ⟨33, _⟩ => ⟨S512x128, .f32⟩
  | .local _ .vmem, ⟨34, _⟩ => ⟨S512x128, .bf16⟩
  | .local _ .vmem, ⟨35, _⟩ => ⟨S512x128, .bf16⟩
  | _, _ => ⟨S10240x15488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_18 : Ref sig .tc := ⟨.hbm, 123, rfl⟩
abbrev main_v89 : Ref sig .tc := ⟨.hbm, 124, rfl⟩
abbrev main_v90 : Ref sig .tc := ⟨.hbm, 125, rfl⟩
abbrev main_cst_19 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_v91 : Ref sig .tc := ⟨.hbm, 130, rfl⟩
abbrev main_c_20 : Ref sig .tc := ⟨.hbm, 131, rfl⟩
abbrev main_v92 : Ref sig .tc := ⟨.hbm, 132, rfl⟩
abbrev main_v93 : Ref sig .tc := ⟨.hbm, 133, rfl⟩
abbrev main_cst_21 : Ref sig .tc := ⟨.hbm, 134, rfl⟩
abbrev main_call5_v0 : Ref sig .tc := ⟨.hbm, 135, rfl⟩
abbrev main_call5_v1 : Ref sig .tc := ⟨.hbm, 136, rfl⟩
abbrev main_call5_v2 : Ref sig .tc := ⟨.hbm, 137, rfl⟩
abbrev main_v94 : Ref sig .tc := ⟨.hbm, 138, rfl⟩
abbrev main_v95_0 : Ref sig .tc := ⟨.hbm, 139, rfl⟩
abbrev main_v95_1 : Ref sig .tc := ⟨.hbm, 140, rfl⟩
abbrev main_v95_2 : Ref sig .tc := ⟨.hbm, 141, rfl⟩
abbrev main_v95_3 : Ref sig .tc := ⟨.hbm, 142, rfl⟩
abbrev main_v95_4 : Ref sig .tc := ⟨.hbm, 143, rfl⟩
abbrev main_v95_5 : Ref sig .tc := ⟨.hbm, 144, rfl⟩
abbrev main_v95_6 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_2 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c120_i32 : BitVec 32 := 120#32
  let c0_i32 : BitVec 32 := 0#32
  ![arg0.toNat, c120_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PrepRefIdeal.lean ====
abbrev S10240x15488 : Shape := ⟨2, ![10240, 15488]⟩
abbrev S10240 : Shape := ⟨1, ![10240]⟩
abbrev S10240x1 : Shape := ⟨2, ![10240, 1]⟩
abbrev S16 : Shape := ⟨1, ![16]⟩
abbrev S_ : Shape := ⟨0, ![]⟩
abbrev S1x16 : Shape := ⟨2, ![1, 16]⟩
abbrev S10240x16 : Shape := ⟨2, ![10240, 16]⟩
abbrev S8 : Shape := ⟨1, ![8]⟩
abbrev S1x8 : Shape := ⟨2, ![1, 8]⟩
abbrev S10240x8 : Shape := ⟨2, ![10240, 8]⟩
abbrev S10240x1024 : Shape := ⟨2, ![10240, 1024]⟩
abbrev S10240x256 : Shape := ⟨2, ![10240, 256]⟩
abbrev S10240x512 : Shape := ⟨2, ![10240, 512]⟩
abbrev S10240x64 : Shape := ⟨2, ![10240, 64]⟩
abbrev S10240x8x128 : Shape := ⟨3, ![10240, 8, 128]⟩
abbrev S10240x1x16 : Shape := ⟨3, ![10240, 1, 16]⟩
abbrev S10240x8x16 : Shape := ⟨3, ![10240, 8, 16]⟩
abbrev S10240x8x96 : Shape := ⟨3, ![10240, 8, 96]⟩
abbrev S10240x2x128 : Shape := ⟨3, ![10240, 2, 128]⟩
abbrev S10240x2x16 : Shape := ⟨3, ![10240, 2, 16]⟩
abbrev S10240x2x96 : Shape := ⟨3, ![10240, 2, 96]⟩
abbrev S10240x8x64 : Shape := ⟨3, ![10240, 8, 64]⟩
abbrev S10240x1x8 : Shape := ⟨3, ![10240, 1, 8]⟩
abbrev S10240x8x8 : Shape := ⟨3, ![10240, 8, 8]⟩
abbrev S10240x8x48 : Shape := ⟨3, ![10240, 8, 48]⟩
abbrev S10240x1x64 : Shape := ⟨3, ![10240, 1, 64]⟩
abbrev S10240x1x48 : Shape := ⟨3, ![10240, 1, 48]⟩
abbrev S10240x128 : Shape := ⟨2, ![10240, 128]⟩

abbrev nBuf : Space → Nat
  | .hbm => 118
  | .vmem => 0
  | .smem => 0
  | _ => 0

abbrev bufTy : (tb : Table) → Fin (tcTables nBuf tb) → BufTy
  | .hbm, ⟨0, _⟩ => ⟨S10240x15488, .f32⟩
  | .hbm, ⟨1, _⟩ => ⟨S10240, .i32⟩
  | .hbm, ⟨2, _⟩ => ⟨S10240, .f32⟩
  | .hbm, ⟨3, _⟩ => ⟨S10240x1, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S1x16, .f32⟩
  | .hbm, ⟨13, _⟩ => ⟨S10240x16, .f32⟩
  | .hbm, ⟨14, _⟩ => ⟨S10240x16, .f32⟩
  | .hbm, ⟨15, _⟩ => ⟨S10240x16, .f32⟩
  | .hbm, ⟨16, _⟩ => ⟨S10240, .f32⟩
  | .hbm, ⟨17, _⟩ => ⟨S10240x1, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S1x8, .f32⟩
  | .hbm, ⟨27, _⟩ => ⟨S10240x8, .f32⟩
  | .hbm, ⟨28, _⟩ => ⟨S10240x8, .f32⟩
  | .hbm, ⟨29, _⟩ => ⟨S10240x8, .f32⟩
  | .hbm, ⟨30, _⟩ => ⟨S10240x1024, .f32⟩
  | .hbm, ⟨31, _⟩ => ⟨S10240x256, .f32⟩
  | .hbm, ⟨32, _⟩ => ⟨S10240x256, .f32⟩
  | .hbm, ⟨33, _⟩ => ⟨S10240x512, .f32⟩
  | .hbm, ⟨34, _⟩ => ⟨S10240x64, .f32⟩
  | .hbm, ⟨35, _⟩ => ⟨S10240x64, .f32⟩
  | .hbm, ⟨36, _⟩ => ⟨S10240x8x128, .f32⟩
  | .hbm, ⟨37, _⟩ => ⟨S10240x16, .f32⟩
  | .hbm, ⟨38, _⟩ => ⟨S10240x1x16, .f32⟩
  | .hbm, ⟨39, _⟩ => ⟨S10240x16, .f32⟩
  | .hbm, ⟨40, _⟩ => ⟨S10240x1x16, .f32⟩
  | .hbm, ⟨41, _⟩ => ⟨S10240x8x16, .f32⟩
  | .hbm, ⟨42, _⟩ => ⟨S10240x8x16, .f32⟩
  | .hbm, ⟨43, _⟩ => ⟨S10240x8x16, .f32⟩
  | .hbm, ⟨44, _⟩ => ⟨S10240x8x16, .f32⟩
  | .hbm, ⟨45, _⟩ => ⟨S10240x8x16, .f32⟩
  | .hbm, ⟨46, _⟩ => ⟨S10240x8x16, .f32⟩
  | .hbm, ⟨47, _⟩ => ⟨S10240x8x16, .f32⟩
  | .hbm, ⟨48, _⟩ => ⟨S10240x8x16, .f32⟩
  | .hbm, ⟨49, _⟩ => ⟨S10240x8x16, .f32⟩
  | .hbm, ⟨50, _⟩ => ⟨S10240x8x16, .f32⟩
  | .hbm, ⟨51, _⟩ => ⟨S10240x8x16, .f32⟩
  | .hbm, ⟨52, _⟩ => ⟨S10240x8x16, .f32⟩
  | .hbm, ⟨53, _⟩ => ⟨S10240x8x96, .f32⟩
  | .hbm, ⟨54, _⟩ => ⟨S10240x8x128, .f32⟩
  | .hbm, ⟨55, _⟩ => ⟨S10240x1024, .f32⟩
  | .hbm, ⟨56, _⟩ => ⟨S10240x2x128, .f32⟩
  | .hbm, ⟨57, _⟩ => ⟨S10240x16, .f32⟩
  | .hbm, ⟨58, _⟩ => ⟨S10240x1x16, .f32⟩
  | .hbm, ⟨59, _⟩ => ⟨S10240x16, .f32⟩
  | .hbm, ⟨60, _⟩ => ⟨S10240x1x16, .f32⟩
  | .hbm, ⟨61, _⟩ => ⟨S10240x2x16, .f32⟩
  | .hbm, ⟨62, _⟩ => ⟨S10240x2x16, .f32⟩
  | .hbm, ⟨63, _⟩ => ⟨S10240x2x16, .f32⟩
  | .hbm, ⟨64, _⟩ => ⟨S10240x2x16, .f32⟩
  | .hbm, ⟨65, _⟩ => ⟨S10240x2x16, .f32⟩
  | .hbm, ⟨66, _⟩ => ⟨S10240x2x16, .f32⟩
  | .hbm, ⟨67, _⟩ => ⟨S10240x2x16, .f32⟩
  | .hbm, ⟨68, _⟩ => ⟨S10240x2x16, .f32⟩
  | .hbm, ⟨69, _⟩ => ⟨S10240x2x16, .f32⟩
  | .hbm, ⟨70, _⟩ => ⟨S10240x2x16, .f32⟩
  | .hbm, ⟨71, _⟩ => ⟨S10240x2x16, .f32⟩
  | .hbm, ⟨72, _⟩ => ⟨S10240x2x16, .f32⟩
  | .hbm, ⟨73, _⟩ => ⟨S10240x2x96, .f32⟩
  | .hbm, ⟨74, _⟩ => ⟨S10240x2x128, .f32⟩
  | .hbm, ⟨75, _⟩ => ⟨S10240x256, .f32⟩
  | .hbm, ⟨76, _⟩ => ⟨S10240x8x64, .f32⟩
  | .hbm, ⟨77, _⟩ => ⟨S10240x8, .f32⟩
  | .hbm, ⟨78, _⟩ => ⟨S10240x1x8, .f32⟩
  | .hbm, ⟨79, _⟩ => ⟨S10240x8, .f32⟩
  | .hbm, ⟨80, _⟩ => ⟨S10240x1x8, .f32⟩
  | .hbm, ⟨81, _⟩ => ⟨S10240x8x8, .f32⟩
  | .hbm, ⟨82, _⟩ => ⟨S10240x8x8, .f32⟩
  | .hbm, ⟨83, _⟩ => ⟨S10240x8x8, .f32⟩
  | .hbm, ⟨84, _⟩ => ⟨S10240x8x8, .f32⟩
  | .hbm, ⟨85, _⟩ => ⟨S10240x8x8, .f32⟩
  | .hbm, ⟨86, _⟩ => ⟨S10240x8x8, .f32⟩
  | .hbm, ⟨87, _⟩ => ⟨S10240x8x8, .f32⟩
  | .hbm, ⟨88, _⟩ => ⟨S10240x8x8, .f32⟩
  | .hbm, ⟨89, _⟩ => ⟨S10240x8x8, .f32⟩
  | .hbm, ⟨90, _⟩ => ⟨S10240x8x8, .f32⟩
  | .hbm, ⟨91, _⟩ => ⟨S10240x8x8, .f32⟩
  | .hbm, ⟨92, _⟩ => ⟨S10240x8x8, .f32⟩
  | .hbm, ⟨93, _⟩ => ⟨S10240x8x48, .f32⟩
  | .hbm, ⟨94, _⟩ => ⟨S10240x8x64, .f32⟩
  | .hbm, ⟨95, _⟩ => ⟨S10240x512, .f32⟩
  | .hbm, ⟨96, _⟩ => ⟨S10240x1x64, .f32⟩
  | .hbm, ⟨97, _⟩ => ⟨S10240x8, .f32⟩
  | .hbm, ⟨98, _⟩ => ⟨S10240x1x8, .f32⟩
  | .hbm, ⟨99, _⟩ => ⟨S10240x8, .f32⟩
  | .hbm, ⟨100, _⟩ => ⟨S10240x1x8, .f32⟩
  | .hbm, ⟨101, _⟩ => ⟨S10240x1x8, .f32⟩
  | .hbm, ⟨102, _⟩ => ⟨S10240x1x8, .f32⟩
  | .hbm, ⟨103, _⟩ => ⟨S10240x1x8, .f32⟩
  | .hbm, ⟨104, _⟩ => ⟨S10240x1x8, .f32⟩
  | .hbm, ⟨105, _⟩ => ⟨S10240x1x8, .f32⟩
  | .hbm, ⟨106, _⟩ => ⟨S10240x1x8, .f32⟩
  | .hbm, ⟨107, _⟩ => ⟨S10240x1x8, .f32⟩
  | .hbm, ⟨108, _⟩ => ⟨S10240x1x8, .f32⟩
  | .hbm, ⟨109, _⟩ => ⟨S10240x1x48, .f32⟩
  | .hbm, ⟨110, _⟩ => ⟨S10240x1x64, .f32⟩
  | .hbm, ⟨111, _⟩ => ⟨S10240x64, .f32⟩
  | .hbm, ⟨112, _⟩ => ⟨S10240x128, .f32⟩
  | .hbm, ⟨113, _⟩ => ⟨S10240x1024, .bf16⟩
  | .hbm, ⟨114, _⟩ => ⟨S10240x256, .bf16⟩
  | .hbm, ⟨115, _⟩ => ⟨S10240x256, .bf16⟩
  | .hbm, ⟨116, _⟩ => ⟨S10240x512, .bf16⟩
  | .hbm, ⟨117, _⟩ => ⟨S10240x128, .bf16⟩
  | _, _ => ⟨S10240x15488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩

abbrev nD : Nat := 1
abbrev τ : Topo := Topo.v7x

variable {F : FTy → Type} [FloatOps F]
-- ==== Prompt.lean ====
abbrev S10240x1024 : Shape := ⟨2, ![10240, 1024]⟩
abbrev S10240x512 : Shape := ⟨2, ![10240, 512]⟩
abbrev S10240x128 : Shape := ⟨2, ![10240, 128]⟩
abbrev S10240x256 : Shape := ⟨2, ![10240, 256]⟩
abbrev S8192x1024 : Shape := ⟨2, ![8192, 1024]⟩
abbrev S128x1024 : Shape := ⟨2, ![128, 1024]⟩
abbrev S128x512 : Shape := ⟨2, ![128, 512]⟩
abbrev S128x128 : Shape := ⟨2, ![128, 128]⟩
abbrev S4096x256 : Shape := ⟨2, ![4096, 256]⟩
abbrev S4096x128 : Shape := ⟨2, ![4096, 128]⟩
abbrev S128x4096 : Shape := ⟨2, ![128, 4096]⟩
abbrev S128x1 : Shape := ⟨2, ![128, 1]⟩
abbrev S2x4x128x1 : Shape := ⟨4, ![2, 4, 128, 1]⟩
abbrev S2x4x128x128 : Shape := ⟨4, ![2, 4, 128, 128]⟩
abbrev S512x128 : Shape := ⟨2, ![512, 128]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S512x256 : Shape := ⟨2, ![512, 256]⟩
abbrev S512x512 : Shape := ⟨2, ![512, 512]⟩
abbrev S1x128x512 : Shape := ⟨3, ![1, 128, 512]⟩
abbrev S4x128x512 : Shape := ⟨3, ![4, 128, 512]⟩
abbrev S1x4x128x1 : Shape := ⟨4, ![1, 4, 128, 1]⟩
abbrev S4x128x1 : Shape := ⟨3, ![4, 128, 1]⟩
abbrev S4x128 : Shape := ⟨2, ![4, 128]⟩
abbrev S1x4x128x128 : Shape := ⟨4, ![1, 4, 128, 128]⟩
abbrev S4x128x128 : Shape := ⟨3, ![4, 128, 128]⟩
abbrev S1x128x128 : Shape := ⟨3, ![1, 128, 128]⟩

abbrev nBuf : Space → Nat
  | .hbm => 7
  | .vmem => 19
  | .smem => 0
  | _ => 0

abbrev bufTy : (tb : Table) → Fin (tcTables nBuf tb) → BufTy
  | .hbm, ⟨0, _⟩ => ⟨S10240x1024, .bf16⟩
  | .hbm, ⟨1, _⟩ => ⟨S10240x512, .bf16⟩
  | .hbm, ⟨2, _⟩ => ⟨S10240x128, .f32⟩
  | .hbm, ⟨3, _⟩ => ⟨S10240x256, .bf16⟩
  | .hbm, ⟨4, _⟩ => ⟨S10240x256, .bf16⟩
  | .hbm, ⟨5, _⟩ => ⟨S10240x128, .bf16⟩
  | .hbm, ⟨6, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x128, .f32⟩
  | .local _ .vmem, ⟨5, _⟩ => ⟨S128x128, .f32⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x128, .bf16⟩
  | .local _ .vmem, ⟨11, _⟩ => ⟨S4096x128, .bf16⟩
  | .local _ .vmem, ⟨12, _⟩ => ⟨S128x1024, .bf16⟩
  | .local _ .vmem, ⟨13, _⟩ => ⟨S128x1024, .bf16⟩
  | .local _ .vmem, ⟨14, _⟩ => ⟨S128x4096, .i32⟩
  | .local _ .vmem, ⟨15, _⟩ => ⟨S128x1, .i32⟩
  | .local _ .vmem, ⟨16, _⟩ => ⟨S2x4x128x1, .f32⟩
  | .local _ .vmem, ⟨17, _⟩ => ⟨S2x4x128x1, .f32⟩
  | .local _ .vmem, ⟨18, _⟩ => ⟨S2x4x128x128, .f32⟩
  | _, _ => ⟨S10240x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![2, 32], ![false, false]⟩

@[reducible] def k0_t1_loop (i : grid0.Coords) : Scf.Loop 32 :=
  let c0_i32_31 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v101 : BitVec 32 := Scalar.subi v29 c0_i32_31
  let c1_i32_32 : BitVec 32 := 1#32
  let v103 : BitVec 32 := Scalar.divsi v101 c1_i32_32
  let v104 : BitVec 32 := Scalar.muli v103 c1_i32_32
  let v105 : BitVec 32 := Scalar.addi c0_i32_31 v104
  let c1_i32_33 : BitVec 32 := 1#32
  ⟨c0_i32_31, v105, c1_i32_33⟩
def k0_mult1 (i : grid0.Coords) (k0_t1 : Fin (k0_t1_loop i).trips) : BitVec 32 :=
  let c0_i32_31 : BitVec 32 := 0#32
  let c1_i32_33 : BitVec 32 := 1#32
  let arg14 : BitVec 32 := Scf.iv c0_i32_31 c1_i32_33 k0_t1
  let c512_i32_104 : BitVec 32 := 512#32
  let v222 : BitVec 32 := Scalar.muli arg14 c512_i32_104
  v222
def k0_off1 (i : grid0.Coords) (k0_t1 : Fin (k0_t1_loop i).trips) : Fin 2 → Nat :=
  let c0_i32_31 : BitVec 32 := 0#32
  let c1_i32_33 : BitVec 32 := 1#32
  let arg14 : BitVec 32 := Scf.iv c0_i32_31 c1_i32_33 k0_t1
  let c512_i32_104 : BitVec 32 := 512#32
  let v222 : BitVec 32 := Scalar.muli arg14 c512_i32_104
  let v223 : BitVec 32 := v222
  let v224 : Index := Scalar.indexCast v223
  let c0_105 : Index := 0#32
  ![v224.toNat, 0]
def k0_off2 (i : grid0.Coords) (k0_t1 : Fin (k0_t1_loop i).trips) : Fin 2 → Nat :=
  let c0_125 : Index := 0#32
  let c0_i32_31 : BitVec 32 := 0#32
  let c1_i32_33 : BitVec 32 := 1#32
  let arg14 : BitVec 32 := Scf.iv c0_i32_31 c1_i32_33 k0_t1
  let c512_i32_104 : BitVec 32 := 512#32
  let v222 : BitVec 32 := Scalar.muli arg14 c512_i32_104
  let v223 : BitVec 32 := v222
  let v288 : Index := Scalar.indexCast v223
  ![0, v288.toNat]
@[reducible] def k0_t2_loop (i : grid0.Coords) : Scf.Loop 32 :=
  let c0_i32_31 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v101 : BitVec 32 := Scalar.subi v29 c0_i32_31
  let c1_i32_32 : BitVec 32 := 1#32
  let v103 : BitVec 32 := Scalar.divsi v101 c1_i32_32
  let v104 : BitVec 32 := Scalar.muli v103 c1_i32_32
  let v105 : BitVec 32 := Scalar.addi c0_i32_31 v104
  let v102 : BitVec 32 := Scalar.addi c0_i32_31 v101
  let c1_i32_34 : BitVec 32 := 1#32
  ⟨v105, v102, c1_i32_34⟩
def k0_mult2 (i : grid0.Coords) (k0_t2 : Fin (k0_t2_loop i).trips) : BitVec 32 :=
  let c0_i32_31 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v101 : BitVec 32 := Scalar.subi v29 c0_i32_31
  let c1_i32_32 : BitVec 32 := 1#32
  let v103 : BitVec 32 := Scalar.divsi v101 c1_i32_32
  let v104 : BitVec 32 := Scalar.muli v103 c1_i32_32
  let v105 : BitVec 32 := Scalar.addi c0_i32_31 v104
  let c1_i32_34 : BitVec 32 := 1#32
  let arg14 : BitVec 32 := Scf.iv v105 c1_i32_34 k0_t2
  let c512_i32_104 : BitVec 32 := 512#32
  let v222 : BitVec 32 := Scalar.muli arg14 c512_i32_104
  v222
def k0_off3 (i : grid0.Coords) (k0_t2 : Fin (k0_t2_loop i).trips) : Fin 2 → Nat :=
  let c0_i32_31 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v101 : BitVec 32 := Scalar.subi v29 c0_i32_31
  let c1_i32_32 : BitVec 32 := 1#32
  let v103 : BitVec 32 := Scalar.divsi v101 c1_i32_32
  let v104 : BitVec 32 := Scalar.muli v103 c1_i32_32
  let v105 : BitVec 32 := Scalar.addi c0_i32_31 v104
  let c1_i32_34 : BitVec 32 := 1#32
  let arg14 : BitVec 32 := Scf.iv v105 c1_i32_34 k0_t2
  let c512_i32_104 : BitVec 32 := 512#32
  let v222 : BitVec 32 := Scalar.muli arg14 c512_i32_104
  let v223 : BitVec 32 := v222
  let v224 : Index := Scalar.indexCast v223
  let c0_105 : Index := 0#32
  ![v224.toNat, 0]
def k0_off4 (i : grid0.Coords) (k0_t2 : Fin (k0_t2_loop i).trips) : Fin 2 → Nat :=
  let c0_125 : Index := 0#32
  let c0_i32_31 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v101 : BitVec 32 := Scalar.subi v29 c0_i32_31
  let c1_i32_32 : BitVec 32 := 1#32
  let v103 : BitVec 32 := Scalar.divsi v101 c1_i32_32
  let v104 : BitVec 32 := Scalar.muli v103 c1_i32_32
  let v105 : BitVec 32 := Scalar.addi c0_i32_31 v104
  let c1_i32_34 : BitVec 32 := 1#32
  let arg14 : BitVec 32 := Scf.iv v105 c1_i32_34 k0_t2
  let c512_i32_104 : BitVec 32 := 512#32
  let v222 : BitVec 32 := Scalar.muli arg14 c512_i32_104
  let v223 : BitVec 32 := v222
  let v288 : Index := Scalar.indexCast v223
  ![0, v288.toNat]
@[reducible] def k0_t3_loop (i : grid0.Coords) : Scf.Loop 32 :=
  let c0_i32_36 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v110 : BitVec 32 := Scalar.subi v29 c0_i32_36
  let c1_i32_37 : BitVec 32 := 1#32
  let v112 : BitVec 32 := Scalar.divsi v110 c1_i32_37
  let v113 : BitVec 32 := Scalar.muli v112 c1_i32_37
  let v114 : BitVec 32 := Scalar.addi c0_i32_36 v113
  let c1_i32_38 : BitVec 32 := 1#32
  ⟨c0_i32_36, v114, c1_i32_38⟩
def k0_mult3 (i : grid0.Coords) (k0_t3 : Fin (k0_t3_loop i).trips) : BitVec 32 :=
  let c0_i32_36 : BitVec 32 := 0#32
  let c1_i32_38 : BitVec 32 := 1#32
  let arg14 : BitVec 32 := Scf.iv c0_i32_36 c1_i32_38 k0_t3
  let c512_i32_104 : BitVec 32 := 512#32
  let v222 : BitVec 32 := Scalar.muli arg14 c512_i32_104
  v222
def k0_off5 (i : grid0.Coords) (k0_t3 : Fin (k0_t3_loop i).trips) (c0_i32_105 : BitVec 32) : Fin 2 → Nat :=
  let c0_106 : Index := 0#32
  let c0_i32_36 : BitVec 32 := 0#32
  let c1_i32_38 : BitVec 32 := 1#32
  let arg14 : BitVec 32 := Scf.iv c0_i32_36 c1_i32_38 k0_t3
  let c512_i32_104 : BitVec 32 := 512#32
  let v222 : BitVec 32 := Scalar.muli arg14 c512_i32_104
  let v223 : BitVec 32 := v222
  let v224 : BitVec 32 := Scalar.addi v223 c0_i32_105
  let v225 : Index := Scalar.indexCast v224
  ![0, v225.toNat]
@[reducible] def k0_t4_loop (i : grid0.Coords) : Scf.Loop 32 :=
  let c0_i32_36 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v110 : BitVec 32 := Scalar.subi v29 c0_i32_36
  let c1_i32_37 : BitVec 32 := 1#32
  let v112 : BitVec 32 := Scalar.divsi v110 c1_i32_37
  let v113 : BitVec 32 := Scalar.muli v112 c1_i32_37
  let v114 : BitVec 32 := Scalar.addi c0_i32_36 v113
  let v111 : BitVec 32 := Scalar.addi c0_i32_36 v110
  let c1_i32_39 : BitVec 32 := 1#32
  ⟨v114, v111, c1_i32_39⟩
def k0_mult4 (i : grid0.Coords) (k0_t4 : Fin (k0_t4_loop i).trips) : BitVec 32 :=
  let c0_i32_36 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v110 : BitVec 32 := Scalar.subi v29 c0_i32_36
  let c1_i32_37 : BitVec 32 := 1#32
  let v112 : BitVec 32 := Scalar.divsi v110 c1_i32_37
  let v113 : BitVec 32 := Scalar.muli v112 c1_i32_37
  let v114 : BitVec 32 := Scalar.addi c0_i32_36 v113
  let c1_i32_39 : BitVec 32 := 1#32
  let arg14 : BitVec 32 := Scf.iv v114 c1_i32_39 k0_t4
  let c512_i32_104 : BitVec 32 := 512#32
  let v222 : BitVec 32 := Scalar.muli arg14 c512_i32_104
  v222
def k0_off6 (i : grid0.Coords) (k0_t4 : Fin (k0_t4_loop i).trips) (c0_i32_105 : BitVec 32) : Fin 2 → Nat :=
  let c0_106 : Index := 0#32
  let c0_i32_36 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v110 : BitVec 32 := Scalar.subi v29 c0_i32_36
  let c1_i32_37 : BitVec 32 := 1#32
  let v112 : BitVec 32 := Scalar.divsi v110 c1_i32_37
  let v113 : BitVec 32 := Scalar.muli v112 c1_i32_37
  let v114 : BitVec 32 := Scalar.addi c0_i32_36 v113
  let c1_i32_39 : BitVec 32 := 1#32
  let arg14 : BitVec 32 := Scf.iv v114 c1_i32_39 k0_t4
  let c512_i32_104 : BitVec 32 := 512#32
  let v222 : BitVec 32 := Scalar.muli arg14 c512_i32_104
  let v223 : BitVec 32 := v222
  let v224 : BitVec 32 := Scalar.addi v223 c0_i32_105
  let v225 : Index := Scalar.indexCast v224
  ![0, v225.toNat]
@[reducible] def k0_t5_loop : Scf.Loop 32 :=
  let c0_i32_42 : BitVec 32 := 0#32
  let c31_i32 : BitVec 32 := 31#32
  let v123 : BitVec 32 := Scalar.addi c0_i32_42 c31_i32
  let c1_i32_43 : BitVec 32 := 1#32
  ⟨c0_i32_42, v123, c1_i32_43⟩
@[reducible] def k0_t6_loop (i : grid0.Coords) : Scf.Loop 32 :=
  let c0_i32_106 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v229 : BitVec 32 := Scalar.subi v29 c0_i32_106
  let c1_i32_107 : BitVec 32 := 1#32
  let v231 : BitVec 32 := Scalar.divsi v229 c1_i32_107
  let v232 : BitVec 32 := Scalar.muli v231 c1_i32_107
  let v233 : BitVec 32 := Scalar.addi c0_i32_106 v232
  let c1_i32_108 : BitVec 32 := 1#32
  ⟨c0_i32_106, v233, c1_i32_108⟩
def k0_mult5 (i : grid0.Coords) (k0_t6 : Fin (k0_t6_loop i).trips) : BitVec 32 :=
  let c0_i32_106 : BitVec 32 := 0#32
  let c1_i32_108 : BitVec 32 := 1#32
  let arg16 : BitVec 32 := Scf.iv c0_i32_106 c1_i32_108 k0_t6
  let c512_i32_111 : BitVec 32 := 512#32
  let v240 : BitVec 32 := Scalar.muli arg16 c512_i32_111
  v240
def k0_off7 (i : grid0.Coords) (k0_t6 : Fin (k0_t6_loop i).trips) (c0_i32_112 : BitVec 32) : Fin 2 → Nat :=
  let c0_113 : Index := 0#32
  let c0_i32_106 : BitVec 32 := 0#32
  let c1_i32_108 : BitVec 32 := 1#32
  let arg16 : BitVec 32 := Scf.iv c0_i32_106 c1_i32_108 k0_t6
  let c512_i32_111 : BitVec 32 := 512#32
  let v240 : BitVec 32 := Scalar.muli arg16 c512_i32_111
  let v241 : BitVec 32 := v240
  let v242 : BitVec 32 := Scalar.addi v241 c0_i32_112
  let v243 : Index := Scalar.indexCast v242
  ![0, v243.toNat]
@[reducible] def k0_t7_loop (i : grid0.Coords) : Scf.Loop 32 :=
  let c0_i32_106 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v229 : BitVec 32 := Scalar.subi v29 c0_i32_106
  let c1_i32_107 : BitVec 32 := 1#32
  let v231 : BitVec 32 := Scalar.divsi v229 c1_i32_107
  let v232 : BitVec 32 := Scalar.muli v231 c1_i32_107
  let v233 : BitVec 32 := Scalar.addi c0_i32_106 v232
  let v230 : BitVec 32 := Scalar.addi c0_i32_106 v229
  let c1_i32_109 : BitVec 32 := 1#32
  ⟨v233, v230, c1_i32_109⟩
def k0_mult6 (i : grid0.Coords) (k0_t7 : Fin (k0_t7_loop i).trips) : BitVec 32 :=
  let c0_i32_106 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v229 : BitVec 32 := Scalar.subi v29 c0_i32_106
  let c1_i32_107 : BitVec 32 := 1#32
  let v231 : BitVec 32 := Scalar.divsi v229 c1_i32_107
  let v232 : BitVec 32 := Scalar.muli v231 c1_i32_107
  let v233 : BitVec 32 := Scalar.addi c0_i32_106 v232
  let c1_i32_109 : BitVec 32 := 1#32
  let arg16 : BitVec 32 := Scf.iv v233 c1_i32_109 k0_t7
  let c512_i32_111 : BitVec 32 := 512#32
  let v240 : BitVec 32 := Scalar.muli arg16 c512_i32_111
  v240
def k0_off8 (i : grid0.Coords) (k0_t7 : Fin (k0_t7_loop i).trips) (c0_i32_112 : BitVec 32) : Fin 2 → Nat :=
  let c0_113 : Index := 0#32
  let c0_i32_106 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v229 : BitVec 32 := Scalar.subi v29 c0_i32_106
  let c1_i32_107 : BitVec 32 := 1#32
  let v231 : BitVec 32 := Scalar.divsi v229 c1_i32_107
  let v232 : BitVec 32 := Scalar.muli v231 c1_i32_107
  let v233 : BitVec 32 := Scalar.addi c0_i32_106 v232
  let c1_i32_109 : BitVec 32 := 1#32
  let arg16 : BitVec 32 := Scf.iv v233 c1_i32_109 k0_t7
  let c512_i32_111 : BitVec 32 := 512#32
  let v240 : BitVec 32 := Scalar.muli arg16 c512_i32_111
  let v241 : BitVec 32 := v240
  let v242 : BitVec 32 := Scalar.addi v241 c0_i32_112
  let v243 : Index := Scalar.indexCast v242
  ![0, v243.toNat]
@[reducible] def k0_t8_loop (i : grid0.Coords) : Scf.Loop 32 :=
  let c0_i32_46 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v128 : BitVec 32 := Scalar.subi v29 c0_i32_46
  let c1_i32_47 : BitVec 32 := 1#32
  let v130 : BitVec 32 := Scalar.divsi v128 c1_i32_47
  let v131 : BitVec 32 := Scalar.muli v130 c1_i32_47
  let v132 : BitVec 32 := Scalar.addi c0_i32_46 v131
  let c1_i32_48 : BitVec 32 := 1#32
  ⟨c0_i32_46, v132, c1_i32_48⟩
def k0_mult7 (i : grid0.Coords) (k0_t8 : Fin (k0_t8_loop i).trips) : BitVec 32 :=
  let c0_i32_46 : BitVec 32 := 0#32
  let c1_i32_48 : BitVec 32 := 1#32
  let arg14 : BitVec 32 := Scf.iv c0_i32_46 c1_i32_48 k0_t8
  let c512_i32_104 : BitVec 32 := 512#32
  let v222 : BitVec 32 := Scalar.muli arg14 c512_i32_104
  v222
def k0_off9 (i : grid0.Coords) (k0_t8 : Fin (k0_t8_loop i).trips) (c0_i32_105 : BitVec 32) : Fin 2 → Nat :=
  let c0_106 : Index := 0#32
  let c0_i32_46 : BitVec 32 := 0#32
  let c1_i32_48 : BitVec 32 := 1#32
  let arg14 : BitVec 32 := Scf.iv c0_i32_46 c1_i32_48 k0_t8
  let c512_i32_104 : BitVec 32 := 512#32
  let v222 : BitVec 32 := Scalar.muli arg14 c512_i32_104
  let v223 : BitVec 32 := v222
  let v224 : BitVec 32 := Scalar.addi v223 c0_i32_105
  let v225 : Index := Scalar.indexCast v224
  ![0, v225.toNat]
@[reducible] def k0_t9_loop (i : grid0.Coords) : Scf.Loop 32 :=
  let c0_i32_46 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v128 : BitVec 32 := Scalar.subi v29 c0_i32_46
  let c1_i32_47 : BitVec 32 := 1#32
  let v130 : BitVec 32 := Scalar.divsi v128 c1_i32_47
  let v131 : BitVec 32 := Scalar.muli v130 c1_i32_47
  let v132 : BitVec 32 := Scalar.addi c0_i32_46 v131
  let v129 : BitVec 32 := Scalar.addi c0_i32_46 v128
  let c1_i32_49 : BitVec 32 := 1#32
  ⟨v132, v129, c1_i32_49⟩
def k0_mult8 (i : grid0.Coords) (k0_t9 : Fin (k0_t9_loop i).trips) : BitVec 32 :=
  let c0_i32_46 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v128 : BitVec 32 := Scalar.subi v29 c0_i32_46
  let c1_i32_47 : BitVec 32 := 1#32
  let v130 : BitVec 32 := Scalar.divsi v128 c1_i32_47
  let v131 : BitVec 32 := Scalar.muli v130 c1_i32_47
  let v132 : BitVec 32 := Scalar.addi c0_i32_46 v131
  let c1_i32_49 : BitVec 32 := 1#32
  let arg14 : BitVec 32 := Scf.iv v132 c1_i32_49 k0_t9
  let c512_i32_104 : BitVec 32 := 512#32
  let v222 : BitVec 32 := Scalar.muli arg14 c512_i32_104
  v222
def k0_off10 (i : grid0.Coords) (k0_t9 : Fin (k0_t9_loop i).trips) (c0_i32_105 : BitVec 32) : Fin 2 → Nat :=
  let c0_106 : Index := 0#32
  let c0_i32_46 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v128 : BitVec 32 := Scalar.subi v29 c0_i32_46
  let c1_i32_47 : BitVec 32 := 1#32
  let v130 : BitVec 32 := Scalar.divsi v128 c1_i32_47
  let v131 : BitVec 32 := Scalar.muli v130 c1_i32_47
  let v132 : BitVec 32 := Scalar.addi c0_i32_46 v131
  let c1_i32_49 : BitVec 32 := 1#32
  let arg14 : BitVec 32 := Scf.iv v132 c1_i32_49 k0_t9
  let c512_i32_104 : BitVec 32 := 512#32
  let v222 : BitVec 32 := Scalar.muli arg14 c512_i32_104
  let v223 : BitVec 32 := v222
  let v224 : BitVec 32 := Scalar.addi v223 c0_i32_105
  let v225 : Index := Scalar.indexCast v224
  ![0, v225.toNat]
@[reducible] def k0_t10_loop (i : grid0.Coords) : Scf.Loop 32 :=
  let c0_i32_105 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v223 : BitVec 32 := Scalar.subi v29 c0_i32_105
  let c1_i32_106 : BitVec 32 := 1#32
  let v225 : BitVec 32 := Scalar.divsi v223 c1_i32_106
  let v226 : BitVec 32 := Scalar.muli v225 c1_i32_106
  let v227 : BitVec 32 := Scalar.addi c0_i32_105 v226
  let c1_i32_107 : BitVec 32 := 1#32
  ⟨c0_i32_105, v227, c1_i32_107⟩
def k0_mult9 (i : grid0.Coords) (k0_t10 : Fin (k0_t10_loop i).trips) : BitVec 32 :=
  let c0_i32_105 : BitVec 32 := 0#32
  let c1_i32_107 : BitVec 32 := 1#32
  let arg14 : BitVec 32 := Scf.iv c0_i32_105 c1_i32_107 k0_t10
  let c512_i32_116 : BitVec 32 := 512#32
  let v239 : BitVec 32 := Scalar.muli arg14 c512_i32_116
  v239
def k0_off11 (i : grid0.Coords) (k0_t10 : Fin (k0_t10_loop i).trips) (c0_i32_117 : BitVec 32) : Fin 2 → Nat :=
  let c0_118 : Index := 0#32
  let c0_i32_105 : BitVec 32 := 0#32
  let c1_i32_107 : BitVec 32 := 1#32
  let arg14 : BitVec 32 := Scf.iv c0_i32_105 c1_i32_107 k0_t10
  let c512_i32_116 : BitVec 32 := 512#32
  let v239 : BitVec 32 := Scalar.muli arg14 c512_i32_116
  let v240 : BitVec 32 := v239
  let v241 : BitVec 32 := Scalar.addi v240 c0_i32_117
  let v242 : Index := Scalar.indexCast v241
  ![0, v242.toNat]
@[reducible] def k0_t11_loop (i : grid0.Coords) : Scf.Loop 32 :=
  let c0_i32_105 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v223 : BitVec 32 := Scalar.subi v29 c0_i32_105
  let c1_i32_106 : BitVec 32 := 1#32
  let v225 : BitVec 32 := Scalar.divsi v223 c1_i32_106
  let v226 : BitVec 32 := Scalar.muli v225 c1_i32_106
  let v227 : BitVec 32 := Scalar.addi c0_i32_105 v226
  let v224 : BitVec 32 := Scalar.addi c0_i32_105 v223
  let c1_i32_108 : BitVec 32 := 1#32
  ⟨v227, v224, c1_i32_108⟩
def k0_mult10 (i : grid0.Coords) (k0_t11 : Fin (k0_t11_loop i).trips) : BitVec 32 :=
  let c0_i32_105 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v223 : BitVec 32 := Scalar.subi v29 c0_i32_105
  let c1_i32_106 : BitVec 32 := 1#32
  let v225 : BitVec 32 := Scalar.divsi v223 c1_i32_106
  let v226 : BitVec 32 := Scalar.muli v225 c1_i32_106
  let v227 : BitVec 32 := Scalar.addi c0_i32_105 v226
  let c1_i32_108 : BitVec 32 := 1#32
  let arg14 : BitVec 32 := Scf.iv v227 c1_i32_108 k0_t11
  let c512_i32_116 : BitVec 32 := 512#32
  let v239 : BitVec 32 := Scalar.muli arg14 c512_i32_116
  v239
def k0_off12 (i : grid0.Coords) (k0_t11 : Fin (k0_t11_loop i).trips) (c0_i32_117 : BitVec 32) : Fin 2 → Nat :=
  let c0_118 : Index := 0#32
  let c0_i32_105 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v223 : BitVec 32 := Scalar.subi v29 c0_i32_105
  let c1_i32_106 : BitVec 32 := 1#32
  let v225 : BitVec 32 := Scalar.divsi v223 c1_i32_106
  let v226 : BitVec 32 := Scalar.muli v225 c1_i32_106
  let v227 : BitVec 32 := Scalar.addi c0_i32_105 v226
  let c1_i32_108 : BitVec 32 := 1#32
  let arg14 : BitVec 32 := Scf.iv v227 c1_i32_108 k0_t11
  let c512_i32_116 : BitVec 32 := 512#32
  let v239 : BitVec 32 := Scalar.muli arg14 c512_i32_116
  let v240 : BitVec 32 := v239
  let v241 : BitVec 32 := Scalar.addi v240 c0_i32_117
  let v242 : Index := Scalar.indexCast v241
  ![0, v242.toNat]
@[reducible] def k0_t12_loop : Scf.Loop 32 :=
  let c0_i32_111 : BitVec 32 := 0#32
  let c13_i32 : BitVec 32 := 13#32
  let v234 : BitVec 32 := Scalar.addi c0_i32_111 c13_i32
  let c1_i32_112 : BitVec 32 := 1#32
  ⟨c0_i32_111, v234, c1_i32_112⟩
@[reducible] def k0_t13_loop (i : grid0.Coords) : Scf.Loop 32 :=
  let c0_i32_118 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v246 : BitVec 32 := Scalar.subi v29 c0_i32_118
  let c1_i32_119 : BitVec 32 := 1#32
  let v248 : BitVec 32 := Scalar.divsi v246 c1_i32_119
  let v249 : BitVec 32 := Scalar.muli v248 c1_i32_119
  let v250 : BitVec 32 := Scalar.addi c0_i32_118 v249
  let c1_i32_120 : BitVec 32 := 1#32
  ⟨c0_i32_118, v250, c1_i32_120⟩
def k0_mult11 (i : grid0.Coords) (k0_t13 : Fin (k0_t13_loop i).trips) : BitVec 32 :=
  let c0_i32_118 : BitVec 32 := 0#32
  let c1_i32_120 : BitVec 32 := 1#32
  let arg16 : BitVec 32 := Scf.iv c0_i32_118 c1_i32_120 k0_t13
  let c512_i32_124 : BitVec 32 := 512#32
  let v260 : BitVec 32 := Scalar.muli arg16 c512_i32_124
  v260
def k0_off13 (i : grid0.Coords) (k0_t13 : Fin (k0_t13_loop i).trips) (c0_i32_125 : BitVec 32) : Fin 2 → Nat :=
  let c0_126 : Index := 0#32
  let c0_i32_118 : BitVec 32 := 0#32
  let c1_i32_120 : BitVec 32 := 1#32
  let arg16 : BitVec 32 := Scf.iv c0_i32_118 c1_i32_120 k0_t13
  let c512_i32_124 : BitVec 32 := 512#32
  let v260 : BitVec 32 := Scalar.muli arg16 c512_i32_124
  let v261 : BitVec 32 := v260
  let v262 : BitVec 32 := Scalar.addi v261 c0_i32_125
  let v263 : Index := Scalar.indexCast v262
  ![0, v263.toNat]
@[reducible] def k0_t14_loop (i : grid0.Coords) : Scf.Loop 32 :=
  let c0_i32_118 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v246 : BitVec 32 := Scalar.subi v29 c0_i32_118
  let c1_i32_119 : BitVec 32 := 1#32
  let v248 : BitVec 32 := Scalar.divsi v246 c1_i32_119
  let v249 : BitVec 32 := Scalar.muli v248 c1_i32_119
  let v250 : BitVec 32 := Scalar.addi c0_i32_118 v249
  let v247 : BitVec 32 := Scalar.addi c0_i32_118 v246
  let c1_i32_121 : BitVec 32 := 1#32
  ⟨v250, v247, c1_i32_121⟩
def k0_mult12 (i : grid0.Coords) (k0_t14 : Fin (k0_t14_loop i).trips) : BitVec 32 :=
  let c0_i32_118 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v246 : BitVec 32 := Scalar.subi v29 c0_i32_118
  let c1_i32_119 : BitVec 32 := 1#32
  let v248 : BitVec 32 := Scalar.divsi v246 c1_i32_119
  let v249 : BitVec 32 := Scalar.muli v248 c1_i32_119
  let v250 : BitVec 32 := Scalar.addi c0_i32_118 v249
  let c1_i32_121 : BitVec 32 := 1#32
  let arg16 : BitVec 32 := Scf.iv v250 c1_i32_121 k0_t14
  let c512_i32_124 : BitVec 32 := 512#32
  let v260 : BitVec 32 := Scalar.muli arg16 c512_i32_124
  v260
def k0_off14 (i : grid0.Coords) (k0_t14 : Fin (k0_t14_loop i).trips) (c0_i32_125 : BitVec 32) : Fin 2 → Nat :=
  let c0_126 : Index := 0#32
  let c0_i32_118 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v246 : BitVec 32 := Scalar.subi v29 c0_i32_118
  let c1_i32_119 : BitVec 32 := 1#32
  let v248 : BitVec 32 := Scalar.divsi v246 c1_i32_119
  let v249 : BitVec 32 := Scalar.muli v248 c1_i32_119
  let v250 : BitVec 32 := Scalar.addi c0_i32_118 v249
  let c1_i32_121 : BitVec 32 := 1#32
  let arg16 : BitVec 32 := Scf.iv v250 c1_i32_121 k0_t14
  let c512_i32_124 : BitVec 32 := 512#32
  let v260 : BitVec 32 := Scalar.muli arg16 c512_i32_124
  let v261 : BitVec 32 := v260
  let v262 : BitVec 32 := Scalar.addi v261 c0_i32_125
  let v263 : Index := Scalar.indexCast v262
  ![0, v263.toNat]
@[reducible] def k0_t15_loop (i : grid0.Coords) : Scf.Loop 32 :=
  let c0_i32_76 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v173 : BitVec 32 := Scalar.subi v29 c0_i32_76
  let c1_i32_77 : BitVec 32 := 1#32
  let v175 : BitVec 32 := Scalar.divsi v173 c1_i32_77
  let v176 : BitVec 32 := Scalar.muli v175 c1_i32_77
  let v177 : BitVec 32 := Scalar.addi c0_i32_76 v176
  let c1_i32_78 : BitVec 32 := 1#32
  ⟨c0_i32_76, v177, c1_i32_78⟩
def k0_mult13 (i : grid0.Coords) (k0_t15 : Fin (k0_t15_loop i).trips) : BitVec 32 :=
  let c0_i32_76 : BitVec 32 := 0#32
  let c1_i32_78 : BitVec 32 := 1#32
  let arg14 : BitVec 32 := Scf.iv c0_i32_76 c1_i32_78 k0_t15
  let c512_i32_104 : BitVec 32 := 512#32
  let v222 : BitVec 32 := Scalar.muli arg14 c512_i32_104
  v222
def k0_off15 (i : grid0.Coords) (k0_t15 : Fin (k0_t15_loop i).trips) : Fin 2 → Nat :=
  let c0_105 : Index := 0#32
  let c0_i32_76 : BitVec 32 := 0#32
  let c1_i32_78 : BitVec 32 := 1#32
  let arg14 : BitVec 32 := Scf.iv c0_i32_76 c1_i32_78 k0_t15
  let c512_i32_104 : BitVec 32 := 512#32
  let v222 : BitVec 32 := Scalar.muli arg14 c512_i32_104
  let v223 : BitVec 32 := v222
  let v227 : Index := Scalar.indexCast v223
  ![0, v227.toNat]
def k0_off16 (i : grid0.Coords) (k0_t15 : Fin (k0_t15_loop i).trips) : Fin 2 → Nat :=
  let c0_i32_76 : BitVec 32 := 0#32
  let c1_i32_78 : BitVec 32 := 1#32
  let arg14 : BitVec 32 := Scf.iv c0_i32_76 c1_i32_78 k0_t15
  let c512_i32_104 : BitVec 32 := 512#32
  let v222 : BitVec 32 := Scalar.muli arg14 c512_i32_104
  let v223 : BitVec 32 := v222
  let v237 : Index := Scalar.indexCast v223
  let c0_106 : Index := 0#32
  ![v237.toNat, 0]
@[reducible] def k0_t16_loop (i : grid0.Coords) : Scf.Loop 32 :=
  let c0_i32_76 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v173 : BitVec 32 := Scalar.subi v29 c0_i32_76
  let c1_i32_77 : BitVec 32 := 1#32
  let v175 : BitVec 32 := Scalar.divsi v173 c1_i32_77
  let v176 : BitVec 32 := Scalar.muli v175 c1_i32_77
  let v177 : BitVec 32 := Scalar.addi c0_i32_76 v176
  let v174 : BitVec 32 := Scalar.addi c0_i32_76 v173
  let c1_i32_79 : BitVec 32 := 1#32
  ⟨v177, v174, c1_i32_79⟩
def k0_mult14 (i : grid0.Coords) (k0_t16 : Fin (k0_t16_loop i).trips) : BitVec 32 :=
  let c0_i32_76 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v173 : BitVec 32 := Scalar.subi v29 c0_i32_76
  let c1_i32_77 : BitVec 32 := 1#32
  let v175 : BitVec 32 := Scalar.divsi v173 c1_i32_77
  let v176 : BitVec 32 := Scalar.muli v175 c1_i32_77
  let v177 : BitVec 32 := Scalar.addi c0_i32_76 v176
  let c1_i32_79 : BitVec 32 := 1#32
  let arg14 : BitVec 32 := Scf.iv v177 c1_i32_79 k0_t16
  let c512_i32_104 : BitVec 32 := 512#32
  let v222 : BitVec 32 := Scalar.muli arg14 c512_i32_104
  v222
def k0_off17 (i : grid0.Coords) (k0_t16 : Fin (k0_t16_loop i).trips) : Fin 2 → Nat :=
  let c0_105 : Index := 0#32
  let c0_i32_76 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v173 : BitVec 32 := Scalar.subi v29 c0_i32_76
  let c1_i32_77 : BitVec 32 := 1#32
  let v175 : BitVec 32 := Scalar.divsi v173 c1_i32_77
  let v176 : BitVec 32 := Scalar.muli v175 c1_i32_77
  let v177 : BitVec 32 := Scalar.addi c0_i32_76 v176
  let c1_i32_79 : BitVec 32 := 1#32
  let arg14 : BitVec 32 := Scf.iv v177 c1_i32_79 k0_t16
  let c512_i32_104 : BitVec 32 := 512#32
  let v222 : BitVec 32 := Scalar.muli arg14 c512_i32_104
  let v223 : BitVec 32 := v222
  let v227 : Index := Scalar.indexCast v223
  ![0, v227.toNat]
def k0_off18 (i : grid0.Coords) (k0_t16 : Fin (k0_t16_loop i).trips) : Fin 2 → Nat :=
  let c0_i32_76 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v10 : BitVec 32 := Scalar.addi v0 c128_i32_0
  let c512_i32 : BitVec 32 := 512#32
  let v11 : BitVec 32 := Scalar.addi v10 c512_i32
  let c1_i32_1 : BitVec 32 := 1#32
  let v12 : BitVec 32 := Scalar.subi v11 c1_i32_1
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let v173 : BitVec 32 := Scalar.subi v29 c0_i32_76
  let c1_i32_77 : BitVec 32 := 1#32
  let v175 : BitVec 32 := Scalar.divsi v173 c1_i32_77
  let v176 : BitVec 32 := Scalar.muli v175 c1_i32_77
  let v177 : BitVec 32 := Scalar.addi c0_i32_76 v176
  let c1_i32_79 : BitVec 32 := 1#32
  let arg14 : BitVec 32 := Scf.iv v177 c1_i32_79 k0_t16
  let c512_i32_104 : BitVec 32 := 512#32
  let v222 : BitVec 32 := Scalar.muli arg14 c512_i32_104
  let v223 : BitVec 32 := v222
  let v237 : Index := Scalar.indexCast v223
  let c0_106 : Index := 0#32
  ![v237.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Sample.lean ====
abbrev S10240x1024 : Shape := ⟨2, ![10240, 1024]⟩
abbrev S10240x512 : Shape := ⟨2, ![10240, 512]⟩
abbrev S10240x128 : Shape := ⟨2, ![10240, 128]⟩
abbrev S10240x256 : Shape := ⟨2, ![10240, 256]⟩
abbrev S32x2048x256 : Shape := ⟨3, ![32, 2048, 256]⟩
abbrev S32x2048x128 : Shape := ⟨3, ![32, 2048, 128]⟩
abbrev S2048x1024 : Shape := ⟨2, ![2048, 1024]⟩
abbrev S64x1024 : Shape := ⟨2, ![64, 1024]⟩
abbrev S64x512 : Shape := ⟨2, ![64, 512]⟩
abbrev S64x128 : Shape := ⟨2, ![64, 128]⟩
abbrev S64x256 : Shape := ⟨2, ![64, 256]⟩
abbrev S1x2048x256 : Shape := ⟨3, ![1, 2048, 256]⟩
abbrev S1x2048x128 : Shape := ⟨3, ![1, 2048, 128]⟩
abbrev S64x2176 : Shape := ⟨2, ![64, 2176]⟩
abbrev S64x1 : Shape := ⟨2, ![64, 1]⟩
abbrev S2x4x64x1 : Shape := ⟨4, ![2, 4, 64, 1]⟩
abbrev S2x4x64x128 : Shape := ⟨4, ![2, 4, 64, 128]⟩
abbrev S1x512x128 : Shape := ⟨3, ![1, 512, 128]⟩
abbrev S512x128 : Shape := ⟨2, ![512, 128]⟩
abbrev S128x128 : Shape := ⟨2, ![128, 128]⟩
abbrev S64 : Shape := ⟨1, ![64]⟩
abbrev S1x64x1 : Shape := ⟨3, ![1, 64, 1]⟩
abbrev S1 : Shape := ⟨1, ![1]⟩
abbrev S1x1x1 : Shape := ⟨3, ![1, 1, 1]⟩
abbrev S256x128 : Shape := ⟨2, ![256, 128]⟩
abbrev S1x512x256 : Shape := ⟨3, ![1, 512, 256]⟩
abbrev S512x256 : Shape := ⟨2, ![512, 256]⟩
abbrev S256x512 : Shape := ⟨2, ![256, 512]⟩
abbrev S1x64x512 : Shape := ⟨3, ![1, 64, 512]⟩
abbrev S4x64x512 : Shape := ⟨3, ![4, 64, 512]⟩
abbrev S1x4x64x1 : Shape := ⟨4, ![1, 4, 64, 1]⟩
abbrev S4x64x1 : Shape := ⟨3, ![4, 64, 1]⟩
abbrev S4x64 : Shape := ⟨2, ![4, 64]⟩
abbrev S1x4x64x128 : Shape := ⟨4, ![1, 4, 64, 128]⟩
abbrev S4x64x128 : Shape := ⟨3, ![4, 64, 128]⟩
abbrev S128x256 : Shape := ⟨2, ![128, 256]⟩
abbrev S1x64x128 : Shape := ⟨3, ![1, 64, 128]⟩

abbrev nBuf : Space → Nat
  | .hbm => 10
  | .vmem => 25
  | .smem => 0
  | _ => 0

abbrev bufTy : (tb : Table) → Fin (tcTables nBuf tb) → BufTy
  | .hbm, ⟨0, _⟩ => ⟨S10240x1024, .bf16⟩
  | .hbm, ⟨1, _⟩ => ⟨S10240x512, .bf16⟩
  | .hbm, ⟨2, _⟩ => ⟨S10240x128, .f32⟩
  | .hbm, ⟨3, _⟩ => ⟨S10240x256, .bf16⟩
  | .hbm, ⟨4, _⟩ => ⟨S10240x256, .bf16⟩
  | .hbm, ⟨5, _⟩ => ⟨S10240x128, .bf16⟩
  | .hbm, ⟨6, _⟩ => ⟨S32x2048x256, .f32⟩
  | .hbm, ⟨7, _⟩ => ⟨S32x2048x256, .f32⟩
  | .hbm, ⟨8, _⟩ => ⟨S32x2048x128, .bf16⟩
  | .hbm, ⟨9, _⟩ => ⟨S2048x1024, .bf16⟩
  | .local _ .vmem, ⟨0, _⟩ => ⟨S64x1024, .bf16⟩
  | .local _ .vmem, ⟨1, _⟩ => ⟨S64x1024, .bf16⟩
  | .local _ .vmem, ⟨2, _⟩ => ⟨S64x512, .bf16⟩
  | .local _ .vmem, ⟨3, _⟩ => ⟨S64x512, .bf16⟩
  | .local _ .vmem, ⟨4, _⟩ => ⟨S64x128, .f32⟩
  | .local _ .vmem, ⟨5, _⟩ => ⟨S64x128, .f32⟩
  | .local _ .vmem, ⟨6, _⟩ => ⟨S64x256, .bf16⟩
  | .local _ .vmem, ⟨7, _⟩ => ⟨S64x256, .bf16⟩
  | .local _ .vmem, ⟨8, _⟩ => ⟨S64x256, .bf16⟩
  | .local _ .vmem, ⟨9, _⟩ => ⟨S64x256, .bf16⟩
  | .local _ .vmem, ⟨10, _⟩ => ⟨S64x128, .bf16⟩
  | .local _ .vmem, ⟨11, _⟩ => ⟨S64x128, .bf16⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x128, .bf16⟩
  | .local _ .vmem, ⟨17, _⟩ => ⟨S1x2048x128, .bf16⟩
  | .local _ .vmem, ⟨18, _⟩ => ⟨S64x1024, .bf16⟩
  | .local _ .vmem, ⟨19, _⟩ => ⟨S64x1024, .bf16⟩
  | .local _ .vmem, ⟨20, _⟩ => ⟨S64x2176, .i32⟩
  | .local _ .vmem, ⟨21, _⟩ => ⟨S64x1, .i32⟩
  | .local _ .vmem, ⟨22, _⟩ => ⟨S2x4x64x1, .f32⟩
  | .local _ .vmem, ⟨23, _⟩ => ⟨S2x4x64x1, .f32⟩
  | .local _ .vmem, ⟨24, _⟩ => ⟨S2x4x64x128, .f32⟩
  | _, _ => ⟨S10240x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32 : BitVec 32 := 0#32
  let c17_i32 : BitVec 32 := 17#32
  let v381 : BitVec 32 := Scalar.addi c0_i32 c17_i32
  let c1_i32 : BitVec 32 := 1#32
  ⟨c0_i32, v381, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32 : BitVec 32 := 128#32
  let v1065 : BitVec 32 := Scalar.muli arg16 c128_i32
  v1065
def k0_off1 (k0_t1 : Fin k0_t1_loop.trips) : Fin 2 → Nat :=
  let c0_552 : Index := 0#32
  let c0_i32 : BitVec 32 := 0#32
  let c1_i32 : BitVec 32 := 1#32
  let arg16 : BitVec 32 := Scf.iv c0_i32 c1_i32 k0_t1
  let c128_i32 : BitVec 32 := 128#32
  let v1065 : BitVec 32 := Scalar.muli arg16 c128_i32
  let v1066 : BitVec 32 := v1065
  let c0_i32_551 : BitVec 32 := 0#32
  let v1067 : BitVec 32 := Scalar.addi v1066 c0_i32_551
  let v1068 : Index := Scalar.indexCast v1067
  ![0, v1068.toNat]
@[reducible] def k0_t2_loop : Scf.Loop 32 :=
  let c0_i32_141 : BitVec 32 := 0#32
  let c31_i32_142 : BitVec 32 := 31#32
  let v389 : BitVec 32 := Scalar.addi c0_i32_141 c31_i32_142
  let c1_i32_143 : BitVec 32 := 1#32
  ⟨c0_i32_141, v389, c1_i32_143⟩
@[reducible] def k0_t3_loop : Scf.Loop 32 :=
  let c0_i32_553 : BitVec 32 := 0#32
  let c17_i32_554 : BitVec 32 := 17#32
  let v1072 : BitVec 32 := Scalar.addi c0_i32_553 c17_i32_554
  let c1_i32_555 : BitVec 32 := 1#32
  ⟨c0_i32_553, v1072, c1_i32_555⟩
def k0_mult2 (k0_t3 : Fin k0_t3_loop.trips) : BitVec 32 :=
  let c0_i32_553 : BitVec 32 := 0#32
  let c1_i32_555 : BitVec 32 := 1#32
  let arg18 : BitVec 32 := Scf.iv c0_i32_553 c1_i32_555 k0_t3
  let c128_i32 : BitVec 32 := 128#32
  let v1078 : BitVec 32 := Scalar.muli arg18 c128_i32
  v1078
def k0_off2 (k0_t3 : Fin k0_t3_loop.trips) : Fin 2 → Nat :=
  let c0_559 : Index := 0#32
  let c0_i32_553 : BitVec 32 := 0#32
  let c1_i32_555 : BitVec 32 := 1#32
  let arg18 : BitVec 32 := Scf.iv c0_i32_553 c1_i32_555 k0_t3
  let c128_i32 : BitVec 32 := 128#32
  let v1078 : BitVec 32 := Scalar.muli arg18 c128_i32
  let v1079 : BitVec 32 := v1078
  let c0_i32_558 : BitVec 32 := 0#32
  let v1080 : BitVec 32 := Scalar.addi v1079 c0_i32_558
  let v1081 : Index := Scalar.indexCast v1080
  ![0, v1081.toNat]
@[reducible] def k0_t4_loop : Scf.Loop 32 :=
  let c0_i32_146 : BitVec 32 := 0#32
  let c17_i32_147 : BitVec 32 := 17#32
  let v394 : BitVec 32 := Scalar.addi c0_i32_146 c17_i32_147
  let c1_i32_148 : BitVec 32 := 1#32
  ⟨c0_i32_146, v394, c1_i32_148⟩
def k0_mult3 (k0_t4 : Fin k0_t4_loop.trips) : BitVec 32 :=
  let c0_i32_146 : BitVec 32 := 0#32
  let c1_i32_148 : BitVec 32 := 1#32
  let arg16 : BitVec 32 := Scf.iv c0_i32_146 c1_i32_148 k0_t4
  let c128_i32 : BitVec 32 := 128#32
  let v1065 : BitVec 32 := Scalar.muli arg16 c128_i32
  v1065
def k0_off3 (k0_t4 : Fin k0_t4_loop.trips) : Fin 2 → Nat :=
  let c0_552 : Index := 0#32
  let c0_i32_146 : BitVec 32 := 0#32
  let c1_i32_148 : BitVec 32 := 1#32
  let arg16 : BitVec 32 := Scf.iv c0_i32_146 c1_i32_148 k0_t4
  let c128_i32 : BitVec 32 := 128#32
  let v1065 : BitVec 32 := Scalar.muli arg16 c128_i32
  let v1066 : BitVec 32 := v1065
  let c0_i32_551 : BitVec 32 := 0#32
  let v1067 : BitVec 32 := Scalar.addi v1066 c0_i32_551
  let v1068 : Index := Scalar.indexCast v1067
  ![0, v1068.toNat]
@[reducible] def k0_t5_loop : Scf.Loop 32 :=
  let c0_i32_552 : BitVec 32 := 0#32
  let c17_i32_553 : BitVec 32 := 17#32
  let v1066 : BitVec 32 := Scalar.addi c0_i32_552 c17_i32_553
  let c1_i32_554 : BitVec 32 := 1#32
  ⟨c0_i32_552, v1066, c1_i32_554⟩
def k0_mult4 (k0_t5 : Fin k0_t5_loop.trips) : BitVec 32 :=
  let c0_i32_552 : BitVec 32 := 0#32
  let c1_i32_554 : BitVec 32 := 1#32
  let arg16 : BitVec 32 := Scf.iv c0_i32_552 c1_i32_554 k0_t5
  let c128_i32 : BitVec 32 := 128#32
  let v1077 : BitVec 32 := Scalar.muli arg16 c128_i32
  v1077
def k0_off4 (k0_t5 : Fin k0_t5_loop.trips) : Fin 2 → Nat :=
  let c0_564 : Index := 0#32
  let c0_i32_552 : BitVec 32 := 0#32
  let c1_i32_554 : BitVec 32 := 1#32
  let arg16 : BitVec 32 := Scf.iv c0_i32_552 c1_i32_554 k0_t5
  let c128_i32 : BitVec 32 := 128#32
  let v1077 : BitVec 32 := Scalar.muli arg16 c128_i32
  let v1078 : BitVec 32 := v1077
  let c0_i32_563 : BitVec 32 := 0#32
  let v1079 : BitVec 32 := Scalar.addi v1078 c0_i32_563
  let v1080 : Index := Scalar.indexCast v1079
  ![0, v1080.toNat]
@[reducible] def k0_t6_loop : Scf.Loop 32 :=
  let c0_i32_558 : BitVec 32 := 0#32
  let c13_i32 : BitVec 32 := 13#32
  let v1072 : BitVec 32 := Scalar.addi c0_i32_558 c13_i32
  let c1_i32_559 : BitVec 32 := 1#32
  ⟨c0_i32_558, v1072, c1_i32_559⟩
@[reducible] def k0_t7_loop : Scf.Loop 32 :=
  let c0_i32_565 : BitVec 32 := 0#32
  let c17_i32_566 : BitVec 32 := 17#32
  let v1084 : BitVec 32 := Scalar.addi c0_i32_565 c17_i32_566
  let c1_i32_567 : BitVec 32 := 1#32
  ⟨c0_i32_565, v1084, c1_i32_567⟩
def k0_mult5 (k0_t7 : Fin k0_t7_loop.trips) : BitVec 32 :=
  let c0_i32_565 : BitVec 32 := 0#32
  let c1_i32_567 : BitVec 32 := 1#32
  let arg18 : BitVec 32 := Scf.iv c0_i32_565 c1_i32_567 k0_t7
  let c128_i32 : BitVec 32 := 128#32
  let v1093 : BitVec 32 := Scalar.muli arg18 c128_i32
  v1093
def k0_off5 (k0_t7 : Fin k0_t7_loop.trips) : Fin 2 → Nat :=
  let c0_572 : Index := 0#32
  let c0_i32_565 : BitVec 32 := 0#32
  let c1_i32_567 : BitVec 32 := 1#32
  let arg18 : BitVec 32 := Scf.iv c0_i32_565 c1_i32_567 k0_t7
  let c128_i32 : BitVec 32 := 128#32
  let v1093 : BitVec 32 := Scalar.muli arg18 c128_i32
  let v1094 : BitVec 32 := v1093
  let c0_i32_571 : BitVec 32 := 0#32
  let v1095 : BitVec 32 := Scalar.addi v1094 c0_i32_571
  let v1096 : Index := Scalar.indexCast v1095
  ![0, v1096.toNat]
def cc0_transform_0 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Proof.DenseRef.lean ====
module

public import proofs.«01_k».proof.Proof.Gen.DenseRefIdeal.Run
public import Idealize.ShloMosaic.Lib.Pointwise

@[expose] public section

set_option maxRecDepth 16384

noncomputable section

namespace Cert.DenseRefIdeal.Spec

open Cert.DenseRefIdeal Cert.DenseRefIdeal.Gen Idealize.ShloMosaic Idealize.ShloMosaic.TcCoe

/-- The hidden activation of every token against every expert: the token's dot product with the expert's row. -/
def act (a0 : FVec Ideal S2048x10240 .bf16) (a1 : FVec Ideal S16384x2048 .f32) : FVec Ideal S10240x16384 .f32 :=
  Host.dotGeneral dot_S10240x2048_S16384x2048_S10240x16384_1_1_0_0_n_n none (transpose S10240x2048 [1, 0] (extf .f32 a0 bitsLt_bf16_f32) transposes_S2048x10240_S10240x2048_1_0) a1

/-- The second factor's score per head, from the stacked scores. -/
def s2 (a6 : FVec Ideal S16x128x10240 .f32) : FVec Ideal S8x128x10240 .f32 :=
  shapeCast _ (extractStridedSlice S8x1x128x10240 ![0, 1, 0, 0] (shapeCast _ a6 shapeCasts_S16x128x10240_S8x2x128x10240) slices_S8x2x128x10240_S8x1x128x10240_0_1_0_0) shapeCasts_S8x1x128x10240_S8x128x10240

/-- Every head's share of the routing weight of the expert (r, n): a r times b n where the second score reaches the row's threshold, zero elsewhere. -/
def share (a3 a4 a5 s : FVec Ideal S8x128x10240 .f32) : FVec Ideal S8x128x128x10240 .f32 :=
  select (cmpf .oge (broadcastInDim S8x128x128x10240 ![0, 1, 2, 3] bcast_S8x1x128x10240_S8x128x128x10240_0_1_2_3 (broadcastInDim S8x1x128x10240 ![0, 2, 3] bcast_S8x128x10240_S8x1x128x10240_0_2_3 s)) (broadcastInDim S8x128x128x10240 ![0, 1, 2, 3] bcast_S8x128x1x10240_S8x128x128x10240_0_1_2_3 (broadcastInDim S8x128x1x10240 ![0, 1, 3] bcast_S8x128x10240_S8x128x1x10240_0_1_3 a5))) (mulf (broadcastInDim S8x128x128x10240 ![0, 1, 2, 3] bcast_S8x128x1x10240_S8x128x128x10240_0_1_2_3 (broadcastInDim S8x128x1x10240 ![0, 1, 3] bcast_S8x128x10240_S8x128x1x10240_0_1_3 a3)) (broadcastInDim S8x128x128x10240 ![0, 1, 2, 3] bcast_S8x1x128x10240_S8x128x128x10240_0_1_2_3 (broadcastInDim S8x1x128x10240 ![0, 2, 3] bcast_S8x128x10240_S8x1x128x10240_0_2_3 a4))) (broadcastInDim S8x128x128x10240 ![] bcast_S_S8x128x128x10240 (constant (F := Ideal) S_ .f32 0x00000000#32))

/-- The routing weight of every token for every expert: the heads' shares added. -/
def gate (w : FVec Ideal S8x128x128x10240 .f32) : FVec Ideal S10240x16384 .f32 :=
  transpose S10240x16384 [1, 0] (shapeCast _ (Host.reduceAdd w (constant (F := Ideal) S_ .f32 0x00000000#32) reducesTo_S8x128x128x10240_S128x128x10240_d0 h_S_) shapeCasts_S128x128x10240_S16384x10240) transposes_S16384x10240_S10240x16384_1_0

/-- The tanh form of GELU, entry by entry. -/
def gelu (x : FVec Ideal S10240x16384 .f32) : FVec Ideal S10240x16384 .f32 :=
  mulf x (mulf (broadcastInDim S10240x16384 ![] bcast_S_S10240x16384 (constant (F := Ideal) S_ .f32 0x3F000000#32)) (addf (broadcastInDim S10240x16384 ![] bcast_S_S10240x16384 (constant (F := Ideal) S_ .f32 0x3F800000#32)) (Host.tanh (mulf (broadcastInDim S10240x16384 ![] bcast_S_S10240x16384 (constant (F := Ideal) S_ .f32 0x3F4C422A#32)) (addf x (mulf (broadcastInDim S10240x16384 ![] bcast_S_S10240x16384 (constant (F := Ideal) S_ .f32 0x3D372713#32)) (mulf (mulf x x) x)))))))

/-- What the reference returns, as a function of its arguments. -/
def out (a0 : FVec Ideal S2048x10240 .bf16) (a1 : FVec Ideal S16384x2048 .f32) (a2 : FVec Ideal S16384x2048 .f32) (a3 : FVec Ideal S8x128x10240 .f32) (a4 : FVec Ideal S8x128x10240 .f32) (a5 : FVec Ideal S8x128x10240 .f32) (a6 : FVec Ideal S16x128x10240 .f32) : FVec Ideal S10240x2048 .f32 :=
  Host.dotGeneral dot_S10240x16384_S16384x2048_S10240x2048_1_0_0_1_n_n none (mulf (gate (share a3 a4 a5 (s2 a6))) (gelu (act a0 a1))) a2

end Cert.DenseRefIdeal.Spec

end
-- ==== Proof.DenseLoop.lean ====
module

public import proofs.«01_k».proof.Proof.Gen.DenseIdeal.Value
public import proofs.«01_k».proof.Proof.DenseRef
public import Idealize.ShloMosaic.Lib.Pipeline.ValueKit
public import Idealize.ShloMosaic.Lib.Claim

@[expose] public section

set_option maxRecDepth 16384

noncomputable section

namespace Cert.DenseIdeal.Value

open Cert.DenseIdeal Cert.DenseIdeal.Gen Idealize.ShloMosaic Idealize.ShloMosaic.TcCoe Idealize.SL.Sem
open Idealize.ShloMosaic.Pipeline (Dat)

/-- One head's share of the routing weight of expert (r, n) for token l of a block. -/
def term (x3 x4 x5 : Vec Ideal S8x128x512 .f32) (x6 : Vec Ideal S8x1x128x512 .f32) (h : Fin 8) (r n : Fin 128) (l : Fin 512) : EReal :=
  if x5 (ix3 h r l) ≤ x6 (ix4 h 0 n l) then x3 (ix3 h r l) * x4 (ix3 h n l) else 0

/-- The tanh form of GELU at one number, as the kernel multiplies it out. -/
def geluAt (x : EReal) : EReal :=
  Ideal.ofBits FTy.f32 1056964608#32 * x * (1 + Ideal.tanh (Ideal.ofBits FTy.f32 1061962282#32 * (x + Ideal.ofBits FTy.f32 1027024659#32 * (x * x * x))))

/-- The coefficient of expert (r, n) for token l: the heads' shares added, times the GELU of the hidden activation `a`. -/
def coefOf (a : EReal) (x3 x4 x5 : Vec Ideal S8x128x512 .f32) (x6 : Vec Ideal S8x1x128x512 .f32) (r n : Fin 128) (l : Fin 512) : EReal :=
  (∑ h : Fin 8, term x3 x4 x5 x6 h r n l) * geluAt a

/-- The coefficients of a block of 512 experts (the block's number is `j`) and 512 tokens, from the hidden activations `a`. -/
def coef (a : Vec Ideal S512x512 .f32) (x3 x4 x5 : Vec Ideal S8x128x512 .f32) (x6 : Vec Ideal S8x1x128x512 .f32) (j : Fin 32) (y : S512x512.Idx) : EReal :=
  coefOf (a y) x3 x4 x5 x6 ⟨4 * j.val + (y 0).val / 128, by have h : (y 0).val < 512 := (y 0).isLt; omega⟩ ⟨(y 0).val % 128, Nat.mod_lt _ (by omega)⟩ (y 1)

/-- The coefficient at an index whose row and lane are given. -/
theorem coef_at (a : Vec Ideal S512x512 .f32) (x3 x4 x5 : Vec Ideal S8x128x512 .f32) (x6 : Vec Ideal S8x1x128x512 .f32) (j : Fin 32) (q : ℕ) (hq : q < 4) (n : Fin 128) (l : Fin 512) (y : S512x512.Idx)
    (h0 : (y 0).val = 128 * q + n.val) (h1 : (y 1).val = l.val) :
    coef a x3 x4 x5 x6 j y = coefOf (a (ix2 ⟨128 * q + n.val, by omega⟩ l)) x3 x4 x5 x6 ⟨4 * j.val + q, by omega⟩ n l := by
  unfold coef
  have e0 : (y 0).val / 128 = q := by omega
  have e1 : (y 0).val % 128 = n.val := by omega
  have e2 : y 1 = l := Fin.ext h1
  have e3 : y = ix2 ⟨128 * q + n.val, by omega⟩ l := (eq_ix2 y).trans (congrArg₂ ix2 (Fin.ext h0) e2)
  simp only [e0, e1, e2]
  rw [← e3]

/-- Where trip `k` starts in the lanes. -/
theorem col (k : Fin k0_t1_loop.trips) : BitVec.toNat (Scalar.indexCast (Scalar.muli (Scf.iv 0#32 1#32 k.val) 256#32)) = 256 * k.val := by
  revert k; decide +kernel

/-- Which row of the tables the `r`th quarter of expert block `j` reads. -/
theorem row (r : Fin 4) (j : Fin 32) : BitVec.toNat (Scalar.indexCast (Scalar.addi (Scalar.muli (BitVec.ofNat 32 j.val) 4#32) (BitVec.ofNat 32 r.val))) = 4 * j.val + r.val := by
  revert r j; decide +kernel

set_option maxHeartbeats 1600000 in
/-- Every store of one trip of the lane loop holds the coefficients of the rectangle it names. -/
theorem trip_pieces (c : Dev nD) (t : Fin cfg0.N) (x3 x4 x5 : Vec Ideal S8x128x512 .f32) (x6 : Vec Ideal S8x1x128x512 .f32) (f) (a : Vec Ideal S512x512 .f32) (hf : View.read (Elt Ideal) scM0_1.view f = a) (k) :
    ∀ p ∈ tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (BitVec.ofNat 32 (grid0.coords t 1).val) ((hs0_3 t).unread x3) ((hs0_4 t).unread x4) ((hs0_5 t).unread x5) ((hs0_6 t).unread x6) f k, ∀ x, p.2 x = coef a x3 x4 x5 x6 (grid0.coords t 1) (p.1.emb x) := by
  have r0 := row 0 (grid0.coords t 1)
  have r1 := row 1 (grid0.coords t 1)
  have r2 := row 2 (grid0.coords t 1)
  have r3 := row 3 (grid0.coords t 1)
  have hk := col k
  have hk2 : k.val < 2 := Nat.lt_of_lt_of_le k.isLt k0_t1_abs.2.1
  simp only [Fin.isValue, Fin.val_zero, Fin.val_one, Fin.val_two, Fin.reduceFinMk, Fin.coe_ofNat_eq_mod, Nat.reduceMod] at r0 r1 r2 r3
  unfold tripL_k0_t1 trip_k0_t1
  dsimp only
  sl_unfold_words
  simp only [View.readAt_eq_ld, Memref.IsWhole.read_unread, hf, List.forall_mem_cons]
  refine ⟨fun x => ?_, fun x => ?_, fun x => ?_, fun x => ?_, by simp⟩
  · have b0 : (x 0).val < 128 := (x 0).isLt
    have b1 : (x 1).val < 256 := (x 1).isLt
    refine Eq.trans ?_ (coef_at a x3 x4 x5 x6 (grid0.coords t 1) 3 (by omega) (x 0) ⟨256 * k.val + (x 1).val, by omega⟩ _ ?_ ?_).symm
    · unfold coefOf geluAt
      rw [Fin.sum_univ_eight]
      unfold term
      pointwise [k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      simp only [hk, r3, Nat.reduceMul, Nat.mul_zero, Nat.mul_one, Nat.zero_add, Nat.add_zero]
    · exact (ValueKit.rect_emb_unit_val _ _ _ x 0).trans (by first | rfl | (show 0 + (x 0).val = 128 * 0 + (x 0).val; omega))
    · exact (ValueKit.rect_emb_unit_val _ _ _ x 1).trans (congrArg (· + (x 1).val) hk)
  · have b0 : (x 0).val < 128 := (x 0).isLt
    have b1 : (x 1).val < 256 := (x 1).isLt
    refine Eq.trans ?_ (coef_at a x3 x4 x5 x6 (grid0.coords t 1) 2 (by omega) (x 0) ⟨256 * k.val + (x 1).val, by omega⟩ _ ?_ ?_).symm
    · unfold coefOf geluAt
      rw [Fin.sum_univ_eight]
      unfold term
      pointwise [k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      simp only [hk, r2, Nat.reduceMul, Nat.mul_zero, Nat.mul_one, Nat.zero_add, Nat.add_zero]
    · exact (ValueKit.rect_emb_unit_val _ _ _ x 0).trans (by first | rfl | (show 0 + (x 0).val = 128 * 0 + (x 0).val; omega))
    · exact (ValueKit.rect_emb_unit_val _ _ _ x 1).trans (congrArg (· + (x 1).val) hk)
  · have b0 : (x 0).val < 128 := (x 0).isLt
    have b1 : (x 1).val < 256 := (x 1).isLt
    refine Eq.trans ?_ (coef_at a x3 x4 x5 x6 (grid0.coords t 1) 1 (by omega) (x 0) ⟨256 * k.val + (x 1).val, by omega⟩ _ ?_ ?_).symm
    · unfold coefOf geluAt
      rw [Fin.sum_univ_eight]
      unfold term
      pointwise [k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      simp only [hk, r1, Nat.reduceMul, Nat.mul_zero, Nat.mul_one, Nat.zero_add, Nat.add_zero]
    · exact (ValueKit.rect_emb_unit_val _ _ _ x 0).trans (by first | rfl | (show 0 + (x 0).val = 128 * 0 + (x 0).val; omega))
    · exact (ValueKit.rect_emb_unit_val _ _ _ x 1).trans (congrArg (· + (x 1).val) hk)
  · have b0 : (x 0).val < 128 := (x 0).isLt
    have b1 : (x 1).val < 256 := (x 1).isLt
    refine Eq.trans ?_ (coef_at a x3 x4 x5 x6 (grid0.coords t 1) 0 (by omega) (x 0) ⟨256 * k.val + (x 1).val, by omega⟩ _ ?_ ?_).symm
    · unfold coefOf geluAt
      rw [Fin.sum_univ_eight]
      unfold term
      pointwise [k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      simp only [hk, r0, Nat.reduceMul, Nat.mul_zero, Nat.mul_one, Nat.zero_add, Nat.add_zero]
    · exact (ValueKit.rect_emb_unit_val _ _ _ x 0).trans (by first | rfl | (show 0 + (x 0).val = 128 * 0 + (x 0).val; omega))
    · exact (ValueKit.rect_emb_unit_val _ _ _ x 1).trans (congrArg (· + (x 1).val) hk)

/-- Every store of the first `n` trips is a store of one of them. -/
theorem mem_pb (c : Dev nD) (t : Fin cfg0.N) (x3 x4 x5 : Vec Ideal S8x128x512 .f32) (x6 : Vec Ideal S8x1x128x512 .f32) (f) (n : ℕ) :
    ∀ p ∈ pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (BitVec.ofNat 32 (grid0.coords t 1).val) ((hs0_3 t).unread x3) ((hs0_4 t).unread x4) ((hs0_5 t).unread x5) ((hs0_6 t).unread x6) f n, ∃ k, p ∈ tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (BitVec.ofNat 32 (grid0.coords t 1).val) ((hs0_3 t).unread x3) ((hs0_4 t).unread x4) ((hs0_5 t).unread x5) ((hs0_6 t).unread x6) f k := by
  induction n with
  | zero => intro p hp; rw [pb_k0_t1.eq_1] at hp; simp at hp
  | succ n ih =>
    intro p hp
    rw [pb_k0_t1.eq_2] at hp
    unfold pb_k0_t1Step at hp
    by_cases hn : n < k0_t1_loop.trips
    · rw [dif_pos hn] at hp
      rcases List.mem_append.mp hp with h | h
      · exact ⟨_, h⟩
      · exact ih p h
    · rw [dif_neg hn] at hp
      exact ih p hp

/-- What the loop leaves in the coefficient scratch, read back whole. -/
theorem loop_read (c : Dev nD) (t : Fin cfg0.N) (x3 x4 x5 : Vec Ideal S8x128x512 .f32) (x6 : Vec Ideal S8x1x128x512 .f32) (f) (a : Vec Ideal S512x512 .f32) (hf : View.read (Elt Ideal) scM0_1.view f = a) (y : S512x512.Idx) :
    View.readCov (View.whole cc0_scratch2) (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (BitVec.ofNat 32 (grid0.coords t 1).val) ((hs0_3 t).unread x3) ((hs0_4 t).unread x4) ((hs0_5 t).unread x5) ((hs0_6 t).unread x6) f (Scf.trips 0#32 (Scalar.addi 0#32 2#32) 1#32)) (Rect.unit (s := S512x512) ![0, 0] ![512, 512] inb_S512x512_S512x512_0_0).toLoadRect y
      = coef a x3 x4 x5 x6 (grid0.coords t 1) y := by
  rw [View.readCov_eq_canon']
  refine (View.canon_apply_of_pieces (coef a x3 x4 x5 x6 (grid0.coords t 1)) _ ?_ _ ?_).trans ?_
  · intro p hp
    obtain ⟨k, hk⟩ := mem_pb c t x3 x4 x5 x6 f _ p hp
    exact trip_pieces c t x3 x4 x5 x6 f a hf k p hk
  · exact View.cover_of_tiledL (s := S512x512) (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (BitVec.ofNat 32 (grid0.coords t 1).val) ((hs0_3 t).unread x3) ((hs0_4 t).unread x4) ((hs0_5 t).unread x5) ((hs0_6 t).unread x6) f (Scf.trips 0#32 (Scalar.addi 0#32 2#32) 1#32)) S128x256.size (by sl_kernel_rfl) _
  · exact congrArg (coef a x3 x4 x5 x6 (grid0.coords t 1)) (funext fun q => Fin.ext ((ValueKit.rect_emb_unit_val (s := S512x512) ![0, 0] ![512, 512] inb_S512x512_S512x512_0_0 y q).trans (by fin_cases q <;> exact Nat.zero_add _)))

end Cert.DenseIdeal.Value

end
-- ==== Proof.DenseValue.lean ====
module

public import proofs.«01_k».proof.Proof.Gen.DenseIdeal.Value
public import proofs.«01_k».proof.Proof.DenseLoop
public import Idealize.ShloMosaic.Lib.Pipeline.ValueKit
public import Idealize.ShloMosaic.Lib.Claim

@[expose] public section

set_option maxRecDepth 16384

noncomputable section

namespace Cert.DenseIdeal.Value

open Cert.DenseIdeal Cert.DenseIdeal.Gen Idealize.ShloMosaic Idealize.ShloMosaic.TcCoe Idealize.SL.Sem
open Idealize.ShloMosaic.Pipeline (Dat)
open Cert.DenseRefIdeal.Spec (act s2 share gate gelu out)

variable (m : (ℓ : Loc nD τ sig) → Buf (Elt Ideal) ℓ)

/-- Which block each window moves at point `t`: tokens by the quotient, experts by the remainder. -/
theorem idx : ∀ t : Fin cfg0.N, win0_0.index t = ![0, t.val / 32] ∧ win0_1.index t = ![t.val % 32, 0] ∧ win0_2.index t = ![0, t.val % 32]
    ∧ win0_3.index t = ![0, 0, t.val / 32] ∧ win0_4.index t = ![0, 0, t.val / 32] ∧ win0_5.index t = ![0, 0, t.val / 32]
    ∧ win0_6.index t = ![0, 1, 0, t.val / 32] ∧ win0_7.index t = ![t.val / 32, 0] ∧ (grid0.coords t 1).val = t.val % 32 :=
  (by decide +kernel : ∀ t : Fin grid0.N, _)

/-- The first table as the region finds it: the argument, narrowed. -/
theorem V_v0 (c : Dev nD) : V m c main_v0 = (truncf .bf16 (m ((c : Thread nD τ).loc main_arg1)) bitsLt_bf16_f32 : FVec Ideal S16384x2048 .bf16) := by
  unfold V
  entry_read
  rfl

/-- The second table as the region finds it: the argument, transposed and narrowed. -/
theorem V_v2 (c : Dev nD) : V m c main_v2 = (truncf .bf16 (transpose S2048x16384 [1, 0] (m ((c : Thread nD τ).loc main_arg2)) transposes_S16384x2048_S2048x16384_1_0 : FVec Ideal S2048x16384 .f32) bitsLt_bf16_f32 : FVec Ideal S2048x16384 .bf16) := by
  unfold V
  entry_read
  rfl

/-- The scores as the region finds them: the argument with its first axis split. -/
theorem V_v3 (c : Dev nD) : V m c main_v3 = (shapeCast S8x2x128x10240 (m ((c : Thread nD τ).loc main_arg6)) shapeCasts_S16x128x10240_S8x2x128x10240 : FVec Ideal S8x2x128x10240 .f32) := by
  unfold V
  entry_read
  rfl

/-- The coefficients point `t` computes. -/
def coefAt (c : Dev nD) (t : Fin cfg0.N) (y : S512x512.Idx) : EReal :=
  coef (k0_pay2 (iblk m c 1 t) (iblk m c 0 t)) (iblk m c 3 t) (iblk m c 4 t) (iblk m c 5 t) (iblk m c 6 t) (grid0.coords t 1) y

/-- A block's product of the second table with coefficients, at an index. -/
def prod (v : Vec Ideal S2048x512 .bf16) (w : S512x512.Idx → EReal) (y : S2048x512.Idx) : EReal :=
  ∑ k : Fin 512, v (ix2 (y 0) k) * w (ix2 k (y 1))

/-- What point `t` adds to the accumulator at `y`. -/
def part (c : Dev nD) (t : Fin cfg0.N) (y : S2048x512.Idx) : EReal :=
  prod (iblk m c 2 t) (coefAt m c t) y

/-- The activation scratch holds what was stored over it whole. -/
theorem act_read (a : Vec Ideal S512x512 .f32) :
    View.read (Elt Ideal) scM0_1.view ((View.whole cc0_scratch1).writes (Elt Ideal) (View.whole cc0_scratch1).junk
      [⟨Rect.unit (s := S512x512) ![0, 0] ![512, 512] inb_S512x512_S512x512_0_0, a⟩]) = a := by
  refine (View.read_writes_junk_eq_canon _ _).trans ?_
  exact View.canon_unit_zero (by decide) _ _

/-- One step of the accumulation, at an index. -/
theorem step (c : Dev nD) (t : Fin cfg0.N) (acc : Vec Ideal S2048x512 .f32) (w : Vec Ideal S512x512 .bf16) (hw : ∀ y, w y = coefAt m c t y) (y : S2048x512.Idx) :
    k0_pay4 acc (iblk m c 2 t) w y = acc y + part m c t y := by
  unfold part prod
  pointwise [k0_pay4, hw]

set_option maxHeartbeats 1600000 in
/-- The accumulator at the end of a run over the experts: the parts added up. -/
theorem acc_last (c : Dev nD) (t : Fin cfg0.N) (hl : t.val % 32 = 31) (y : S2048x512.Idx) :
    (outsAt0 m c t.val t.isLt).2 y = ∑ s : Fin 32, part m c ⟨32 * (t.val / 32) + s.val, Pipeline.run_point_lt_of_flush t hl s⟩ y := by
  refine (Pipeline.eq_sum_fin_of_reset_step_apply_of_flush (fun n h => (outsAt0 m c n h).2) 32 (fun _ => (0 : EReal)) (part m c)
    (fun t h j => ?_) (fun t h j => ?_) t hl y).trans (zero_add _)
  · rw [outsAt0_A m c t h (by omega)]
    frame_out
    refine (step m c t _ _ (fun y => loop_read c t _ _ _ _ _ _ (act_read _) y) j).trans ?_
    refine congrArg (· + part m c t j) ?_
    pointwise [k0_pay1]
  · by_cases h1 : t.val % 32 = 31
    · rw [outsAt0_C m c t h h1]
      frame_out
      refine (step m c t _ _ (fun y => loop_read c t _ _ _ _ _ _ (act_read _) y) j).trans ?_
      exact congrArg (· + part m c t j) (congrFun (Memref.IsWhole.read_unread (Memref.isWhole_whole cc0_scratch0) _) j)
    · rw [outsAt0_B m c t h h1]
      frame_out
      refine (step m c t _ _ (fun y => loop_read c t _ _ _ _ _ _ (act_read _) y) j).trans ?_
      exact congrArg (· + part m c t j) (congrFun (Memref.IsWhole.read_unread (Memref.isWhole_whole cc0_scratch0) _) j)

set_option maxHeartbeats 1600000 in
/-- What the last point of a run leaves in the result window: the accumulator, transposed. -/
theorem out_last (c : Dev nD) (t : Fin cfg0.N) (hl : t.val % 32 = 31) :
    (outsAt0 m c t.val t.isLt).1 = k0_pay5 (outsAt0 m c t.val t.isLt).2 := by
  rw [outsAt0_C m c t (by omega) hl]
  frame_out

/-- One head's share in a block is its share in the whole arrays. -/
theorem term_at (c : Dev nD) (t : Fin cfg0.N) (h : Fin 8) (r n : Fin 128) (l : Fin 512) (i : Fin 10240) (hi : i.val = 512 * (t.val / 32) + l.val) :
    term (iblk m c 3 t) (iblk m c 4 t) (iblk m c 5 t) (iblk m c 6 t) h r n l
    = share (m ((c : Thread nD τ).loc main_arg3)) (m ((c : Thread nD τ).loc main_arg4)) (m ((c : Thread nD τ).loc main_arg5)) (s2 (m ((c : Thread nD τ).loc main_arg6))) (ix4 h r n i) := by
  have e3 : iblk m c 3 t (ix3 h r l) = (m ((c : Thread nD τ).loc main_arg3)) (ix3 h r i) := by blk_point [iblk, V_main_arg3, idx t]
  have e4 : iblk m c 4 t (ix3 h n l) = (m ((c : Thread nD τ).loc main_arg4)) (ix3 h n i) := by blk_point [iblk, V_main_arg4, idx t]
  have e5 : iblk m c 5 t (ix3 h r l) = (m ((c : Thread nD τ).loc main_arg5)) (ix3 h r i) := by blk_point [iblk, V_main_arg5, idx t]
  have e6 : iblk m c 6 t (ix4 h 0 n l) = s2 (m ((c : Thread nD τ).loc main_arg6)) (ix3 h n i) := by
    pointwise [s2]
    blk_point [iblk, V_v3, idx t]
  unfold term
  rw [e3, e4, e5, e6]
  pointwise [share]

/-- The hidden activation in a block is the activation in the whole array. -/
theorem act_at (c : Dev nD) (t : Fin cfg0.N) (e l : Fin 512) (q : Fin 16384) (i : Fin 10240) (hq : q.val = 512 * (t.val % 32) + e.val) (hi : i.val = 512 * (t.val / 32) + l.val) :
    k0_pay2 (iblk m c 1 t) (iblk m c 0 t) (ix2 e l) = act (m ((c : Thread nD τ).loc main_arg0)) (m ((c : Thread nD τ).loc main_arg1)) (ix2 i q) := by
  pointwise [k0_pay2, act]
  refine Fin.sum_fin_congr fun k => (mul_comm (G := EReal) _ _).trans ?_
  blk_point [iblk, V_main_arg0, V_v0, idx t]

/-- The second table's block entry is the argument's entry. -/
theorem tab_at (c : Dev nD) (t : Fin cfg0.N) (d : Fin 2048) (e : Fin 512) (q : Fin 16384) (p : Fin 2048) (hq : q.val = 512 * (t.val % 32) + e.val) (hp : p.val = d.val) :
    iblk m c 2 t (ix2 d e) = (m ((c : Thread nD τ).loc main_arg2)) (ix2 q p) := by
  blk_point [iblk, V_v2, idx t]

/-- The kernel's GELU is the reference's. -/
theorem gelu_at (x : FVec Ideal Cert.DenseRefIdeal.S10240x16384 .f32) (i : Fin 10240) (q : Fin 16384) : gelu x (ix2 i q) = geluAt (x (ix2 i q)) := by
  unfold geluAt
  pointwise [gelu]
  rw [mul_comm (Ideal.ofBits FTy.f32 1056964608#32) (x (ix2 i q))]
  exact (mul_assoc _ _ _).symm

/-- The reference's routing weight, as a sum over the heads. -/
theorem gate_at (w : FVec Ideal Cert.DenseRefIdeal.S8x128x128x10240 .f32) (i : Fin 10240) (q : Fin 16384) :
    gate w (ix2 i q) = ∑ h : Fin 8, w (ix4 h ⟨q.val / 128, by omega⟩ ⟨q.val % 128, Nat.mod_lt _ (by omega)⟩ i) := by
  pointwise [gate]

/-- A point's coefficient is the reference's routing weight times its GELU. -/
theorem coef_eq (c : Dev nD) (t : Fin cfg0.N) (e l : Fin 512) (q : Fin 16384) (i : Fin 10240) (hq : q.val = 512 * (t.val % 32) + e.val) (hi : i.val = 512 * (t.val / 32) + l.val) :
    coefAt m c t (ix2 e l) = gate (share (m ((c : Thread nD τ).loc main_arg3)) (m ((c : Thread nD τ).loc main_arg4)) (m ((c : Thread nD τ).loc main_arg5)) (s2 (m ((c : Thread nD τ).loc main_arg6)))) (ix2 i q) * gelu (act (m ((c : Thread nD τ).loc main_arg0)) (m ((c : Thread nD τ).loc main_arg1))) (ix2 i q) := by
  rw [gate_at, gelu_at, ← act_at m c t e l q i hq hi]
  refine congrArg (· * geluAt (k0_pay2 (iblk m c 1 t) (iblk m c 0 t) (ix2 e l))) ?_
  refine Finset.sum_congr rfl fun h _ => ?_
  refine (term_at m c t h _ _ l i hi).trans ?_
  refine congrArg (share _ _ _ _) (congrArg₂ (fun r n => ix4 h r n i) (Fin.ext ?_) (Fin.ext ?_))
  · show 4 * (grid0.coords t 1).val + e.val / 128 = q.val / 128
    have := (idx t).2.2.2.2.2.2.2.2
    omega
  · show e.val % 128 = q.val % 128
    omega

/-- The reference's result at an index: the sum over the experts. -/
theorem out_at (y : Cert.DenseRefIdeal.S10240x2048.Idx) (a0 a1 a2 a3 a4 a5 a6) :
    out a0 a1 a2 a3 a4 a5 a6 y = ∑ e : Fin 16384, (gate (share a3 a4 a5 (s2 a6)) (ix2 (y 0) e) * gelu (act a0 a1) (ix2 (y 0) e)) * a2 (ix2 e (y 1)) := by
  pointwise [out]

/-- The parts of a run add up to the reference's result at the array index the block index sits at. -/
theorem sum_parts (c : Dev nD) (t : Fin cfg0.N) (hl : t.val % 32 = 31) (y : S2048x512.Idx) (i : S10240x2048.Idx)
    (h0 : (i 0).val = 512 * (t.val / 32) + (y 1).val) (h1 : (i 1).val = (y 0).val) :
    ∑ s : Fin 32, part m c ⟨32 * (t.val / 32) + s.val, Pipeline.run_point_lt_of_flush t hl s⟩ y
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  rw [out_at]
  unfold part prod
  refine Fin.sum_mul_add_congr fun s k hlt => ?_
  have hs : s.val < 32 := s.isLt
  have hN : 32 * (t.val / 32) + s.val < cfg0.N := Pipeline.run_point_lt_of_flush t hl s
  have es : (32 * (t.val / 32) + s.val) % 32 = s.val := by omega
  have ed : (32 * (t.val / 32) + s.val) / 32 = t.val / 32 := by omega
  refine (mul_comm (G := EReal) _ _).trans (congrArg₂ (α := EReal) (β := EReal) (· * ·) ?_ ?_)
  · exact coef_eq m c ⟨32 * (t.val / 32) + s.val, hN⟩ k (y 1) ⟨s.val * 512 + k.val, hlt⟩ (i 0) (by show s.val * 512 + k.val = _; dsimp only; rw [es]; omega) (by dsimp only; rw [ed]; exact h0)
  · exact tab_at m c ⟨32 * (t.val / 32) + s.val, hN⟩ (y 0) k ⟨s.val * 512 + k.val, hlt⟩ (i 1) (by show s.val * 512 + k.val = _; dsimp only; rw [es]; omega) h1

/-- The result array after the run is the reference's result. -/
theorem final (c : Dev nD) : (dats m 0 c).arrAt 7 (cfgs 0).N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  have hl := (flush0_7 t).mp hf
  blk_simp
  rw [after0_7, out_last m c t hl]
  refine Eq.trans (b := (outsAt0 m c t.val t.isLt).2 (ix2 (y 1) (y 0))) (by pointwise [k0_pay5]) ?_
  rw [acc_last m c t hl]
  refine sum_parts m c t hl _ _ ?_ ?_
  all_goals (blk_simp [idx t] <;> try omega)

end Cert.DenseIdeal.Value

end
-- ==== Proof.DenseClaims.lean ====
module

public import proofs.«01_k».proof.Defs
public import proofs.«01_k».proof.Proof.Gen.Dense.Frame
public import proofs.«01_k».proof.Proof.DenseValue

@[expose] public section

set_option maxRecDepth 16384

noncomputable section

namespace Cert.Proof.DenseClaims

open Idealize.ShloMosaic Idealize.ShloMosaic.TcCoe Idealize.SL.Sem

/-- The kernel as printed runs to the end from every launch memory and leaves its arguments as they were. -/
theorem frame_p : Cert.quiescent_Dense := fun m ρ _ => Cert.Dense.Gen.frame m ρ

/-- The same for the kernel over the extended reals. -/
theorem frame_pi : Cert.quiescent_DenseIdeal := fun m ρ _ => Cert.DenseIdeal.Gen.frame m ρ

/-- The same for the reference over the extended reals. -/
theorem frame_ri : Cert.quiescent_DenseRefIdeal := fun m ρ _ =>
  (θ_run Cert.DenseRefIdeal.defs _ _).mono (fun r h => ⟨fun c => (h c).2, sem_eq_zero_of_no_sems (by decide) r.2⟩)
    (Cert.DenseRefIdeal.Value.run (F := Ideal) m ρ)

/-- No operation was rewritten on the way to the extended reals. -/
theorem preserves : Cert.preserves_Dense_DenseIdeal := trivial

set_option maxRecDepth 65536 in
/-- Over the extended reals the kernel's results are the reference's, element by element. -/
theorem algebraic : Cert.algebraic_DenseIdeal_DenseRefIdeal := by
  pair_intro
  · run_from Cert.DenseIdeal.Value.run_blocks m g
  · run_from Cert.DenseRefIdeal.Value.run m' g'
    refine Eq.trans ?_ (Cert.DenseIdeal.Value.final m c).symm
    unfold Cert.DenseRefIdeal.Spec.out Cert.DenseRefIdeal.Spec.gate Cert.DenseRefIdeal.Spec.share Cert.DenseRefIdeal.Spec.gelu Cert.DenseRefIdeal.Spec.act Cert.DenseRefIdeal.Spec.s2
    rfl

end Cert.Proof.DenseClaims

end
-- ==== Proof.InProjRef.lean ====
module

public import proofs.«01_k».proof.Proof.Gen.InProjRefIdeal.Run
public import Idealize.ShloMosaic.Lib.Pointwise

@[expose] public section

set_option maxRecDepth 16384

noncomputable section

namespace Cert.InProjRefIdeal.Spec

open Cert.InProjRefIdeal Cert.InProjRefIdeal.Gen Idealize.ShloMosaic Idealize.ShloMosaic.TcCoe

/-- The joint projection: every row of the layer's input times the whole weight matrix. -/
def proj (a0 : FVec Ideal S10240x2048 .bf16) (a1 : FVec Ideal S2048x15432 .f32) : FVec Ideal S10240x15432 .f32 :=
  Host.dotGeneral dot_S10240x2048_S2048x15432_S10240x15432_1_0_0_1_n_n none (extf .f32 a0 bitsLt_bf16_f32) a1

/-- What the reference returns: the projection's column groups, put side by side in the order the layer keeps them. -/
def out (a0 : FVec Ideal S10240x2048 .bf16) (a1 : FVec Ideal S2048x15432 .f32) : FVec Ideal S10240x15488 .f32 :=
  (concatenate S10240x15488 1 [⟨S10240x1024, ((extractStridedSlice S10240x1024 ![0, 0] (proj a0 a1) slices_S10240x15432_S10240x1024_0_0) : (⟨S10240x1024, .f32⟩ : BufTy).Contents (Elt Ideal))⟩, ⟨S10240x1024, ((extractStridedSlice S10240x1024 ![0, 1024] (proj a0 a1) slices_S10240x15432_S10240x1024_0_1024) : (⟨S10240x1024, .f32⟩ : BufTy).Contents (Elt Ideal))⟩, ⟨S10240x2048, ((extractStridedSlice S10240x2048 ![0, 2048] (proj a0 a1) slices_S10240x15432_S10240x2048_0_2048) : (⟨S10240x2048, .f32⟩ : BufTy).Contents (Elt Ideal))⟩, ⟨S10240x1024, ((extractStridedSlice S10240x1024 ![0, 4096] (proj a0 a1) slices_S10240x15432_S10240x1024_0_4096) : (⟨S10240x1024, .f32⟩ : BufTy).Contents (Elt Ideal))⟩, ⟨S10240x256, ((extractStridedSlice S10240x256 ![0, 5120] (proj a0 a1) slices_S10240x15432_S10240x256_0_5120) : (⟨S10240x256, .f32⟩ : BufTy).Contents (Elt Ideal))⟩, ⟨S10240x256, ((extractStridedSlice S10240x256 ![0, 5376] (proj a0 a1) slices_S10240x15432_S10240x256_0_5376) : (⟨S10240x256, .f32⟩ : BufTy).Contents (Elt Ideal))⟩, ⟨S10240x512, ((extractStridedSlice S10240x512 ![0, 5632] (proj a0 a1) slices_S10240x15432_S10240x512_0_5632) : (⟨S10240x512, .f32⟩ : BufTy).Contents (Elt Ideal))⟩, ⟨S10240x1024, ((extractStridedSlice S10240x1024 ![0, 6216] (proj a0 a1) slices_S10240x15432_S10240x1024_0_6216) : (⟨S10240x1024, .f32⟩ : BufTy).Contents (Elt Ideal))⟩, ⟨S10240x8192, ((extractStridedSlice S10240x8192 ![0, 7240] (proj a0 a1) slices_S10240x15432_S10240x8192_0_7240) : (⟨S10240x8192, .f32⟩ : BufTy).Contents (Elt Ideal))⟩, ⟨S10240x64, ((extractStridedSlice S10240x64 ![0, 6144] (proj a0 a1) slices_S10240x15432_S10240x64_0_6144) : (⟨S10240x64, .f32⟩ : BufTy).Contents (Elt Ideal))⟩, ⟨S10240x8, ((extractStridedSlice S10240x8 ![0, 6208] (proj a0 a1) slices_S10240x15432_S10240x8_0_6208) : (⟨S10240x8, .f32⟩ : BufTy).Contents (Elt Ideal))⟩, ⟨S10240x56, ((broadcastInDim S10240x56 ![] bcast_S_S10240x56 (constant (F := Ideal) S_ .f32 0x00000000#32)) : (⟨S10240x56, .f32⟩ : BufTy).Contents (Elt Ideal))⟩] concatenates_S10240x1024_S10240x1024_S10240x2048_S10240x1024_S10240x256_S10240x256_S10240x512_S10240x1024_S10240x8192_S10240x64_S10240x8_S10240x56_S10240x15488_d1 : (⟨S10240x15488, .f32⟩ : BufTy).Contents (Elt Ideal))

end Cert.InProjRefIdeal.Spec

end
-- ==== Proof.InProjValue.lean ====
module

public import proofs.«01_k».proof.Proof.Gen.InProjIdeal.Value
public import proofs.«01_k».proof.Proof.InProjRef
public import Idealize.ShloMosaic.Lib.Pipeline.ValueKit
public import Idealize.ShloMosaic.Lib.Claim

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)
open Cert.InProjRefIdeal.Spec (out)

variable (m : (ℓ : Loc nD τ sig) → Buf (Elt Ideal) ℓ)

/-- The weights' columns in the order the kernel wants them, padded with zero columns at the end. -/
def perm (w : FVec Ideal S2048x15432 .f32) : FVec Ideal S2048x15488 .bf16 :=
  truncf .bf16 (concatenate S2048x15488 1 [⟨S2048x6144, (extractStridedSlice S2048x6144 ![0, 0] w slices_S2048x15432_S2048x6144_0_0 : FVec Ideal S2048x6144 .f32)⟩, ⟨S2048x9216, (extractStridedSlice S2048x9216 ![0, 6216] w slices_S2048x15432_S2048x9216_0_6216 : FVec Ideal S2048x9216 .f32)⟩, ⟨S2048x128, (pad S2048x128 ![0, 0] ![0, 56] ![0, 0] (extractStridedSlice S2048x72 ![0, 6144] w slices_S2048x15432_S2048x72_0_6144 : FVec Ideal S2048x72 .f32) (sitofp .f32 (constantI S_ 32 0#32) : FVec Ideal S_ .f32) pads_S2048x72_S2048x128_000_0560 h_S_ : FVec Ideal S2048x128 .f32)⟩] concatenates_S2048x6144_S2048x9216_S2048x128_S2048x15488_d1 : FVec Ideal S2048x15488 .f32) bitsLt_bf16_f32

/-- The kernel's second operand is that array. -/
theorem V_v5 (c : Dev nD) : V m c main_v5 = perm (m ((c : Thread nD τ).loc main_arg1)) := by
  unfold V
  simp only [hostOps0, hostOps0_1, hostOps0_2, List.flatten_cons, List.flatten_nil, List.cons_append, List.nil_append, List.append_nil,
    StableHlo.TRef.binary, StableHlo.TRef.unary, StableHlo.TRef.toBuf, StableHlo.TRef.ofBuf, cast_eq]
  after_results_simp <;> rfl

/-- The padding constant is zero. -/
theorem fill_zero : FloatOps.sitofp (F := Ideal) FTy.f32 (0#32 : BitVec 32) = (0 : EReal) := by
  show (((0#32 : BitVec 32).toInt : ℝ) : EReal) = 0
  simp

/-- The reference's regrouped projection is the product with the permuted, padded weights. -/
theorem out_apply (x : FVec Ideal S10240x2048 .bf16) (w : FVec Ideal S2048x15432 .f32) (r : Fin 10240) (q : Fin 15488) :
    out x w (ix2 r q) = ∑ k : Fin 2048, x (ix2 r k) * perm w (ix2 k q) := by
  pointwise [out, Cert.InProjRefIdeal.Spec.proj, perm, fill_zero]
  repeat' (refine dite_eq_iff'.mpr ⟨fun h => ?_, fun h => ?_⟩)
  all_goals first
    | (refine Fin.sum_fin_congr fun k => congrArg (x (ix2 r k) * ·) (Eq.symm ?_)
       repeat' (refine dite_eq_iff'.mpr ⟨fun h => ?_, fun h => ?_⟩)
       all_goals first
         | omega
         | (refine congrArg (fun z => w (ix2 k z)) (Fin.ext ?_) <;> dsimp only <;> omega))
    | (refine Eq.symm (Finset.sum_eq_zero fun k _ => ?_)
       refine (congrArg (x (ix2 r k) * ·) ?_).trans (mul_zero _)
       repeat' (refine dite_eq_iff'.mpr ⟨fun h => ?_, fun h => ?_⟩)
       all_goals first
         | omega
         | rfl)

/-- Which block each window moves at point `t`: rows by the quotient, columns by the remainder. -/
theorem idx : ∀ t : Fin cfg0.N, win0_0.index t = ![t.val / 11, 0] ∧ win0_1.index t = ![0, t.val % 11] ∧ win0_2.index t = ![t.val / 11, t.val % 11] :=
  (by decide +kernel : ∀ t : Fin grid0.N, _)

/-- What a point stores at `y` is the reference's value at the array index `y` sits at. -/
theorem point (c : Dev nD) (t : Fin cfg0.N) (y) :
    k0_pay1 (iblk m c 0 t) (iblk m c 1 t) y
    = out (m ((c : Thread nD τ).loc main_arg0)) (m ((c : Thread nD τ).loc main_arg1)) (((cfg0.win 2).blk t).view.emb y) := by
  have e := out_apply (m ((c : Thread nD τ).loc main_arg0)) (m ((c : Thread nD τ).loc main_arg1))
    (((cfg0.win 2).blk t).view.emb y 0) (((cfg0.win 2).blk t).view.emb y 1)
  rw [← V_v5] at e
  refine Eq.trans ?_ ((congrArg (out _ _) (eq_ix2 (((cfg0.win 2).blk t).view.emb y))).trans e).symm
  pointwise [k0_pay1]
  blk_point [iblk, V_main_arg0, idx t]

/-- The result array after the run is the reference's result. -/
theorem final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InProjIdeal.Value

end
-- ==== Proof.InProjClaims.lean ====
module

public import proofs.«01_k».proof.Defs
public import proofs.«01_k».proof.Proof.Gen.InProj.Frame
public import proofs.«01_k».proof.Proof.InProjValue

@[expose] public section

set_option maxRecDepth 16384

noncomputable section

namespace Cert.Proof.InProjClaims

open Idealize.ShloMosaic Idealize.ShloMosaic.TcCoe Idealize.SL.Sem

/-- The kernel as printed runs to the end from every launch memory and leaves its arguments as they were. -/
theorem frame_p : Cert.quiescent_InProj := fun m ρ _ => Cert.InProj.Gen.frame m ρ

/-- The same for the kernel over the extended reals. -/
theorem frame_pi : Cert.quiescent_InProjIdeal := fun m ρ _ => Cert.InProjIdeal.Gen.frame m ρ

/-- The same for the reference over the extended reals. -/
theorem frame_ri : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- No operation was rewritten on the way to the extended reals. -/
theorem preserves : Cert.preserves_InProj_InProjIdeal := trivial

/-- Over the extended reals the kernel's results are the reference's, element by element. -/
theorem algebraic : Cert.algebraic_InProjIdeal_InProjRefIdeal := by
  pair_intro
  · run_from Cert.InProjIdeal.Value.run_blocks m g
  · run_from Cert.InProjRefIdeal.Value.run m' g'
    obtain ⟨h0, h1⟩ := hagree c
    refine Eq.trans ?_ (Cert.InProjIdeal.Value.final m c).symm
    rw [← h0, ← h1]
    rfl

end Cert.Proof.InProjClaims

end
-- ==== Proof.MergeRef.lean ====
module

public import proofs.«01_k».proof.Proof.Gen.MergeRefIdeal.Run
public import Idealize.ShloMosaic.Lib.Pointwise

@[expose] public section

set_option maxRecDepth 16384

noncomputable section

namespace Cert.MergeRefIdeal.Spec

open Cert.MergeRefIdeal Cert.MergeRefIdeal.Gen Idealize.ShloMosaic Idealize.ShloMosaic.TcCoe

/-- The four branches' rows, stacked along a new middle axis. -/
def stacked (a0 a1 a2 a3 : FVec Ideal S10240x1024 .bf16) : FVec Ideal S10240x4x1024 .f32 :=
  (concatenate S10240x4x1024 1 [⟨S10240x1x1024, ((broadcastInDim S10240x1x1024 ![0, 2] bcast_S10240x1024_S10240x1x1024_0_2 (extf .f32 a0 bitsLt_bf16_f32)) : (⟨S10240x1x1024, .f32⟩ : BufTy).Contents (Elt Ideal))⟩, ⟨S10240x1x1024, ((broadcastInDim S10240x1x1024 ![0, 2] bcast_S10240x1024_S10240x1x1024_0_2 (extf .f32 a1 bitsLt_bf16_f32)) : (⟨S10240x1x1024, .f32⟩ : BufTy).Contents (Elt Ideal))⟩, ⟨S10240x1x1024, ((broadcastInDim S10240x1x1024 ![0, 2] bcast_S10240x1024_S10240x1x1024_0_2 (extf .f32 a2 bitsLt_bf16_f32)) : (⟨S10240x1x1024, .f32⟩ : BufTy).Contents (Elt Ideal))⟩, ⟨S10240x1x1024, ((broadcastInDim S10240x1x1024 ![0, 2] bcast_S10240x1024_S10240x1x1024_0_2 (extf .f32 a3 bitsLt_bf16_f32)) : (⟨S10240x1x1024, .f32⟩ : BufTy).Contents (Elt Ideal))⟩] concatenates_S10240x1x1024_S10240x1x1024_S10240x1x1024_S10240x1x1024_S10240x4x1024_d1 : (⟨S10240x4x1024, .f32⟩ : BufTy).Contents (Elt Ideal))

/-- The gates: the last columns of the joint projection, one group per branch, through the logistic function. -/
def gates (a5 : FVec Ideal S10240x15488 .f32) : FVec Ideal S10240x4x2048 .f32 :=
  Host.divf (broadcastInDim S10240x4x2048 ![] bcast_S_S10240x4x2048 (constant (F := Ideal) S_ .f32 0x3F800000#32)) (addf (broadcastInDim S10240x4x2048 ![] bcast_S_S10240x4x2048 (constant (F := Ideal) S_ .f32 0x3F800000#32)) (Host.exp (Host.negf (shapeCast _ (extractStridedSlice S10240x8192 ![0, 7168] a5 slices_S10240x15488_S10240x8192_0_7168) shapeCasts_S10240x8192_S10240x4x2048))))

/-- Each branch's rows times its own weight matrix. -/
def branches (a0 a1 a2 a3 : FVec Ideal S10240x1024 .bf16) (a4 : FVec Ideal S4x1024x2048 .f32) : FVec Ideal S10240x4x2048 .f32 :=
  transpose S10240x4x2048 [2, 0, 1] (Host.dotGeneral dot_S4x1024x2048_S10240x4x1024_S4x2048x10240_1_2_2_0_0_1 none a4 (stacked a0 a1 a2 a3)) transposes_S4x2048x10240_S10240x4x2048_2_0_1

/-- What the reference returns: the gated sum of the branches. -/
def out (a0 a1 a2 a3 : FVec Ideal S10240x1024 .bf16) (a4 : FVec Ideal S4x1024x2048 .f32) (a5 : FVec Ideal S10240x15488 .f32) : FVec Ideal S10240x2048 .bf16 :=
  truncf .bf16 (Host.reduceAdd (mulf (gates a5) (branches a0 a1 a2 a3 a4)) (constant (F := Ideal) S_ .f32 0x00000000#32) reducesTo_S10240x4x2048_S10240x2048_d1 h_S_) bitsLt_bf16_f32

end Cert.MergeRefIdeal.Spec

end
-- ==== Proof.MergeValue.lean ====
module

public import proofs.«01_k».proof.Proof.Gen.MergeIdeal.Value
public import proofs.«01_k».proof.Proof.MergeRef
public import Idealize.ShloMosaic.Lib.Pipeline.ValueKit
public import Idealize.ShloMosaic.Lib.Claim

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)
open Cert.MergeRefIdeal.Spec (out gates branches stacked)

variable (m : (ℓ : Loc nD τ sig) → Buf (Elt Ideal) ℓ)

/-- A gate: the logistic function of one entry of the joint projection. -/
def gate (a5 : FVec Ideal S10240x15488 .f32) (r : Fin 10240) (n : Fin 15488) : EReal :=
  Ideal.div 1 (1 + Ideal.exp (-a5 (ix2 r n)))

/-- One output entry of the reference, branch by branch. -/
theorem out_apply (a0 a1 a2 a3 : FVec Ideal S10240x1024 .bf16) (a4 : FVec Ideal S4x1024x2048 .f32) (a5 : FVec Ideal S10240x15488 .f32)
    (r : Fin 10240) (q : Fin 2048) : out a0 a1 a2 a3 a4 a5 (ix2 r q)
    = gate a5 r ⟨7168 + q, by omega⟩ * (∑ k : Fin 1024, a0 (ix2 r k) * a4 (ix3 (0 : Fin 4) k q))
      + gate a5 r ⟨9216 + q, by omega⟩ * (∑ k : Fin 1024, a1 (ix2 r k) * a4 (ix3 (1 : Fin 4) k q))
      + gate a5 r ⟨11264 + q, by omega⟩ * (∑ k : Fin 1024, a2 (ix2 r k) * a4 (ix3 (2 : Fin 4) k q))
      + gate a5 r ⟨13312 + q, by omega⟩ * (∑ k : Fin 1024, a3 (ix2 r k) * a4 (ix3 (3 : Fin 4) k q)) := by
  unfold gate
  pointwise [out, gates, branches, stacked]
  refine (Fin.sum_univ_four (M := EReal) _).trans ?_
  refine congrArg₂ (α := EReal) (β := EReal) (· + ·) (congrArg₂ (α := EReal) (β := EReal) (· + ·) (congrArg₂ (α := EReal) (β := EReal) (· + ·) ?_ ?_) ?_) ?_
  all_goals
    refine congrArg₂ (α := EReal) (β := EReal) (· * ·) (congrArg (fun n => Ideal.div 1 (1 + Ideal.exp (-a5 (ix2 r n)))) (Fin.ext ?_)) ?_
    · simp only [Fin.val_zero, Fin.val_one, Fin.val_two, show ((3 : Fin 4) : ℕ) = 3 from rfl]; omega
    · refine Fin.sum_fin_congr fun k => ?_
      refine (mul_comm (G := EReal) _ _).trans (congrArg (· * _) ?_)
      first
        | rw [dif_pos (by decide)]
        | rw [dif_neg (by decide), dif_pos (by decide)]
        | rw [dif_neg (by decide), dif_neg (by decide), dif_pos (by decide)]
        | rw [dif_neg (by decide), dif_neg (by decide), dif_neg (by decide)]

/-- Which block each window moves at point `t`. -/
theorem idx : ∀ t : Fin cfg0.N, win0_0.index t = ![t.val / 4, 0] ∧ win0_1.index t = ![t.val / 4, 0] ∧ win0_2.index t = ![t.val / 4, 0]
    ∧ win0_3.index t = ![t.val / 4, 0] ∧ win0_4.index t = ![0, 0, t.val % 4] ∧ win0_5.index t = ![t.val / 4, 14 + t.val % 4]
    ∧ win0_6.index t = ![t.val / 4, 18 + t.val % 4] ∧ win0_7.index t = ![t.val / 4, 22 + t.val % 4]
    ∧ win0_8.index t = ![t.val / 4, 26 + t.val % 4] ∧ win0_9.index t = ![t.val / 4, t.val % 4] :=
  (by decide +kernel : ∀ t : Fin grid0.N, _)

/-- Gate window 5 at a point: its logistic is the gate 7168 columns into the projection. -/
theorem gate_5 (c : Dev nD) (t : Fin cfg0.N) (y : S512x512.Idx) :
    Ideal.logistic (X0_5 m c t y) = gate (m ((c : Thread nD τ).loc main_arg5)) (((cfg0.win 9).blk t).view.emb y 0)
      ⟨7168 + (((cfg0.win 9).blk t).view.emb y 1).val, by have := (((cfg0.win 9).blk t).view.emb y 1).isLt; change _ < 2048 at this; omega⟩ := by
  refine congrArg Ideal.logistic ?_
  unfold X0_5 Pipeline.Window.fill
  rw [dif_pos (moved0_5 t _)]
  blk_point [iblk, V_main_arg5, idx t]

/-- Gate window 6 at a point: its logistic is the gate 9216 columns into the projection. -/
theorem gate_6 (c : Dev nD) (t : Fin cfg0.N) (y : S512x512.Idx) :
    Ideal.logistic (X0_6 m c t y) = gate (m ((c : Thread nD τ).loc main_arg5)) (((cfg0.win 9).blk t).view.emb y 0)
      ⟨9216 + (((cfg0.win 9).blk t).view.emb y 1).val, by have := (((cfg0.win 9).blk t).view.emb y 1).isLt; change _ < 2048 at this; omega⟩ := by
  refine congrArg Ideal.logistic ?_
  unfold X0_6 Pipeline.Window.fill
  rw [dif_pos (moved0_6 t _)]
  blk_point [iblk, V_main_arg5, idx t]

/-- Gate window 7 at a point: its logistic is the gate 11264 columns into the projection. -/
theorem gate_7 (c : Dev nD) (t : Fin cfg0.N) (y : S512x512.Idx) :
    Ideal.logistic (X0_7 m c t y) = gate (m ((c : Thread nD τ).loc main_arg5)) (((cfg0.win 9).blk t).view.emb y 0)
      ⟨11264 + (((cfg0.win 9).blk t).view.emb y 1).val, by have := (((cfg0.win 9).blk t).view.emb y 1).isLt; change _ < 2048 at this; omega⟩ := by
  refine congrArg Ideal.logistic ?_
  unfold X0_7 Pipeline.Window.fill
  rw [dif_pos (moved0_7 t _)]
  blk_point [iblk, V_main_arg5, idx t]

/-- Gate window 8 at a point: its logistic is the gate 13312 columns into the projection. -/
theorem gate_8 (c : Dev nD) (t : Fin cfg0.N) (y : S512x512.Idx) :
    Ideal.logistic (X0_8 m c t y) = gate (m ((c : Thread nD τ).loc main_arg5)) (((cfg0.win 9).blk t).view.emb y 0)
      ⟨13312 + (((cfg0.win 9).blk t).view.emb y 1).val, by have := (((cfg0.win 9).blk t).view.emb y 1).isLt; change _ < 2048 at this; omega⟩ := by
  refine congrArg Ideal.logistic ?_
  unfold X0_8 Pipeline.Window.fill
  rw [dif_pos (moved0_8 t _)]
  blk_point [iblk, V_main_arg5, idx t]

/-- The weight array as the region finds it: the argument, narrowed. -/
theorem V_v0 (c : Dev nD) : V m c main_v0 = (truncf .bf16 (m ((c : Thread nD τ).loc main_arg4)) bitsLt_bf16_f32 : FVec Ideal S4x1024x2048 .bf16) := by
  unfold V
  entry_read
  rfl

/-- What a point stores at `y` is the reference's value at the array index `y` sits at. -/
theorem point (c : Dev nD) (t : Fin cfg0.N) (y) :
    k0_pay1
      (k0_pay2 (X0_5 m c t) (iblk m c 0 t)
        (View.ld (iblk m c 4 t) (Rect.unit ![0, 0, 0] ![1, 1024, 512] inb_S4x1024x512_S1x1024x512_0_0_0)) (X0_6 m c t)
        (iblk m c 1 t) (View.ld (iblk m c 4 t) (Rect.unit ![1, 0, 0] ![1, 1024, 512] inb_S4x1024x512_S1x1024x512_1_0_0))
        (X0_7 m c t) (iblk m c 2 t)
        (View.ld (iblk m c 4 t) (Rect.unit ![2, 0, 0] ![1, 1024, 512] inb_S4x1024x512_S1x1024x512_2_0_0)))
      (k0_pay3 (X0_8 m c t)) (iblk m c 3 t)
      (View.ld (iblk m c 4 t) (Rect.unit ![3, 0, 0] ![1, 1024, 512] inb_S4x1024x512_S1x1024x512_3_0_0)) y
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb y) := by
  refine Eq.trans ?_ ((congrArg (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (eq_ix2 (((cfg0.win 9).blk t).view.emb y))).trans (out_apply _ _ _ _ _ _ _ _)).symm
  pointwise [k0_pay1, k0_pay2, k0_pay3]
  refine congrArg₂ (α := EReal) (β := EReal) (· + ·) (congrArg₂ (α := EReal) (β := EReal) (· + ·) (congrArg₂ (α := EReal) (β := EReal) (· + ·) ?_ ?_) ?_) ?_
  · refine congrArg₂ (α := EReal) (β := EReal) (· * ·) (gate_5 m c t y) (Fin.sum_fin_congr fun k => ?_)
    blk_point [iblk, V_v0, idx t]
  · refine congrArg₂ (α := EReal) (β := EReal) (· * ·) (gate_6 m c t y) (Fin.sum_fin_congr fun k => ?_)
    blk_point [iblk, V_v0, idx t]
  · refine congrArg₂ (α := EReal) (β := EReal) (· * ·) (gate_7 m c t y) (Fin.sum_fin_congr fun k => ?_)
    blk_point [iblk, V_v0, idx t]
  · refine congrArg₂ (α := EReal) (β := EReal) (· * ·) (gate_8 m c t y) (Fin.sum_fin_congr fun k => ?_)
    blk_point [iblk, V_v0, idx t]

/-- The result array after the run is the reference's result. -/
theorem final (c : Dev nD) : (dats m 0 c).arrAt 9 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]; unfold outsAt0; frame_out
  exact point m c t y

end Cert.MergeIdeal.Value

end
-- ==== Proof.MergeClaims.lean ====
module

public import proofs.«01_k».proof.Defs
public import proofs.«01_k».proof.Proof.Gen.Merge.Frame
public import proofs.«01_k».proof.Proof.MergeValue

@[expose] public section

set_option maxRecDepth 16384

noncomputable section

namespace Cert.Proof.MergeClaims

open Idealize.ShloMosaic Idealize.ShloMosaic.TcCoe Idealize.SL.Sem

/-- The kernel as printed runs to the end from every launch memory and leaves its arguments as they were. -/
theorem frame_p : Cert.quiescent_Merge := fun m ρ _ => Cert.Merge.Gen.frame m ρ

/-- The same for the kernel over the extended reals. -/
theorem frame_pi : Cert.quiescent_MergeIdeal := fun m ρ _ => Cert.MergeIdeal.Gen.frame m ρ

/-- The same for the reference over the extended reals. -/
theorem frame_ri : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- No operation was rewritten on the way to the extended reals. -/
theorem preserves : Cert.preserves_Merge_MergeIdeal := trivial

/-- Over the extended reals the kernel's results are the reference's, element by element. -/
theorem algebraic : Cert.algebraic_MergeIdeal_MergeRefIdeal := by
  pair_intro
  · run_from Cert.MergeIdeal.Value.run_blocks m g
  · run_from Cert.MergeRefIdeal.Value.run m' g'
    exact (Cert.MergeIdeal.Value.final m c).symm

end Cert.Proof.MergeClaims

end
-- ==== Proof.OutLnRef.lean ====
module

public import proofs.«01_k».proof.Proof.Gen.OutLnRefIdeal.Run
public import Idealize.ShloMosaic.Lib.Pointwise

@[expose] public section

set_option maxRecDepth 16384

noncomputable section

namespace Cert.OutLnRefIdeal.Spec

open Cert.OutLnRefIdeal Cert.OutLnRefIdeal.Gen Idealize.ShloMosaic Idealize.ShloMosaic.TcCoe

/-- Every row less its mean. -/
def centred (s : FVec Ideal S10240x2048 .f32) : FVec Ideal S10240x2048 .f32 :=
  subf s (broadcastInDim S10240x2048 ![0, 1] bcast_S10240x1_S10240x2048_0_1 (Host.divf (broadcastInDim S10240x1 ![0] bcast_S10240_S10240x1_0 (Host.reduceAdd s (constant S_ .f32 0x00000000#32) reducesTo_S10240x2048_S10240_d1 h_S_)) (broadcastInDim S10240x1 ![] bcast_S_S10240x1 (constant S_ .f32 0x45000000#32))))

/-- The layer norm of centred rows `d`: each row over the root of its mean square plus the small constant, times the
    gain `g`, plus the bias `b`. -/
def scaled (d : FVec Ideal S10240x2048 .f32) (g b : FVec Ideal S2048 .f32) : FVec Ideal S10240x2048 .f32 :=
  addf (mulf (mulf d (broadcastInDim S10240x2048 ![0, 1] bcast_S10240x1_S10240x2048_0_1 (Host.rsqrt (addf (Host.divf (broadcastInDim S10240x1 ![0] bcast_S10240_S10240x1_0 (Host.reduceAdd (mulf d d) (constant S_ .f32 0x00000000#32) reducesTo_S10240x2048_S10240_d1 h_S_)) (broadcastInDim S10240x1 ![] bcast_S_S10240x1 (constant S_ .f32 0x45000000#32))) (broadcastInDim S10240x1 ![] bcast_S_S10240x1 (constant S_ .f32 0x3727C5AC#32)))))) (broadcastInDim S10240x2048 ![0, 1] bcast_S1x2048_S10240x2048_0_1 (broadcastInDim S1x2048 ![1] bcast_S2048_S1x2048_1 g))) (broadcastInDim S10240x2048 ![0, 1] bcast_S1x2048_S10240x2048_0_1 (broadcastInDim S1x2048 ![1] bcast_S2048_S1x2048_1 b))

/-- The residual sum the reference normalises. -/
def summed (a0 : FVec Ideal S10240x2048 .f32) (a1 : FVec Ideal S10240x2048 .bf16) (a2 : FVec Ideal S2048x2048 .f32) : FVec Ideal S10240x2048 .f32 :=
  addf (mulf (broadcastInDim S10240x2048 ![] bcast_S_S10240x2048 (constant S_ .f32 0x3FB504F3#32)) a0) (Host.dotGeneral dot_S10240x2048_S2048x2048_S10240x2048_1_0_0_1_n_n none (extf .f32 a1 bitsLt_bf16_f32) a2)

/-- What the reference returns, as a function of its arguments. -/
def out (a0 : FVec Ideal S10240x2048 .f32) (a1 : FVec Ideal S10240x2048 .bf16) (a2 : FVec Ideal S2048x2048 .f32) (a3 : FVec Ideal S2048 .f32) (a4 : FVec Ideal S2048 .f32) : FVec Ideal S10240x2048 .f32 :=
  scaled (centred (summed a0 a1 a2)) a3 a4

end Cert.OutLnRefIdeal.Spec

end
-- ==== Proof.OutLnValue.lean ====
module

public import proofs.«01_k».proof.Proof.Gen.OutLnIdeal.Value
public import proofs.«01_k».proof.Proof.OutLnRef
public import Idealize.ShloMosaic.Lib.Pipeline.ValueKit
public import Idealize.ShloMosaic.Lib.Claim

@[expose] public section

set_option maxRecDepth 16384

noncomputable section

namespace Cert.OutLnIdeal.Value

open Cert.OutLnIdeal Cert.OutLnIdeal.Gen Idealize.ShloMosaic Idealize.ShloMosaic.TcCoe Idealize.SL.Sem
open Idealize.ShloMosaic.Pipeline (Dat)
open Cert.OutLnRefIdeal.Spec (out scaled centred summed)

variable (m : (ℓ : Loc nD τ sig) → Buf (Elt Ideal) ℓ)

/-- Which block each window moves at point `t`: the two arrays and the result go by rows, weights, gain and bias stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

/-- What a point stores at `y` is the reference's value at the array index `y` sits at. -/
theorem point (c : Dev nD) (t : Fin cfg0.N) (y) :
    k0_pay1 (iblk m c 0 t) (iblk m c 1 t) (iblk m c 2 t) (iblk m c 3 t) (iblk m c 4 t) y
    = out (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  pointwise [k0_pay1, out, scaled, centred, summed]
  blk_point [iblk, V, idx t]

/-- The result array after the run is the reference's result. -/
theorem final (c : Dev nD) : (dats m 0 c).arrAt 5 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.OutLnIdeal.Value

end
-- ==== Proof.OutLnClaims.lean ====
module

public import proofs.«01_k».proof.Defs
public import proofs.«01_k».proof.Proof.Gen.OutLn.Frame
public import proofs.«01_k».proof.Proof.OutLnValue

@[expose] public section

set_option maxRecDepth 16384

noncomputable section

namespace Cert.Proof.OutLnClaims

open Idealize.ShloMosaic Idealize.ShloMosaic.TcCoe Idealize.SL.Sem

/-- The kernel as printed runs to the end from every launch memory and leaves its arguments as they were. -/
theorem frame_p : Cert.quiescent_OutLn := fun m ρ _ => Cert.OutLn.Gen.frame m ρ

/-- The same for the kernel over the extended reals. -/
theorem frame_pi : Cert.quiescent_OutLnIdeal := fun m ρ _ => Cert.OutLnIdeal.Gen.frame m ρ

/-- The same for the reference over the extended reals. -/
theorem frame_ri : Cert.quiescent_OutLnRefIdeal := fun m ρ _ =>
  (θ_run Cert.OutLnRefIdeal.defs _ _).mono (fun r h => ⟨fun c => (h c).2, sem_eq_zero_of_no_sems (by decide) r.2⟩)
    (Cert.OutLnRefIdeal.Value.run (F := Ideal) m ρ)

/-- No operation was rewritten on the way to the extended reals. -/
theorem preserves : Cert.preserves_OutLn_OutLnIdeal := trivial

/-- Over the extended reals the kernel's results are the reference's, element by element. -/
theorem algebraic : Cert.algebraic_OutLnIdeal_OutLnRefIdeal := by
  pair_intro
  · run_from Cert.OutLnIdeal.Value.run_blocks m g
  · run_from Cert.OutLnRefIdeal.Value.run m' g'
    exact (Cert.OutLnIdeal.Value.final m c).symm

end Cert.Proof.OutLnClaims

end
-- ==== Proof.ScoresRef.lean ====
module

public import proofs.«01_k».proof.Proof.Gen.ScoresRefIdeal.Run
public import Idealize.ShloMosaic.Lib.Pointwise

@[expose] public section

set_option maxRecDepth 16384

noncomputable section

namespace Cert.ScoresRefIdeal.Spec

open Cert.ScoresRefIdeal Cert.ScoresRefIdeal.Gen Idealize.ShloMosaic Idealize.ShloMosaic.TcCoe

/-- What the reference returns, as a function of its arguments. -/
def scores (a0 : FVec Ideal S10240x2048 .f32) (a1 : FVec Ideal S2048x2048 .f32) (a2 : FVec Ideal S8x2x128x128 .f32) : FVec Ideal S16x128x10240 .f32 :=
  shapeCast _ (transpose S8x2x128x10240 [1, 2, 3, 0] (transpose S10240x8x2x128 [3, 0, 1, 2] (Host.dotGeneral dot_S8x2x128x128_S10240x8x2x128_S8x2x128x10240_3_3_2_0_01_12 none a2 (shapeCast _ (Host.dotGeneral dot_S10240x2048_S2048x2048_S10240x2048_1_0_0_1_n_n none a0 a1) shapeCasts_S10240x2048_S10240x8x2x128)) transposes_S8x2x128x10240_S10240x8x2x128_3_0_1_2) transposes_S10240x8x2x128_S8x2x128x10240_1_2_3_0) shapeCasts_S8x2x128x10240_S16x128x10240

/-- What the reference returns, as a function of its arguments. -/
def xt (a0 : FVec Ideal S10240x2048 .f32) (a1 : FVec Ideal S2048x2048 .f32) (a2 : FVec Ideal S8x2x128x128 .f32) : FVec Ideal S2048x10240 .bf16 :=
  truncf .bf16 (transpose S2048x10240 [1, 0] a0 transposes_S10240x2048_S2048x10240_1_0) bitsLt_bf16_f32

end Cert.ScoresRefIdeal.Spec

end
-- ==== Proof.ScoresValue.lean ====
module

public import proofs.«01_k».proof.Proof.Gen.ScoresIdeal.Value
public import proofs.«01_k».proof.Proof.ScoresRef
public import Idealize.ShloMosaic.Lib.Pipeline.ValueKit
public import Idealize.ShloMosaic.Lib.Claim

@[expose] public section

set_option maxRecDepth 16384

noncomputable section

namespace Cert.ScoresIdeal.Value

open Cert.ScoresIdeal Cert.ScoresIdeal.Gen Idealize.ShloMosaic Idealize.ShloMosaic.TcCoe Idealize.SL.Sem
open Idealize.ShloMosaic.Pipeline (Dat)
open Cert.ScoresRefIdeal.Spec (scores xt)

variable (m : (ℓ : Loc nD τ sig) → Buf (Elt Ideal) ℓ)

/-- What one point computes at entry `(g, j, l)` of its scores block: the row's query slice for table `g` against that table's row `j`. -/
def blockScores (x0 : Vec Ideal S512x2048 .f32) (x1 : Vec Ideal S2048x2048 .bf16) (x2 : Vec Ideal S16x128x128 .bf16)
    (g : Fin 16) (j : Fin 128) (l : Fin 512) : EReal :=
  ∑ k : Fin 128, x2 (ix3 g j k) * ∑ d : Fin 2048, x0 (ix2 l d) * x1 (ix2 d ⟨128 * g.val + k.val, by omega⟩)

/-- The sixteen stores of a point, read back: each table's slab at its own leading index. -/
theorem pieces (x0 : Vec Ideal S512x2048 .f32) (x1 : Vec Ideal S2048x2048 .bf16) (x2 : Vec Ideal S16x128x128 .bf16) (y : S16x128x512.Idx) :
    out0_3 x0 x1 x2 y = blockScores x0 x1 x2 (y 0) (y 1) (y 2) := by
  unfold out0_3 blockScores
  canon_tiles x h
  all_goals (open_payloads; pointwise; blk_point [])

/-- Which block each window moves at point `t`. -/
theorem idx : ∀ t : Fin cfg0.N, win0_0.index t = ![t.val, 0] ∧ win0_1.index t = ![0, 0] ∧ win0_2.index t = ![0, 0, 0]
    ∧ win0_3.index t = ![0, 0, t.val] ∧ win0_4.index t = ![0, t.val] :=
  (by decide +kernel : ∀ t : Fin grid0.N, _)

/-- The table array as the region finds it: the argument, its first two axes joined, narrowed. -/
theorem V_v1 (c : Dev nD) : V m c main_v1 = (truncf .bf16 (shapeCast S16x128x128 (m ((c : Thread nD τ).loc main_arg2)) shapeCasts_S8x2x128x128_S16x128x128 : FVec Ideal S16x128x128 .f32) bitsLt_bf16_f32 : FVec Ideal S16x128x128 .bf16) := by
  unfold V
  entry_read
  rfl

/-- The query weights as the region finds them: the argument, narrowed. -/
theorem V_v2 (c : Dev nD) : V m c main_v2 = (truncf .bf16 (m ((c : Thread nD τ).loc main_arg1)) bitsLt_bf16_f32 : FVec Ideal S2048x2048 .bf16) := by
  unfold V
  entry_read
  rfl

/-- The same at the array: a point's block entry is the reference's score at the array index it sits at. -/
theorem core (c : Dev nD) (t : Fin cfg0.N) (g : Fin 16) (j : Fin 128) (l : Fin 512) (i : S16x128x10240.Idx)
    (h0 : (i 0 : ℕ) = g) (h1 : (i 1 : ℕ) = j) (h2 : (i 2 : ℕ) = 512 * t.val + l) :
    blockScores (iblk m c 0 t) (iblk m c 1 t) (iblk m c 2 t) g j l = scores (m ((c : Thread nD τ).loc main_arg0)) (m ((c : Thread nD τ).loc main_arg1)) (m ((c : Thread nD τ).loc main_arg2)) i := by
  unfold blockScores
  pointwise [scores]
  blk_point [iblk, V_main_arg0, V_v1, V_v2, idx t]

/-- The second result array after the run is the reference's second result. -/
theorem finalXt (c : Dev nD) : (dats m 0 c).arrAt 4 (cfgs 0).N
    = xt (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  pointwise [k0_pay3, xt]
  blk_point [iblk, V, idx t]

/-- The first result array after the run is the reference's first result. -/
theorem finalScores (c : Dev nD) : (dats m 0 c).arrAt 3 (cfgs 0).N
    = scores (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine (pieces (iblk m c 0 t) (iblk m c 1 t) (iblk m c 2 t) y).trans (core m c t (y 0) (y 1) (y 2) _ ?_ ?_ ?_)
  all_goals (blk_simp [idx t] <;> try omega)

end Cert.ScoresIdeal.Value

end
-- ==== Proof.ScoresClaims.lean ====
module

public import proofs.«01_k».proof.Defs
public import proofs.«01_k».proof.Proof.Gen.Scores.Frame
public import proofs.«01_k».proof.Proof.ScoresValue

@[expose] public section

set_option maxRecDepth 16384

noncomputable section

namespace Cert.Proof.ScoresClaims

open Idealize.ShloMosaic Idealize.ShloMosaic.TcCoe Idealize.SL.Sem

/-- The kernel as printed runs to the end from every launch memory and leaves its arguments as they were. -/
theorem frame_p : Cert.quiescent_Scores := fun m ρ _ => Cert.Scores.Gen.frame m ρ

/-- The same for the kernel over the extended reals. -/
theorem frame_pi : Cert.quiescent_ScoresIdeal := fun m ρ _ => Cert.ScoresIdeal.Gen.frame m ρ

/-- The same for the reference over the extended reals. -/
theorem frame_ri : Cert.quiescent_ScoresRefIdeal := fun m ρ _ =>
  (θ_run Cert.ScoresRefIdeal.defs _ _).mono (fun r h => ⟨fun c => (h c).2.2, sem_eq_zero_of_no_sems (by decide) r.2⟩)
    (Cert.ScoresRefIdeal.Value.run (F := Ideal) m ρ)

/-- No operation was rewritten on the way to the extended reals. -/
theorem preserves : Cert.preserves_Scores_ScoresIdeal := trivial

/-- Over the extended reals the kernel's results are the reference's, element by element. -/
theorem algebraic : Cert.algebraic_ScoresIdeal_ScoresRefIdeal := by
  pair_intro
  · run_from Cert.ScoresIdeal.Value.run_blocks m g
  · run_from Cert.ScoresRefIdeal.Value.run m' g'
    · exact (Cert.ScoresIdeal.Value.finalScores m c).symm
    · exact (Cert.ScoresIdeal.Value.finalXt m c).symm

end Cert.Proof.ScoresClaims

end
-- ==== Proof.ResLnRef.lean ====
module

public import proofs.«01_k».proof.Proof.Gen.ResLnRefIdeal.Run
public import Idealize.ShloMosaic.Lib.Pointwise

@[expose] public section

set_option maxRecDepth 16384

noncomputable section

namespace Cert.ResLnRefIdeal.Spec

open Cert.ResLnRefIdeal Cert.ResLnRefIdeal.Gen Idealize.ShloMosaic Idealize.ShloMosaic.TcCoe

/-- Every row less its mean. -/
def centred (s : FVec Ideal S10240x2048 .f32) : FVec Ideal S10240x2048 .f32 :=
  subf s (broadcastInDim S10240x2048 ![0, 1] bcast_S10240x1_S10240x2048_0_1 (Host.divf (broadcastInDim S10240x1 ![0] bcast_S10240_S10240x1_0 (Host.reduceAdd s (constant S_ .f32 0x00000000#32) reducesTo_S10240x2048_S10240_d1 h_S_)) (broadcastInDim S10240x1 ![] bcast_S_S10240x1 (constant S_ .f32 0x45000000#32))))

/-- The layer norm of centred rows `d`: each row over the root of its mean square plus the small constant, times the
    gain `g`, plus the bias `b`. -/
def scaled (d : FVec Ideal S10240x2048 .f32) (g b : FVec Ideal S2048 .f32) : FVec Ideal S10240x2048 .f32 :=
  addf (mulf (mulf d (broadcastInDim S10240x2048 ![0, 1] bcast_S10240x1_S10240x2048_0_1 (Host.rsqrt (addf (Host.divf (broadcastInDim S10240x1 ![0] bcast_S10240_S10240x1_0 (Host.reduceAdd (mulf d d) (constant S_ .f32 0x00000000#32) reducesTo_S10240x2048_S10240_d1 h_S_)) (broadcastInDim S10240x1 ![] bcast_S_S10240x1 (constant S_ .f32 0x45000000#32))) (broadcastInDim S10240x1 ![] bcast_S_S10240x1 (constant S_ .f32 0x3727C5AC#32)))))) (broadcastInDim S10240x2048 ![0, 1] bcast_S1x2048_S10240x2048_0_1 (broadcastInDim S1x2048 ![1] bcast_S2048_S1x2048_1 g))) (broadcastInDim S10240x2048 ![0, 1] bcast_S1x2048_S10240x2048_0_1 (broadcastInDim S1x2048 ![1] bcast_S2048_S1x2048_1 b))

/-- The residual sum the reference normalises. -/
def summed (a0 : FVec Ideal S10240x2048 .f32) (a1 : FVec Ideal S10240x2048 .f32) : FVec Ideal S10240x2048 .f32 :=
  addf (mulf (broadcastInDim S10240x2048 ![] bcast_S_S10240x2048 (constant S_ .f32 0x3FB504F3#32)) a0) a1

/-- What the reference returns, as a function of its arguments. -/
def out (a0 : FVec Ideal S10240x2048 .f32) (a1 : FVec Ideal S10240x2048 .f32) (a2 : FVec Ideal S2048 .f32) (a3 : FVec Ideal S2048 .f32) : FVec Ideal S10240x2048 .f32 :=
  scaled (centred (summed a0 a1)) a2 a3

/-- The reference's second result: the first one in the narrow format. -/
def out16 (a0 : FVec Ideal S10240x2048 .f32) (a1 : FVec Ideal S10240x2048 .f32) (a2 : FVec Ideal S2048 .f32) (a3 : FVec Ideal S2048 .f32) : FVec Ideal S10240x2048 .bf16 :=
  truncf .bf16 (out a0 a1 a2 a3) bitsLt_bf16_f32

end Cert.ResLnRefIdeal.Spec

end
-- ==== Proof.ResLnValue.lean ====
module

public import proofs.«01_k».proof.Proof.Gen.ResLnIdeal.Value
public import proofs.«01_k».proof.Proof.ResLnRef
public import Idealize.ShloMosaic.Lib.Pipeline.ValueKit
public import Idealize.ShloMosaic.Lib.Claim

@[expose] public section

set_option maxRecDepth 16384

noncomputable section

namespace Cert.ResLnIdeal.Value

open Cert.ResLnIdeal Cert.ResLnIdeal.Gen Idealize.ShloMosaic Idealize.ShloMosaic.TcCoe Idealize.SL.Sem
open Idealize.ShloMosaic.Pipeline (Dat)
open Cert.ResLnRefIdeal.Spec (out out16 scaled centred summed)

variable (m : (ℓ : Loc nD τ sig) → Buf (Elt Ideal) ℓ)

/-- Which block each window moves at point `t`: the two arrays and both results go by rows, gain and bias stay. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- What a point stores at `y` is the reference's layer norm at the array index `y` sits at. -/
theorem point (c : Dev nD) (t : Fin cfg0.N) (y) :
    k0_pay1 (iblk m c 0 t) (iblk m c 1 t) (iblk m c 2 t) (iblk m c 3 t) y
    = out (m ((c : Thread nD τ).loc main_arg0)) (m ((c : Thread nD τ).loc main_arg1)) (m ((c : Thread nD τ).loc main_arg2))
        (m ((c : Thread nD τ).loc main_arg3)) (((cfg0.win 4).blk t).view.emb y) := by
  pointwise [k0_pay1, out, scaled, centred, summed]
  blk_point [iblk, V, idx t]

/-- The same for the narrow copy. -/
theorem point16 (c : Dev nD) (t : Fin cfg0.N) (y) :
    k0_pay2 (iblk m c 0 t) (iblk m c 1 t) (iblk m c 2 t) (iblk m c 3 t) y
    = out16 (m ((c : Thread nD τ).loc main_arg0)) (m ((c : Thread nD τ).loc main_arg1)) (m ((c : Thread nD τ).loc main_arg2))
        (m ((c : Thread nD τ).loc main_arg3)) (((cfg0.win 5).blk t).view.emb y) := by
  pointwise [k0_pay2, k0_pay1, out16, out, scaled, centred, summed]
  blk_point [iblk, V, idx t]

/-- The first result array after the run is the reference's first result. -/
theorem final4 (c : Dev nD) : (dats m 0 c).arrAt 4 (cfgs 0).N
    = out (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact point m c t y

/-- The second result array after the run is the reference's second result. -/
theorem final5 (c : Dev nD) : (dats m 0 c).arrAt 5 (cfgs 0).N
    = out16 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  exact point16 m c t y

end Cert.ResLnIdeal.Value

end
-- ==== Proof.ResLnClaims.lean ====
module

public import proofs.«01_k».proof.Defs
public import proofs.«01_k».proof.Proof.Gen.ResLn.Frame
public import proofs.«01_k».proof.Proof.ResLnValue

@[expose] public section

set_option maxRecDepth 16384

noncomputable section

namespace Cert.Proof.ResLnClaims

open Idealize.ShloMosaic Idealize.ShloMosaic.TcCoe Idealize.SL.Sem

/-- The kernel as printed runs to the end from every launch memory and leaves its arguments as they were. -/
theorem frame_p : Cert.quiescent_ResLn := fun m ρ _ => Cert.ResLn.Gen.frame m ρ

/-- The same for the kernel over the extended reals. -/
theorem frame_pi : Cert.quiescent_ResLnIdeal := fun m ρ _ => Cert.ResLnIdeal.Gen.frame m ρ

/-- The same for the reference over the extended reals. -/
theorem frame_ri : Cert.quiescent_ResLnRefIdeal := fun m ρ _ =>
  (θ_run Cert.ResLnRefIdeal.defs _ _).mono (fun r h => ⟨fun c => (h c).2.2, sem_eq_zero_of_no_sems (by decide) r.2⟩)
    (Cert.ResLnRefIdeal.Value.run (F := Ideal) m ρ)

/-- No operation was rewritten on the way to the extended reals. -/
theorem preserves : Cert.preserves_ResLn_ResLnIdeal := trivial

/-- Over the extended reals the kernel's results are the reference's, element by element. -/
theorem algebraic : Cert.algebraic_ResLnIdeal_ResLnRefIdeal := by
  pair_intro
  · run_from Cert.ResLnIdeal.Value.run_blocks m g
  · run_from Cert.ResLnRefIdeal.Value.run m' g'
    · exact (Cert.ResLnIdeal.Value.final4 m c).symm
    · exact (Cert.ResLnIdeal.Value.final5 m c).symm

end Cert.Proof.ResLnClaims

end
-- ==== Proof.PrepRef.lean ====
module

public import proofs.«01_k».proof.Proof.Gen.PrepRefIdeal.Run
public import Idealize.ShloMosaic.Lib.Pointwise

@[expose] public section

set_option maxRecDepth 16384

noncomputable section

namespace Cert.PrepRefIdeal.Spec

open Cert.PrepRefIdeal Cert.PrepRefIdeal.Gen Idealize.ShloMosaic Idealize.ShloMosaic.TcCoe

/-- The angles of the wide heads: a row's position times sixteen falling frequencies. -/
def ang (p : IVec S10240 32) : FVec Ideal S10240x16 .f32 :=
  mulf (broadcastInDim S10240x16 ![0, 1] bcast_S10240x1_S10240x16_0_1 (broadcastInDim S10240x1 ![0] bcast_S10240_S10240x1_0 (sitofp .f32 p)))
    (broadcastInDim S10240x16 ![0, 1] bcast_S1x16_S10240x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- The angles of the indexer's heads: a row's position times eight falling frequencies. -/
def angI (p : IVec S10240 32) : FVec Ideal S10240x8 .f32 :=
  mulf (broadcastInDim S10240x8 ![0, 1] bcast_S10240x1_S10240x8_0_1 (broadcastInDim S10240x1 ![0] bcast_S10240_S10240x1_0 (sitofp .f32 p)))
    (broadcastInDim S10240x8 ![0, 1] bcast_S1x8_S10240x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- Eight wide heads with their first thirty-two lanes turned by the angles `a`. -/
def turnQ (x : FVec Ideal S10240x8x128 .f32) (a : FVec Ideal S10240x16 .f32) : FVec Ideal S10240x8x128 .f32 :=
  concatenate S10240x8x128 2
    [⟨S10240x8x16, (subf (mulf (extractStridedSlice S10240x8x16 ![0, 0, 0] x slices_S10240x8x128_S10240x8x16_0_0_0) (broadcastInDim S10240x8x16 ![0, 1, 2] bcast_S10240x1x16_S10240x8x16_0_1_2 (broadcastInDim S10240x1x16 ![0, 2] bcast_S10240x16_S10240x1x16_0_2 (Host.cos a)))) (mulf (extractStridedSlice S10240x8x16 ![0, 0, 16] x slices_S10240x8x128_S10240x8x16_0_0_16) (broadcastInDim S10240x8x16 ![0, 1, 2] bcast_S10240x1x16_S10240x8x16_0_1_2 (broadcastInDim S10240x1x16 ![0, 2] bcast_S10240x16_S10240x1x16_0_2 (Host.sin a)))) : (⟨S10240x8x16, .f32⟩ : BufTy).Contents (Elt Ideal))⟩,
     ⟨S10240x8x16, (addf (mulf (extractStridedSlice S10240x8x16 ![0, 0, 16] x slices_S10240x8x128_S10240x8x16_0_0_16) (broadcastInDim S10240x8x16 ![0, 1, 2] bcast_S10240x1x16_S10240x8x16_0_1_2 (broadcastInDim S10240x1x16 ![0, 2] bcast_S10240x16_S10240x1x16_0_2 (Host.cos a)))) (mulf (extractStridedSlice S10240x8x16 ![0, 0, 0] x slices_S10240x8x128_S10240x8x16_0_0_0) (broadcastInDim S10240x8x16 ![0, 1, 2] bcast_S10240x1x16_S10240x8x16_0_1_2 (broadcastInDim S10240x1x16 ![0, 2] bcast_S10240x16_S10240x1x16_0_2 (Host.sin a)))) : (⟨S10240x8x16, .f32⟩ : BufTy).Contents (Elt Ideal))⟩,
     ⟨S10240x8x96, (extractStridedSlice S10240x8x96 ![0, 0, 32] x slices_S10240x8x128_S10240x8x96_0_0_32 : (⟨S10240x8x96, .f32⟩ : BufTy).Contents (Elt Ideal))⟩]
    concatenates_S10240x8x16_S10240x8x16_S10240x8x96_S10240x8x128_d2

/-- Two wide heads turned in the same way. -/
def turnK (x : FVec Ideal S10240x2x128 .f32) (a : FVec Ideal S10240x16 .f32) : FVec Ideal S10240x2x128 .f32 :=
  concatenate S10240x2x128 2
    [⟨S10240x2x16, (subf (mulf (extractStridedSlice S10240x2x16 ![0, 0, 0] x slices_S10240x2x128_S10240x2x16_0_0_0) (broadcastInDim S10240x2x16 ![0, 1, 2] bcast_S10240x1x16_S10240x2x16_0_1_2 (broadcastInDim S10240x1x16 ![0, 2] bcast_S10240x16_S10240x1x16_0_2 (Host.cos a)))) (mulf (extractStridedSlice S10240x2x16 ![0, 0, 16] x slices_S10240x2x128_S10240x2x16_0_0_16) (broadcastInDim S10240x2x16 ![0, 1, 2] bcast_S10240x1x16_S10240x2x16_0_1_2 (broadcastInDim S10240x1x16 ![0, 2] bcast_S10240x16_S10240x1x16_0_2 (Host.sin a)))) : (⟨S10240x2x16, .f32⟩ : BufTy).Contents (Elt Ideal))⟩,
     ⟨S10240x2x16, (addf (mulf (extractStridedSlice S10240x2x16 ![0, 0, 16] x slices_S10240x2x128_S10240x2x16_0_0_16) (broadcastInDim S10240x2x16 ![0, 1, 2] bcast_S10240x1x16_S10240x2x16_0_1_2 (broadcastInDim S10240x1x16 ![0, 2] bcast_S10240x16_S10240x1x16_0_2 (Host.cos a)))) (mulf (extractStridedSlice S10240x2x16 ![0, 0, 0] x slices_S10240x2x128_S10240x2x16_0_0_0) (broadcastInDim S10240x2x16 ![0, 1, 2] bcast_S10240x1x16_S10240x2x16_0_1_2 (broadcastInDim S10240x1x16 ![0, 2] bcast_S10240x16_S10240x1x16_0_2 (Host.sin a)))) : (⟨S10240x2x16, .f32⟩ : BufTy).Contents (Elt Ideal))⟩,
     ⟨S10240x2x96, (extractStridedSlice S10240x2x96 ![0, 0, 32] x slices_S10240x2x128_S10240x2x96_0_0_32 : (⟨S10240x2x96, .f32⟩ : BufTy).Contents (Elt Ideal))⟩]
    concatenates_S10240x2x16_S10240x2x16_S10240x2x96_S10240x2x128_d2

/-- Eight heads of the indexer with their first sixteen lanes turned by the angles `a`. -/
def turnI (x : FVec Ideal S10240x8x64 .f32) (a : FVec Ideal S10240x8 .f32) : FVec Ideal S10240x8x64 .f32 :=
  concatenate S10240x8x64 2
    [⟨S10240x8x8, (subf (mulf (extractStridedSlice S10240x8x8 ![0, 0, 0] x slices_S10240x8x64_S10240x8x8_0_0_0) (broadcastInDim S10240x8x8 ![0, 1, 2] bcast_S10240x1x8_S10240x8x8_0_1_2 (broadcastInDim S10240x1x8 ![0, 2] bcast_S10240x8_S10240x1x8_0_2 (Host.cos a)))) (mulf (extractStridedSlice S10240x8x8 ![0, 0, 8] x slices_S10240x8x64_S10240x8x8_0_0_8) (broadcastInDim S10240x8x8 ![0, 1, 2] bcast_S10240x1x8_S10240x8x8_0_1_2 (broadcastInDim S10240x1x8 ![0, 2] bcast_S10240x8_S10240x1x8_0_2 (Host.sin a)))) : (⟨S10240x8x8, .f32⟩ : BufTy).Contents (Elt Ideal))⟩,
     ⟨S10240x8x8, (addf (mulf (extractStridedSlice S10240x8x8 ![0, 0, 8] x slices_S10240x8x64_S10240x8x8_0_0_8) (broadcastInDim S10240x8x8 ![0, 1, 2] bcast_S10240x1x8_S10240x8x8_0_1_2 (broadcastInDim S10240x1x8 ![0, 2] bcast_S10240x8_S10240x1x8_0_2 (Host.cos a)))) (mulf (extractStridedSlice S10240x8x8 ![0, 0, 0] x slices_S10240x8x64_S10240x8x8_0_0_0) (broadcastInDim S10240x8x8 ![0, 1, 2] bcast_S10240x1x8_S10240x8x8_0_1_2 (broadcastInDim S10240x1x8 ![0, 2] bcast_S10240x8_S10240x1x8_0_2 (Host.sin a)))) : (⟨S10240x8x8, .f32⟩ : BufTy).Contents (Elt Ideal))⟩,
     ⟨S10240x8x48, (extractStridedSlice S10240x8x48 ![0, 0, 16] x slices_S10240x8x64_S10240x8x48_0_0_16 : (⟨S10240x8x48, .f32⟩ : BufTy).Contents (Elt Ideal))⟩]
    concatenates_S10240x8x8_S10240x8x8_S10240x8x48_S10240x8x64_d2

/-- One head of the indexer turned in the same way. -/
def turnS (x : FVec Ideal S10240x1x64 .f32) (a : FVec Ideal S10240x8 .f32) : FVec Ideal S10240x1x64 .f32 :=
  concatenate S10240x1x64 2
    [⟨S10240x1x8, (subf (mulf (extractStridedSlice S10240x1x8 ![0, 0, 0] x slices_S10240x1x64_S10240x1x8_0_0_0) (broadcastInDim S10240x1x8 ![0, 2] bcast_S10240x8_S10240x1x8_0_2 (Host.cos a))) (mulf (extractStridedSlice S10240x1x8 ![0, 0, 8] x slices_S10240x1x64_S10240x1x8_0_0_8) (broadcastInDim S10240x1x8 ![0, 2] bcast_S10240x8_S10240x1x8_0_2 (Host.sin a))) : (⟨S10240x1x8, .f32⟩ : BufTy).Contents (Elt Ideal))⟩,
     ⟨S10240x1x8, (addf (mulf (extractStridedSlice S10240x1x8 ![0, 0, 8] x slices_S10240x1x64_S10240x1x8_0_0_8) (broadcastInDim S10240x1x8 ![0, 2] bcast_S10240x8_S10240x1x8_0_2 (Host.cos a))) (mulf (extractStridedSlice S10240x1x8 ![0, 0, 0] x slices_S10240x1x64_S10240x1x8_0_0_0) (broadcastInDim S10240x1x8 ![0, 2] bcast_S10240x8_S10240x1x8_0_2 (Host.sin a))) : (⟨S10240x1x8, .f32⟩ : BufTy).Contents (Elt Ideal))⟩,
     ⟨S10240x1x48, (extractStridedSlice S10240x1x48 ![0, 0, 16] x slices_S10240x1x64_S10240x1x48_0_0_16 : (⟨S10240x1x48, .f32⟩ : BufTy).Contents (Elt Ideal))⟩]
    concatenates_S10240x1x8_S10240x1x8_S10240x1x48_S10240x1x64_d2

/-- The reference's first result: the queries, turned and narrowed. -/
def outQ (z : FVec Ideal S10240x15488 .f32) (p : IVec S10240 32) : FVec Ideal S10240x1024 .bf16 :=
  truncf .bf16 (shapeCast _ (turnQ (shapeCast _ (extractStridedSlice S10240x1024 ![0, 4096] z slices_S10240x15488_S10240x1024_0_4096) shapeCasts_S10240x1024_S10240x8x128) (ang p)) shapeCasts_S10240x8x128_S10240x1024) bitsLt_bf16_f32

/-- The second result: the keys, turned. -/
def outK (z : FVec Ideal S10240x15488 .f32) (p : IVec S10240 32) : FVec Ideal S10240x256 .f32 :=
  shapeCast _ (turnK (shapeCast _ (extractStridedSlice S10240x256 ![0, 5120] z slices_S10240x15488_S10240x256_0_5120) shapeCasts_S10240x256_S10240x2x128) (ang p)) shapeCasts_S10240x2x128_S10240x256

/-- The third result: the turned keys, narrowed. -/
def outK16 (z : FVec Ideal S10240x15488 .f32) (p : IVec S10240 32) : FVec Ideal S10240x256 .bf16 := truncf .bf16 (outK z p) bitsLt_bf16_f32

/-- The fourth result: the values, narrowed. -/
def outV (z : FVec Ideal S10240x15488 .f32) : FVec Ideal S10240x256 .bf16 :=
  truncf .bf16 (extractStridedSlice S10240x256 ![0, 5376] z slices_S10240x15488_S10240x256_0_5376) bitsLt_bf16_f32

/-- The fifth result: the indexer's queries, turned and narrowed. -/
def outI (z : FVec Ideal S10240x15488 .f32) (p : IVec S10240 32) : FVec Ideal S10240x512 .bf16 :=
  truncf .bf16 (shapeCast _ (turnI (shapeCast _ (extractStridedSlice S10240x512 ![0, 5632] z slices_S10240x15488_S10240x512_0_5632) shapeCasts_S10240x512_S10240x8x64) (angI p)) shapeCasts_S10240x8x64_S10240x512) bitsLt_bf16_f32

/-- The sixth result: the indexer's key turned, and the rest of the small columns beside it. -/
def outS (z : FVec Ideal S10240x15488 .f32) (p : IVec S10240 32) : FVec Ideal S10240x128 .f32 :=
  concatenate S10240x128 1
    [⟨S10240x64, (shapeCast _ (turnS (broadcastInDim S10240x1x64 ![0, 2] bcast_S10240x64_S10240x1x64_0_2 (extractStridedSlice S10240x64 ![0, 15360] z slices_S10240x15488_S10240x64_0_15360)) (angI p)) shapeCasts_S10240x1x64_S10240x64 : (⟨S10240x64, .f32⟩ : BufTy).Contents (Elt Ideal))⟩,
     ⟨S10240x64, (extractStridedSlice S10240x64 ![0, 15424] z slices_S10240x15488_S10240x64_0_15424 : (⟨S10240x64, .f32⟩ : BufTy).Contents (Elt Ideal))⟩]
    concatenates_S10240x64_S10240x64_S10240x128_d1

/-- The seventh result: the same columns, narrowed. -/
def outS16 (z : FVec Ideal S10240x15488 .f32) (p : IVec S10240 32) : FVec Ideal S10240x128 .bf16 := truncf .bf16 (outS z p) bitsLt_bf16_f32

/-- One row of a wide head turned: lane `l` of `x` by the cosines `c` and sines `s`. -/
def turnWide (x : Fin 128 → EReal) (c s : Fin 16 → EReal) (l : Fin 128) : EReal :=
  if h : l.val < 16 then x l * c ⟨l.val, h⟩ - x ⟨l.val + 16, by omega⟩ * s ⟨l.val, h⟩
  else if h' : l.val < 32 then x l * c ⟨l.val - 16, by omega⟩ + x ⟨l.val - 16, by omega⟩ * s ⟨l.val - 16, by omega⟩
  else x l

/-- One row of an indexer head turned in the same way. -/
def turnIdx (x : Fin 64 → EReal) (c s : Fin 8 → EReal) (l : Fin 64) : EReal :=
  if h : l.val < 8 then x l * c ⟨l.val, h⟩ - x ⟨l.val + 8, by omega⟩ * s ⟨l.val, h⟩
  else if h' : l.val < 16 then x l * c ⟨l.val - 8, by omega⟩ + x ⟨l.val - 8, by omega⟩ * s ⟨l.val - 8, by omega⟩
  else x l

/-- The turned columns read at an element: its head's row turned, at its lane. -/
theorem outQ_apply (z : FVec Ideal S10240x15488 .f32) (p : IVec S10240 32) (r : Fin 10240) (q : Fin 1024) :
    outQ z p (ix2 r q) = turnWide (fun l => z (ix2 r ⟨4096 + (q.val / 128 * 128 + l.val), by omega⟩))
      (fun j => Ideal.cos (ang p (ix2 r j))) (fun j => Ideal.sin (ang p (ix2 r j))) ⟨q.val % 128, by omega⟩ := by
  unfold outQ
  generalize ang p = a
  pointwise [turnQ]
  unfold turnWide
  dsimp only
  have e : ∀ i j : Fin 15488, i.val = j.val → z (ix2 r i) = z (ix2 r j) := fun i j h => by rw [Fin.ext h]
  by_cases h1 : q.val % 128 < 16
  · simp only [h1, ↓reduceDIte]
    exact congrArg₂ HSub.hSub (congrArg₂ HMul.hMul (e _ _ (by dsimp only <;> omega)) rfl) (congrArg₂ HMul.hMul (e _ _ (by dsimp only <;> omega)) rfl)
  · simp only [h1, ↓reduceDIte]
    by_cases h2 : q.val % 128 < 32
    · have h3 : q.val % 128 - 16 < 16 := by omega
      simp only [h2, h3, ↓reduceDIte]
      exact congrArg₂ HAdd.hAdd (congrArg₂ HMul.hMul (e _ _ (by dsimp only <;> omega)) rfl) (congrArg₂ HMul.hMul (e _ _ (by dsimp only <;> omega)) rfl)
    · have h3 : ¬ q.val % 128 - 16 < 16 := by omega
      simp only [h2, h3, ↓reduceDIte]
      exact e _ _ (by dsimp only <;> omega)

/-- The turned columns read at an element: its head's row turned, at its lane. -/
theorem outK_apply (z : FVec Ideal S10240x15488 .f32) (p : IVec S10240 32) (r : Fin 10240) (q : Fin 256) :
    outK z p (ix2 r q) = turnWide (fun l => z (ix2 r ⟨5120 + (q.val / 128 * 128 + l.val), by omega⟩))
      (fun j => Ideal.cos (ang p (ix2 r j))) (fun j => Ideal.sin (ang p (ix2 r j))) ⟨q.val % 128, by omega⟩ := by
  unfold outK
  generalize ang p = a
  pointwise [turnK]
  unfold turnWide
  dsimp only
  have e : ∀ i j : Fin 15488, i.val = j.val → z (ix2 r i) = z (ix2 r j) := fun i j h => by rw [Fin.ext h]
  by_cases h1 : q.val % 128 < 16
  · simp only [h1, ↓reduceDIte]
    exact congrArg₂ HSub.hSub (congrArg₂ HMul.hMul (e _ _ (by dsimp only <;> omega)) rfl) (congrArg₂ HMul.hMul (e _ _ (by dsimp only <;> omega)) rfl)
  · simp only [h1, ↓reduceDIte]
    by_cases h2 : q.val % 128 < 32
    · have h3 : q.val % 128 - 16 < 16 := by omega
      simp only [h2, h3, ↓reduceDIte]
      exact congrArg₂ HAdd.hAdd (congrArg₂ HMul.hMul (e _ _ (by dsimp only <;> omega)) rfl) (congrArg₂ HMul.hMul (e _ _ (by dsimp only <;> omega)) rfl)
    · have h3 : ¬ q.val % 128 - 16 < 16 := by omega
      simp only [h2, h3, ↓reduceDIte]
      exact e _ _ (by dsimp only <;> omega)

/-- The turned columns read at an element: its head's row turned, at its lane. -/
theorem outI_apply (z : FVec Ideal S10240x15488 .f32) (p : IVec S10240 32) (r : Fin 10240) (q : Fin 512) :
    outI z p (ix2 r q) = turnIdx (fun l => z (ix2 r ⟨5632 + (q.val / 64 * 64 + l.val), by omega⟩))
      (fun j => Ideal.cos (angI p (ix2 r j))) (fun j => Ideal.sin (angI p (ix2 r j))) ⟨q.val % 64, by omega⟩ := by
  unfold outI
  generalize angI p = a
  pointwise [turnI]
  unfold turnIdx
  dsimp only
  have e : ∀ i j : Fin 15488, i.val = j.val → z (ix2 r i) = z (ix2 r j) := fun i j h => by rw [Fin.ext h]
  by_cases h1 : q.val % 64 < 8
  · simp only [h1, ↓reduceDIte]
    exact congrArg₂ HSub.hSub (congrArg₂ HMul.hMul (e _ _ (by dsimp only <;> omega)) rfl) (congrArg₂ HMul.hMul (e _ _ (by dsimp only <;> omega)) rfl)
  · simp only [h1, ↓reduceDIte]
    by_cases h2 : q.val % 64 < 16
    · have h3 : q.val % 64 - 8 < 8 := by omega
      simp only [h2, h3, ↓reduceDIte]
      exact congrArg₂ HAdd.hAdd (congrArg₂ HMul.hMul (e _ _ (by dsimp only <;> omega)) rfl) (congrArg₂ HMul.hMul (e _ _ (by dsimp only <;> omega)) rfl)
    · have h3 : ¬ q.val % 64 - 8 < 8 := by omega
      simp only [h2, h3, ↓reduceDIte]
      exact e _ _ (by dsimp only <;> omega)

/-- The small columns read at an element: the first sixty-four are the indexer's key turned, the others stay. -/
theorem outS_apply (z : FVec Ideal S10240x15488 .f32) (p : IVec S10240 32) (r : Fin 10240) (q : Fin 128) :
    outS z p (ix2 r q) = if h : q.val < 64 then turnIdx (fun l => z (ix2 r ⟨15360 + l.val, by omega⟩))
        (fun j => Ideal.cos (angI p (ix2 r j))) (fun j => Ideal.sin (angI p (ix2 r j))) ⟨q.val, h⟩
      else z (ix2 r ⟨15360 + q.val, by omega⟩) := by
  unfold outS
  generalize angI p = a
  pointwise [turnS]
  unfold turnIdx
  dsimp only
  have e : ∀ i j : Fin 15488, i.val = j.val → z (ix2 r i) = z (ix2 r j) := fun i j h => by rw [Fin.ext h]
  by_cases h0 : q.val < 64
  · simp only [h0, ↓reduceDIte]
    by_cases h1 : q.val < 8
    · simp only [h1, ↓reduceDIte]
      exact congrArg₂ HSub.hSub (congrArg₂ HMul.hMul (e _ _ (by dsimp only <;> omega)) rfl) (congrArg₂ HMul.hMul (e _ _ (by dsimp only <;> omega)) rfl)
    · simp only [h1, ↓reduceDIte]
      by_cases h2 : q.val < 16
      · have h3 : q.val - 8 < 8 := by omega
        simp only [h2, h3, ↓reduceDIte]
        exact congrArg₂ HAdd.hAdd (congrArg₂ HMul.hMul (e _ _ (by dsimp only <;> omega)) rfl) (congrArg₂ HMul.hMul (e _ _ (by dsimp only <;> omega)) rfl)
      · have h3 : ¬ q.val - 8 < 8 := by omega
        simp only [h2, h3, ↓reduceDIte]
        exact e _ _ (by dsimp only <;> omega)
  · simp only [h0, ↓reduceDIte]
    exact e _ _ (by dsimp only <;> omega)

end Cert.PrepRefIdeal.Spec

end
-- ==== Proof.PrepTables.lean ====
module

public import proofs.«01_k».proof.Proof.Gen.PrepIdeal.Value
public import proofs.«01_k».proof.Proof.PrepRef
public import Idealize.ShloMosaic.Lib.Pipeline.ValueKit
public import Idealize.ShloMosaic.Lib.Claim

@[expose] public section

set_option maxRecDepth 16384

noncomputable section

namespace Cert.PrepIdeal.Value

open Cert.PrepIdeal Cert.PrepIdeal.Gen Idealize.ShloMosaic Idealize.ShloMosaic.TcCoe Idealize.SL.Sem
open Cert.PrepRefIdeal.Spec (ang angI)

variable (m : (ℓ : Loc nD τ sig) → Buf (Elt Ideal) ℓ)

/-- The cosine table of the wide heads as the kernel lays it out. -/
def cosH (a : FVec Ideal S10240x16 .f32) : FVec Ideal S10240x128 .f32 :=
  select (broadcastInDim S10240x128 ![0, 1] bcast_S1x128_S10240x128_0_1 (cmpi .slt (broadcastInDim S1x128 ![1] bcast_S128_S1x128_1 (iotaInDim S128 32 0)) (broadcastInDim S1x128 ![] bcast_S_S1x128 (constantI S_ 32 128#32))))
    (shapeCast S10240x128 (broadcastInDim S1x10240x1x128 ![0, 1, 2, 3] bcast_S1x10240x1x128_S1x10240x1x128_0_1_2_3 (shapeCast S1x10240x1x128 (concatenate S10240x128 1 [⟨S10240x16, (Host.cos a : (⟨S10240x16, .f32⟩ : BufTy).Contents (Elt Ideal))⟩, ⟨S10240x16, (Host.cos a : (⟨S10240x16, .f32⟩ : BufTy).Contents (Elt Ideal))⟩, ⟨S10240x96, ((broadcastInDim S10240x96 ![] bcast_S_S10240x96 (constant S_ .f32 0x3F800000#32) : FVec Ideal S10240x96 .f32) : (⟨S10240x96, .f32⟩ : BufTy).Contents (Elt Ideal))⟩] concatenates_S10240x16_S10240x16_S10240x96_S10240x128_d1 : FVec Ideal S10240x128 .f32) shapeCasts_S10240x128_S1x10240x1x128)) shapeCasts_S1x10240x1x128_S10240x128)
    (broadcastInDim S10240x128 ![] bcast_S_S10240x128 (constant S_ .f32 0x3F800000#32))

/-- The signed sine table of the wide heads. -/
def sinH (a : FVec Ideal S10240x16 .f32) : FVec Ideal S10240x128 .f32 :=
  select (broadcastInDim S10240x128 ![0, 1] bcast_S1x128_S10240x128_0_1 (cmpi .slt (broadcastInDim S1x128 ![1] bcast_S128_S1x128_1 (iotaInDim S128 32 0)) (broadcastInDim S1x128 ![] bcast_S_S1x128 (constantI S_ 32 128#32))))
    (shapeCast S10240x128 (broadcastInDim S1x10240x1x128 ![0, 1, 2, 3] bcast_S1x10240x1x128_S1x10240x1x128_0_1_2_3 (shapeCast S1x10240x1x128 (concatenate S10240x128 1 [⟨S10240x16, (Host.negf (Host.sin a) : (⟨S10240x16, .f32⟩ : BufTy).Contents (Elt Ideal))⟩, ⟨S10240x16, (Host.sin a : (⟨S10240x16, .f32⟩ : BufTy).Contents (Elt Ideal))⟩, ⟨S10240x96, ((broadcastInDim S10240x96 ![] bcast_S_S10240x96 (constant S_ .f32 0x00000000#32) : FVec Ideal S10240x96 .f32) : (⟨S10240x96, .f32⟩ : BufTy).Contents (Elt Ideal))⟩] concatenates_S10240x16_S10240x16_S10240x96_S10240x128_d1 : FVec Ideal S10240x128 .f32) shapeCasts_S10240x128_S1x10240x1x128)) shapeCasts_S1x10240x1x128_S10240x128)
    (broadcastInDim S10240x128 ![] bcast_S_S10240x128 (constant S_ .f32 0x00000000#32))

/-- The cosine table of two heads of the indexer side by side. -/
def cosI (a : FVec Ideal S10240x8 .f32) : FVec Ideal S10240x128 .f32 :=
  select (broadcastInDim S10240x128 ![0, 1] bcast_S1x128_S10240x128_0_1 (cmpi .slt (broadcastInDim S1x128 ![1] bcast_S128_S1x128_1 (iotaInDim S128 32 0)) (broadcastInDim S1x128 ![] bcast_S_S1x128 (constantI S_ 32 128#32))))
    (shapeCast S10240x128 (broadcastInDim S1x10240x2x64 ![0, 1, 2, 3] bcast_S1x10240x1x64_S1x10240x2x64_0_1_2_3 (shapeCast S1x10240x1x64 (concatenate S10240x64 1 [⟨S10240x8, (Host.cos a : (⟨S10240x8, .f32⟩ : BufTy).Contents (Elt Ideal))⟩, ⟨S10240x8, (Host.cos a : (⟨S10240x8, .f32⟩ : BufTy).Contents (Elt Ideal))⟩, ⟨S10240x48, ((broadcastInDim S10240x48 ![] bcast_S_S10240x48 (constant S_ .f32 0x3F800000#32) : FVec Ideal S10240x48 .f32) : (⟨S10240x48, .f32⟩ : BufTy).Contents (Elt Ideal))⟩] concatenates_S10240x8_S10240x8_S10240x48_S10240x64_d1 : FVec Ideal S10240x64 .f32) shapeCasts_S10240x64_S1x10240x1x64)) shapeCasts_S1x10240x2x64_S10240x128)
    (broadcastInDim S10240x128 ![] bcast_S_S10240x128 (constant S_ .f32 0x3F800000#32))

/-- The signed sine table of two heads of the indexer side by side. -/
def sinI (a : FVec Ideal S10240x8 .f32) : FVec Ideal S10240x128 .f32 :=
  select (broadcastInDim S10240x128 ![0, 1] bcast_S1x128_S10240x128_0_1 (cmpi .slt (broadcastInDim S1x128 ![1] bcast_S128_S1x128_1 (iotaInDim S128 32 0)) (broadcastInDim S1x128 ![] bcast_S_S1x128 (constantI S_ 32 128#32))))
    (shapeCast S10240x128 (broadcastInDim S1x10240x2x64 ![0, 1, 2, 3] bcast_S1x10240x1x64_S1x10240x2x64_0_1_2_3 (shapeCast S1x10240x1x64 (concatenate S10240x64 1 [⟨S10240x8, (Host.negf (Host.sin a) : (⟨S10240x8, .f32⟩ : BufTy).Contents (Elt Ideal))⟩, ⟨S10240x8, (Host.sin a : (⟨S10240x8, .f32⟩ : BufTy).Contents (Elt Ideal))⟩, ⟨S10240x48, ((broadcastInDim S10240x48 ![] bcast_S_S10240x48 (constant S_ .f32 0x00000000#32) : FVec Ideal S10240x48 .f32) : (⟨S10240x48, .f32⟩ : BufTy).Contents (Elt Ideal))⟩] concatenates_S10240x8_S10240x8_S10240x48_S10240x64_d1 : FVec Ideal S10240x64 .f32) shapeCasts_S10240x64_S1x10240x1x64)) shapeCasts_S1x10240x2x64_S10240x128)
    (broadcastInDim S10240x128 ![] bcast_S_S10240x128 (constant S_ .f32 0x00000000#32))

/-- The cosine table of the small columns: the first half turns, the second stays. -/
def cosK (a : FVec Ideal S10240x8 .f32) : FVec Ideal S10240x128 .f32 :=
  select (broadcastInDim S10240x128 ![0, 1] bcast_S1x128_S10240x128_0_1 (cmpi .slt (broadcastInDim S1x128 ![1] bcast_S128_S1x128_1 (iotaInDim S128 32 0)) (broadcastInDim S1x128 ![] bcast_S_S1x128 (constantI S_ 32 64#32))))
    (shapeCast S10240x128 (broadcastInDim S1x10240x2x64 ![0, 1, 2, 3] bcast_S1x10240x1x64_S1x10240x2x64_0_1_2_3 (shapeCast S1x10240x1x64 (concatenate S10240x64 1 [⟨S10240x8, (Host.cos a : (⟨S10240x8, .f32⟩ : BufTy).Contents (Elt Ideal))⟩, ⟨S10240x8, (Host.cos a : (⟨S10240x8, .f32⟩ : BufTy).Contents (Elt Ideal))⟩, ⟨S10240x48, ((broadcastInDim S10240x48 ![] bcast_S_S10240x48 (constant S_ .f32 0x3F800000#32) : FVec Ideal S10240x48 .f32) : (⟨S10240x48, .f32⟩ : BufTy).Contents (Elt Ideal))⟩] concatenates_S10240x8_S10240x8_S10240x48_S10240x64_d1 : FVec Ideal S10240x64 .f32) shapeCasts_S10240x64_S1x10240x1x64)) shapeCasts_S1x10240x2x64_S10240x128)
    (broadcastInDim S10240x128 ![] bcast_S_S10240x128 (constant S_ .f32 0x3F800000#32))

/-- The signed sine table of the small columns. -/
def sinK (a : FVec Ideal S10240x8 .f32) : FVec Ideal S10240x128 .f32 :=
  select (broadcastInDim S10240x128 ![0, 1] bcast_S1x128_S10240x128_0_1 (cmpi .slt (broadcastInDim S1x128 ![1] bcast_S128_S1x128_1 (iotaInDim S128 32 0)) (broadcastInDim S1x128 ![] bcast_S_S1x128 (constantI S_ 32 64#32))))
    (shapeCast S10240x128 (broadcastInDim S1x10240x2x64 ![0, 1, 2, 3] bcast_S1x10240x1x64_S1x10240x2x64_0_1_2_3 (shapeCast S1x10240x1x64 (concatenate S10240x64 1 [⟨S10240x8, (Host.negf (Host.sin a) : (⟨S10240x8, .f32⟩ : BufTy).Contents (Elt Ideal))⟩, ⟨S10240x8, (Host.sin a : (⟨S10240x8, .f32⟩ : BufTy).Contents (Elt Ideal))⟩, ⟨S10240x48, ((broadcastInDim S10240x48 ![] bcast_S_S10240x48 (constant S_ .f32 0x00000000#32) : FVec Ideal S10240x48 .f32) : (⟨S10240x48, .f32⟩ : BufTy).Contents (Elt Ideal))⟩] concatenates_S10240x8_S10240x8_S10240x48_S10240x64_d1 : FVec Ideal S10240x64 .f32) shapeCasts_S10240x64_S1x10240x1x64)) shapeCasts_S1x10240x2x64_S10240x128)
    (broadcastInDim S10240x128 ![] bcast_S_S10240x128 (constant S_ .f32 0x00000000#32))

/-- A set bit selects the first value. -/
theorem sel_one {α : Type} (a b : α) : Scalar.select 1#1 a b = a := rfl

/-- A clear bit selects the second value. -/
theorem sel_zero {α : Type} (a b : α) : Scalar.select 0#1 a b = b := rfl

/-- Every lane number is below the tile's width. -/
theorem below_all (l : Fin 128) : IntOp.cmpi .slt (BitVec.ofNat 32 l.val) 128#32 = 1#1 := by
  revert l
  decide +kernel

/-- A lane number is below the half's width or not. -/
theorem below_half (l : Fin 128) : IntOp.cmpi .slt (BitVec.ofNat 32 l.val) 64#32 = if l.val < 64 then 1#1 else 0#1 := by
  revert l
  decide +kernel

/-- The wide heads' cosine table read at a lane. -/
theorem cosH_apply (a : FVec Ideal S10240x16 .f32) (r : Fin 10240) (l : Fin 128) :
    cosH a (ix2 r l) = if h : l.val < 16 then Ideal.cos (a (ix2 r ⟨l.val, h⟩))
      else if h' : l.val < 32 then Ideal.cos (a (ix2 r ⟨l.val - 16, by omega⟩)) else (1 : EReal) := by
  pointwise [cosH]
  rw [below_all, sel_one]
  by_cases h1 : l.val < 16
  · simp only [h1, ↓reduceDIte]
  · simp only [h1, ↓reduceDIte]
    by_cases h2 : l.val < 32
    · have h3 : l.val - 16 < 16 := by omega
      simp only [h2, h3, ↓reduceDIte]
    · have h3 : ¬ l.val - 16 < 16 := by omega
      simp only [h2, h3, ↓reduceDIte]

/-- The wide heads' sine table read at a lane. -/
theorem sinH_apply (a : FVec Ideal S10240x16 .f32) (r : Fin 10240) (l : Fin 128) :
    sinH a (ix2 r l) = if h : l.val < 16 then -Ideal.sin (a (ix2 r ⟨l.val, h⟩))
      else if h' : l.val < 32 then Ideal.sin (a (ix2 r ⟨l.val - 16, by omega⟩)) else (0 : EReal) := by
  pointwise [sinH]
  rw [below_all, sel_one]
  by_cases h1 : l.val < 16
  · simp only [h1, ↓reduceDIte]
  · simp only [h1, ↓reduceDIte]
    by_cases h2 : l.val < 32
    · have h3 : l.val - 16 < 16 := by omega
      simp only [h2, h3, ↓reduceDIte]
    · have h3 : ¬ l.val - 16 < 16 := by omega
      simp only [h2, h3, ↓reduceDIte]

/-- The two heads' cosine table read at a lane. -/
theorem cosI_apply (a : FVec Ideal S10240x8 .f32) (r : Fin 10240) (l : Fin 128) :
    cosI a (ix2 r l) = if h : l.val % 64 < 8 then Ideal.cos (a (ix2 r ⟨l.val % 64, h⟩))
      else if h' : l.val % 64 < 16 then Ideal.cos (a (ix2 r ⟨l.val % 64 - 8, by omega⟩)) else (1 : EReal) := by
  pointwise [cosI]
  rw [below_all, sel_one]
  by_cases h1 : l.val % 64 < 8
  · simp only [h1, ↓reduceDIte]
  · simp only [h1, ↓reduceDIte]
    by_cases h2 : l.val % 64 < 16
    · have h3 : l.val % 64 - 8 < 8 := by omega
      simp only [h2, h3, ↓reduceDIte]
    · have h3 : ¬ l.val % 64 - 8 < 8 := by omega
      simp only [h2, h3, ↓reduceDIte]

/-- The two heads' sine table read at a lane. -/
theorem sinI_apply (a : FVec Ideal S10240x8 .f32) (r : Fin 10240) (l : Fin 128) :
    sinI a (ix2 r l) = if h : l.val % 64 < 8 then -Ideal.sin (a (ix2 r ⟨l.val % 64, h⟩))
      else if h' : l.val % 64 < 16 then Ideal.sin (a (ix2 r ⟨l.val % 64 - 8, by omega⟩)) else (0 : EReal) := by
  pointwise [sinI]
  rw [below_all, sel_one]
  by_cases h1 : l.val % 64 < 8
  · simp only [h1, ↓reduceDIte]
  · simp only [h1, ↓reduceDIte]
    by_cases h2 : l.val % 64 < 16
    · have h3 : l.val % 64 - 8 < 8 := by omega
      simp only [h2, h3, ↓reduceDIte]
    · have h3 : ¬ l.val % 64 - 8 < 8 := by omega
      simp only [h2, h3, ↓reduceDIte]

/-- The small columns' cosine table read at a lane. -/
theorem cosK_apply (a : FVec Ideal S10240x8 .f32) (r : Fin 10240) (l : Fin 128) :
    cosK a (ix2 r l) = if l.val < 64 then (if h : l.val % 64 < 8 then Ideal.cos (a (ix2 r ⟨l.val % 64, h⟩))
      else if h' : l.val % 64 < 16 then Ideal.cos (a (ix2 r ⟨l.val % 64 - 8, by omega⟩)) else (1 : EReal)) else (1 : EReal) := by
  pointwise [cosK]
  rw [below_half]
  by_cases h0 : l.val < 64
  · simp only [h0, ↓reduceIte, sel_one]
    by_cases h1 : l.val % 64 < 8
    · simp only [h1, ↓reduceDIte]
    · simp only [h1, ↓reduceDIte]
      by_cases h2 : l.val % 64 < 16
      · have h3 : l.val % 64 - 8 < 8 := by omega
        simp only [h2, h3, ↓reduceDIte]
      · have h3 : ¬ l.val % 64 - 8 < 8 := by omega
        simp only [h2, h3, ↓reduceDIte]
  · simp only [h0, ↓reduceIte, sel_zero]

/-- The small columns' sine table read at a lane. -/
theorem sinK_apply (a : FVec Ideal S10240x8 .f32) (r : Fin 10240) (l : Fin 128) :
    sinK a (ix2 r l) = if l.val < 64 then (if h : l.val % 64 < 8 then -Ideal.sin (a (ix2 r ⟨l.val % 64, h⟩))
      else if h' : l.val % 64 < 16 then Ideal.sin (a (ix2 r ⟨l.val % 64 - 8, by omega⟩)) else (0 : EReal)) else (0 : EReal) := by
  pointwise [sinK]
  rw [below_half]
  by_cases h0 : l.val < 64
  · simp only [h0, ↓reduceIte, sel_one]
    by_cases h1 : l.val % 64 < 8
    · simp only [h1, ↓reduceDIte]
    · simp only [h1, ↓reduceDIte]
      by_cases h2 : l.val % 64 < 16
      · have h3 : l.val % 64 - 8 < 8 := by omega
        simp only [h2, h3, ↓reduceDIte]
      · have h3 : ¬ l.val % 64 - 8 < 8 := by omega
        simp only [h2, h3, ↓reduceDIte]
  · simp only [h0, ↓reduceIte, sel_zero]

/-- The region finds this table at its input. -/
theorem V_v29 (c : Dev nD) : V m c main_v29 = cosH (ang (m ((c : Thread nD τ).loc main_arg1))) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append, List.append_nil,
    StableHlo.TRef.ternary, StableHlo.TRef.binary, StableHlo.TRef.unary, StableHlo.TRef.toBuf, StableHlo.TRef.ofBuf, cast_eq]
  after_results_simp
  rfl

/-- The region finds this table at its input. -/
theorem V_v32 (c : Dev nD) : V m c main_v32 = sinH (ang (m ((c : Thread nD τ).loc main_arg1))) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append, List.append_nil,
    StableHlo.TRef.ternary, StableHlo.TRef.binary, StableHlo.TRef.unary, StableHlo.TRef.toBuf, StableHlo.TRef.ofBuf, cast_eq]
  after_results_simp
  rfl

/-- The region finds this table at its input. -/
theorem V_v60 (c : Dev nD) : V m c main_v60 = cosI (angI (m ((c : Thread nD τ).loc main_arg1))) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append, List.append_nil,
    StableHlo.TRef.ternary, StableHlo.TRef.binary, StableHlo.TRef.unary, StableHlo.TRef.toBuf, StableHlo.TRef.ofBuf, cast_eq]
  after_results_simp
  rfl

/-- The region finds this table at its input. -/
theorem V_v63 (c : Dev nD) : V m c main_v63 = sinI (angI (m ((c : Thread nD τ).loc main_arg1))) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append, List.append_nil,
    StableHlo.TRef.ternary, StableHlo.TRef.binary, StableHlo.TRef.unary, StableHlo.TRef.toBuf, StableHlo.TRef.ofBuf, cast_eq]
  after_results_simp
  rfl

/-- The region finds this table at its input. -/
theorem V_v91 (c : Dev nD) : V m c main_v91 = cosK (angI (m ((c : Thread nD τ).loc main_arg1))) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append, List.append_nil,
    StableHlo.TRef.ternary, StableHlo.TRef.binary, StableHlo.TRef.unary, StableHlo.TRef.toBuf, StableHlo.TRef.ofBuf, cast_eq]
  after_results_simp
  rfl

/-- The region finds this table at its input. -/
theorem V_v94 (c : Dev nD) : V m c main_v94 = sinK (angI (m ((c : Thread nD τ).loc main_arg1))) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append, List.append_nil,
    StableHlo.TRef.ternary, StableHlo.TRef.binary, StableHlo.TRef.unary, StableHlo.TRef.toBuf, StableHlo.TRef.ofBuf, cast_eq]
  after_results_simp
  rfl

end Cert.PrepIdeal.Value

end
-- ==== Proof.PrepTile.lean ====
module

public import proofs.«01_k».proof.Proof.PrepTables
public import Idealize.ShloMosaic.Lib.Pipeline.ValueKit
public import Idealize.ShloMosaic.Lib.Claim

@[expose] public section

set_option maxRecDepth 16384

noncomputable section

namespace Cert.PrepIdeal.Value

open Cert.PrepIdeal Cert.PrepIdeal.Gen Idealize.ShloMosaic Idealize.ShloMosaic.TcCoe Idealize.SL.Sem
open Cert.PrepRefIdeal.Spec (turnWide turnIdx)

/-- The lane number's remainder by `d` as the kernel computes it. -/
def laneRem (d : BitVec 32) : IVec S512x128 32 :=
  select (andi (xori (cmpi .slt (remsi (iota .tc S512x128 32 [1] iota_S512x128_d1_w32) (broadcast S512x128 (Scalar.select (Scalar.cmpi .eq d 0#32) 1#32 d))) (broadcast S512x128 0#32))
      (broadcastTo S512x128 (broadcast S512x128 (Scalar.cmpi .slt (Scalar.select (Scalar.cmpi .eq d 0#32) 1#32 d) 0#32)) broadcasts_S512x128_S512x128))
      (cmpi .ne (remsi (iota .tc S512x128 32 [1] iota_S512x128_d1_w32) (broadcast S512x128 (Scalar.select (Scalar.cmpi .eq d 0#32) 1#32 d))) (broadcast S512x128 0#32)))
    (addi (remsi (iota .tc S512x128 32 [1] iota_S512x128_d1_w32) (broadcast S512x128 (Scalar.select (Scalar.cmpi .eq d 0#32) 1#32 d))) (broadcast S512x128 (Scalar.select (Scalar.cmpi .eq d 0#32) 1#32 d)))
    (remsi (iota .tc S512x128 32 [1] iota_S512x128_d1_w32) (broadcast S512x128 (Scalar.select (Scalar.cmpi .eq d 0#32) 1#32 d)))

/-- What the kernel makes of one tile: the tile times the cosine table plus its partner lanes times the sine table. -/
def turned (d h up dn : BitVec 32) (x c s : FVec Ideal S512x128 .f32) : FVec Ideal S512x128 .f32 :=
  addf (mulf x (shapeCast S512x128 c shapeCasts_S512x128_S512x128))
    (mulf (select (cmpi .slt (laneRem d) (broadcast S512x128 h)) (dynamicRotate 1 up none x rotates_S512x128_d1) (dynamicRotate 1 dn none x rotates_S512x128_d1))
      (shapeCast S512x128 s shapeCasts_S512x128_S512x128))

/-- A lane of the wide heads' pattern lies before the half exactly when its number is below sixteen. -/
theorem wide_mask (r : Fin 512) (l : Fin 128) :
    (cmpi .slt (laneRem 128#32) (broadcast S512x128 16#32)) (ix2 r l) = if l.val < 16 then 1#1 else 0#1 := by
  pointwise [laneRem]
  revert l
  decide +kernel

/-- A lane of the indexer's pattern, two heads side by side, lies before the half exactly when its number in the head
    is below eight. -/
theorem idx_mask (r : Fin 512) (l : Fin 128) :
    (cmpi .slt (laneRem 64#32) (broadcast S512x128 8#32)) (ix2 r l) = if l.val % 64 < 8 then 1#1 else 0#1 := by
  pointwise [laneRem]
  revert l
  decide +kernel

/-- A wide head's tile read at a lane, its partner lane named. -/
theorem turned_wide (x c s : FVec Ideal S512x128 .f32) (r : Fin 512) (l : Fin 128) :
    turned 128#32 16#32 112#32 16#32 x c s (ix2 r l)
    = x (ix2 r l) * c (ix2 r l) + (if l.val < 16 then x (ix2 r ⟨(l.val + 16) % 128, by omega⟩) else x (ix2 r ⟨(l.val + 112) % 128, by omega⟩)) * s (ix2 r l) := by
  have h := wide_mask r l
  unfold turned
  revert h
  generalize cmpi .slt (laneRem 128#32) (broadcast S512x128 16#32) = k
  intro h
  pointwise []
  rw [h]
  by_cases hl : l.val < 16
  · simp only [hl, ↓reduceIte, sel_one]
    rfl
  · simp only [hl, ↓reduceIte, sel_zero]
    rfl

/-- A tile of two indexer heads read at a lane, its partner lane named. -/
theorem turned_idx (x c s : FVec Ideal S512x128 .f32) (r : Fin 512) (l : Fin 128) :
    turned 64#32 8#32 120#32 8#32 x c s (ix2 r l)
    = x (ix2 r l) * c (ix2 r l) + (if l.val % 64 < 8 then x (ix2 r ⟨(l.val + 8) % 128, by omega⟩) else x (ix2 r ⟨(l.val + 120) % 128, by omega⟩)) * s (ix2 r l) := by
  have h := idx_mask r l
  unfold turned
  revert h
  generalize cmpi .slt (laneRem 64#32) (broadcast S512x128 8#32) = k
  intro h
  pointwise []
  rw [h]
  by_cases hl : l.val % 64 < 8
  · simp only [hl, ↓reduceIte, sel_one]
    rfl
  · simp only [hl, ↓reduceIte, sel_zero]
    rfl

/-- A wide head's tile, at tables that are the rows of the cosine and sine tables, is the head's row turned. -/
theorem wide_tile (a : FVec Ideal S10240x16 .f32) (R : Fin 10240) (x c s : FVec Ideal S512x128 .f32) (r : Fin 512)
    (hc : ∀ l, c (ix2 r l) = cosH a (ix2 R l)) (hs : ∀ l, s (ix2 r l) = sinH a (ix2 R l)) (l : Fin 128) :
    turned 128#32 16#32 112#32 16#32 x c s (ix2 r l)
    = turnWide (fun j => x (ix2 r j)) (fun j => Ideal.cos (a (ix2 R j))) (fun j => Ideal.sin (a (ix2 R j))) l := by
  have e : ∀ i j : Fin 128, i.val = j.val → x (ix2 r i) = x (ix2 r j) := fun i j h => by rw [Fin.ext h]
  rw [turned_wide, hc, hs, cosH_apply, sinH_apply]
  unfold turnWide
  dsimp only
  by_cases h1 : l.val < 16
  · simp only [h1, ↓reduceDIte, ↓reduceIte]
    rw [e ⟨(l.val + 16) % 128, _⟩ ⟨l.val + 16, by omega⟩ (Nat.mod_eq_of_lt (by omega)), mul_neg, ← sub_eq_add_neg]
  · by_cases h2 : l.val < 32
    · simp only [h1, h2, ↓reduceDIte, ↓reduceIte]
      rw [e ⟨(l.val + 112) % 128, _⟩ ⟨l.val - 16, by omega⟩ (by dsimp only; omega)]
    · simp only [h1, h2, ↓reduceDIte, ↓reduceIte]
      rw [mul_one, mul_zero, add_zero]

/-- A tile of two indexer heads, at tables that are the rows of the two heads' tables, is its head's row turned. -/
theorem idx_tile (a : FVec Ideal S10240x8 .f32) (R : Fin 10240) (x c s : FVec Ideal S512x128 .f32) (r : Fin 512)
    (l : Fin 128) (hc : c (ix2 r l) = cosI a (ix2 R l)) (hs : s (ix2 r l) = sinI a (ix2 R l)) :
    turned 64#32 8#32 120#32 8#32 x c s (ix2 r l)
    = turnIdx (fun j => x (ix2 r ⟨l.val / 64 * 64 + j.val, by omega⟩)) (fun j => Ideal.cos (a (ix2 R j))) (fun j => Ideal.sin (a (ix2 R j)))
        ⟨l.val % 64, by omega⟩ := by
  have e : ∀ i j : Fin 128, i.val = j.val → x (ix2 r i) = x (ix2 r j) := fun i j h => by rw [Fin.ext h]
  rw [turned_idx, hc, hs, cosI_apply, sinI_apply, e l ⟨l.val / 64 * 64 + l.val % 64, by omega⟩ (by dsimp only; omega)]
  unfold turnIdx
  dsimp only
  by_cases h1 : l.val % 64 < 8
  · simp only [h1, ↓reduceDIte, ↓reduceIte]
    rw [e ⟨(l.val + 8) % 128, _⟩ ⟨l.val / 64 * 64 + (l.val % 64 + 8), by omega⟩ (by dsimp only; omega), mul_neg, ← sub_eq_add_neg]
  · by_cases h2 : l.val % 64 < 16
    · simp only [h1, h2, ↓reduceDIte, ↓reduceIte]
      rw [e ⟨(l.val + 120) % 128, _⟩ ⟨l.val / 64 * 64 + (l.val % 64 - 8), by omega⟩ (by dsimp only; omega)]
    · simp only [h1, h2, ↓reduceDIte, ↓reduceIte]
      rw [mul_one, mul_zero, add_zero]

/-- The small columns' tile, at tables that are the rows of their tables: the first sixty-four lanes are the indexer's
    key turned, the others stay. -/
theorem small_tile (a : FVec Ideal S10240x8 .f32) (R : Fin 10240) (x c s : FVec Ideal S512x128 .f32) (r : Fin 512)
    (l : Fin 128) (hc : c (ix2 r l) = cosK a (ix2 R l)) (hs : s (ix2 r l) = sinK a (ix2 R l)) :
    turned 64#32 8#32 120#32 8#32 x c s (ix2 r l)
    = if h : l.val < 64 then turnIdx (fun j => x (ix2 r ⟨j.val, by omega⟩)) (fun j => Ideal.cos (a (ix2 R j))) (fun j => Ideal.sin (a (ix2 R j))) ⟨l.val, h⟩
      else x (ix2 r l) := by
  have e : ∀ i j : Fin 128, i.val = j.val → x (ix2 r i) = x (ix2 r j) := fun i j h => by rw [Fin.ext h]
  by_cases h0 : l.val < 64
  · have hm : l.val % 64 = l.val := Nat.mod_eq_of_lt h0
    rw [turned_idx, hc, hs, cosK_apply, sinK_apply]
    unfold turnIdx
    dsimp only
    by_cases h1 : l.val < 8
    · simp only [h0, hm, h1, ↓reduceDIte, ↓reduceIte]
      rw [e ⟨(l.val + 8) % 128, _⟩ ⟨l.val + 8, by omega⟩ (Nat.mod_eq_of_lt (by omega)), mul_neg, ← sub_eq_add_neg]
    · by_cases h2 : l.val < 16
      · simp only [h0, hm, h1, h2, ↓reduceDIte, ↓reduceIte]
        rw [e ⟨(l.val + 120) % 128, _⟩ ⟨l.val - 8, by omega⟩ (by dsimp only; omega)]
      · simp only [h0, hm, h1, h2, ↓reduceDIte, ↓reduceIte]
        rw [mul_one, mul_zero, add_zero]
  · rw [turned_idx, hc, hs, cosK_apply, sinK_apply]
    simp only [h0, ↓reduceDIte, ↓reduceIte]
    rw [mul_one, mul_zero, add_zero]

end Cert.PrepIdeal.Value

end
-- ==== Proof.PrepBlocks.lean ====
module

public import proofs.«01_k».proof.Proof.PrepTile

@[expose] public section

set_option maxRecDepth 16384

noncomputable section

namespace Cert.PrepIdeal.Value

open Cert.PrepIdeal Cert.PrepIdeal.Gen Idealize.ShloMosaic Idealize.ShloMosaic.TcCoe Idealize.SL.Sem
open Idealize.ShloMosaic.Pipeline (Dat)
open Cert.PrepRefIdeal.Spec (ang angI turnWide turnIdx outQ outK outK16 outV outI outS outS16)

variable (m : (ℓ : Loc nD τ sig) → Buf (Elt Ideal) ℓ)

/-- Which block each window moves at point `t`: the column groups of the projection sit at their block columns, the
    tables and the results go by rows. -/
theorem idx : ∀ t : Fin cfg0.N, win0_0.index t = ![t.val, 4] ∧ win0_1.index t = ![t.val, 20] ∧ win0_2.index t = ![t.val, 21]
    ∧ win0_3.index t = ![t.val, 11] ∧ win0_4.index t = ![t.val, 120] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] :=
  (by decide +kernel : ∀ t : Fin grid0.N, _)

/-- A block's row is a row of the array. -/
theorem row_lt (t : Fin cfg0.N) (r : Fin 512) : 512 * t.val + r.val < 10240 := by
  have h : t.val < 20 := t.isLt
  omega

/-- The query columns' block at a point, read at an element. -/
theorem X0_at (c : Dev nD) (t : Fin cfg0.N) (r : Fin 512) (q : Fin 1024) :
    X0_0 m c t (ix2 r q) = m ((c : Thread nD τ).loc main_arg0) (ix2 ⟨512 * t.val + r.val, row_lt t r⟩ ⟨4096 + q.val, by omega⟩) := by
  unfold X0_0 Pipeline.Window.fill
  rw [dif_pos (moved0_0 t _)]
  blk_point [iblk, V_main_arg0, idx t]

/-- The key columns' block at a point, read at an element. -/
theorem X1_at (c : Dev nD) (t : Fin cfg0.N) (r : Fin 512) (q : Fin 256) :
    X0_1 m c t (ix2 r q) = m ((c : Thread nD τ).loc main_arg0) (ix2 ⟨512 * t.val + r.val, row_lt t r⟩ ⟨5120 + q.val, by omega⟩) := by
  unfold X0_1 Pipeline.Window.fill
  rw [dif_pos (moved0_1 t _)]
  blk_point [iblk, V_main_arg0, idx t]

/-- The value columns' block at a point, read at an element. -/
theorem X2_at (c : Dev nD) (t : Fin cfg0.N) (r : Fin 512) (q : Fin 256) :
    X0_2 m c t (ix2 r q) = m ((c : Thread nD τ).loc main_arg0) (ix2 ⟨512 * t.val + r.val, row_lt t r⟩ ⟨5376 + q.val, by omega⟩) := by
  unfold X0_2 Pipeline.Window.fill
  rw [dif_pos (moved0_2 t _)]
  blk_point [iblk, V_main_arg0, idx t]

/-- The indexer's query columns' block at a point, read at an element. -/
theorem X3_at (c : Dev nD) (t : Fin cfg0.N) (r : Fin 512) (q : Fin 512) :
    X0_3 m c t (ix2 r q) = m ((c : Thread nD τ).loc main_arg0) (ix2 ⟨512 * t.val + r.val, row_lt t r⟩ ⟨5632 + q.val, by omega⟩) := by
  unfold X0_3 Pipeline.Window.fill
  rw [dif_pos (moved0_3 t _)]
  blk_point [iblk, V_main_arg0, idx t]

/-- The small columns' block at a point, read at an element. -/
theorem X4_at (c : Dev nD) (t : Fin cfg0.N) (r : Fin 512) (q : Fin 128) :
    (iblk m c 4 t : FVec Ideal S512x128 .f32) (ix2 r q) = m ((c : Thread nD τ).loc main_arg0) (ix2 ⟨512 * t.val + r.val, row_lt t r⟩ ⟨15360 + q.val, by omega⟩) := by
  blk_point [iblk, V_main_arg0, idx t]

/-- Table window 5 at a point, read at an element. -/
theorem cosH_at (c : Dev nD) (t : Fin cfg0.N) (r : Fin 512) (l : Fin 128) :
    (iblk m c 5 t : FVec Ideal S512x128 .f32) (ix2 r l) = cosH (ang (m ((c : Thread nD τ).loc main_arg1))) (ix2 ⟨512 * t.val + r.val, row_lt t r⟩ l) := by
  rw [← V_v29]
  blk_point [iblk, idx t]

/-- Table window 6 at a point, read at an element. -/
theorem sinH_at (c : Dev nD) (t : Fin cfg0.N) (r : Fin 512) (l : Fin 128) :
    (iblk m c 6 t : FVec Ideal S512x128 .f32) (ix2 r l) = sinH (ang (m ((c : Thread nD τ).loc main_arg1))) (ix2 ⟨512 * t.val + r.val, row_lt t r⟩ l) := by
  rw [← V_v32]
  blk_point [iblk, idx t]

/-- Table window 7 at a point, read at an element. -/
theorem cosI_at (c : Dev nD) (t : Fin cfg0.N) (r : Fin 512) (l : Fin 128) :
    (iblk m c 7 t : FVec Ideal S512x128 .f32) (ix2 r l) = cosI (angI (m ((c : Thread nD τ).loc main_arg1))) (ix2 ⟨512 * t.val + r.val, row_lt t r⟩ l) := by
  rw [← V_v60]
  blk_point [iblk, idx t]

/-- Table window 8 at a point, read at an element. -/
theorem sinI_at (c : Dev nD) (t : Fin cfg0.N) (r : Fin 512) (l : Fin 128) :
    (iblk m c 8 t : FVec Ideal S512x128 .f32) (ix2 r l) = sinI (angI (m ((c : Thread nD τ).loc main_arg1))) (ix2 ⟨512 * t.val + r.val, row_lt t r⟩ l) := by
  rw [← V_v63]
  blk_point [iblk, idx t]

/-- Table window 9 at a point, read at an element. -/
theorem cosK_at (c : Dev nD) (t : Fin cfg0.N) (r : Fin 512) (l : Fin 128) :
    (iblk m c 9 t : FVec Ideal S512x128 .f32) (ix2 r l) = cosK (angI (m ((c : Thread nD τ).loc main_arg1))) (ix2 ⟨512 * t.val + r.val, row_lt t r⟩ l) := by
  rw [← V_v91]
  blk_point [iblk, idx t]

/-- Table window 10 at a point, read at an element. -/
theorem sinK_at (c : Dev nD) (t : Fin cfg0.N) (r : Fin 512) (l : Fin 128) :
    (iblk m c 10 t : FVec Ideal S512x128 .f32) (ix2 r l) = sinK (angI (m ((c : Thread nD τ).loc main_arg1))) (ix2 ⟨512 * t.val + r.val, row_lt t r⟩ l) := by
  rw [← V_v94]
  blk_point [iblk, idx t]

end Cert.PrepIdeal.Value

end
-- ==== Proof.PrepPoint.lean ====
module

public import proofs.«01_k».proof.Proof.PrepBlocks

@[expose] public section

set_option maxRecDepth 16384

noncomputable section

namespace Cert.PrepIdeal.Value

open Cert.PrepIdeal Cert.PrepIdeal.Gen Idealize.ShloMosaic Idealize.ShloMosaic.TcCoe Idealize.SL.Sem
open Idealize.ShloMosaic.Pipeline (Dat)
open Cert.PrepRefIdeal.Spec (ang angI turnWide turnIdx outQ outK outK16 outV outI outS outS16 outQ_apply outK_apply outI_apply outS_apply)

variable (m : (ℓ : Loc nD τ sig) → Buf (Elt Ideal) ℓ)

/-- A wide head of the queries turned in a block is the turned query at the array's element. -/
theorem q_point (c : Dev nD) (t : Fin cfg0.N) (o : Nat) (inb) (ho : o % 128 = 0) (x : S512x128.Idx) (i : S10240x1024.Idx)
    (h0 : (i 0).val = 512 * t.val + (x 0).val) (h1 : (i 1).val = o + (x 1).val) :
    turned 128#32 16#32 112#32 16#32 (View.ld (X0_0 m c t) (Rect.unit (s := S512x1024) ![0, o] ![512, 128] inb)) (iblk m c 5 t) (iblk m c 6 t) x
    = outQ (m ((c : Thread nD τ).loc main_arg0)) (m ((c : Thread nD τ).loc main_arg1)) i := by
  obtain ⟨r, l, rfl⟩ : ∃ r l, x = ix2 r l := ⟨_, _, eq_ix2 x⟩
  obtain ⟨R, q, rfl⟩ : ∃ R q, i = ix2 R q := ⟨_, _, eq_ix2 i⟩
  replace h0 : R.val = 512 * t.val + r.val := h0
  replace h1 : q.val = o + l.val := h1
  obtain rfl : R = ⟨512 * t.val + r.val, row_lt t r⟩ := Fin.ext h0
  have hl := l.isLt
  have hq := q.isLt
  rw [wide_tile (ang (m ((c : Thread nD τ).loc main_arg1))) _ _ _ _ r (cosH_at m c t r) (sinH_at m c t r) l, outQ_apply]
  have hx : ∀ j : Fin 128, View.ld (X0_0 m c t) (Rect.unit (s := S512x1024) ![0, o] ![512, 128] inb) (ix2 r j)
      = m ((c : Thread nD τ).loc main_arg0) (ix2 ⟨512 * t.val + r.val, row_lt t r⟩ ⟨4096 + (q.val / 128 * 128 + j.val), by omega⟩) := fun j => by
    have hj := j.isLt
    refine (View.ld_unit_apply_of (X0_0 m c t) _ _ inb (ix2 r j) (ix2 r ⟨q.val / 128 * 128 + j.val, by omega⟩) fun a => ?_).trans (X0_at m c t r _)
    fin_cases a
    · exact (Nat.zero_add _).symm
    · show q.val / 128 * 128 + j.val = o + j.val
      omega
  have hm : (⟨q.val % 128, by omega⟩ : Fin 128) = l := Fin.ext (by dsimp only; omega)
  rw [hm]
  exact congrArg (fun f => turnWide f _ _ l) (funext hx)

/-- A wide head of the keys turned in a block is the turned key at the array's element. -/
theorem k_point (c : Dev nD) (t : Fin cfg0.N) (o : Nat) (inb) (ho : o % 128 = 0) (x : S512x128.Idx) (i : S10240x256.Idx)
    (h0 : (i 0).val = 512 * t.val + (x 0).val) (h1 : (i 1).val = o + (x 1).val) :
    turned 128#32 16#32 112#32 16#32 (View.ld (X0_1 m c t) (Rect.unit (s := S512x256) ![0, o] ![512, 128] inb)) (iblk m c 5 t) (iblk m c 6 t) x
    = outK (m ((c : Thread nD τ).loc main_arg0)) (m ((c : Thread nD τ).loc main_arg1)) i := by
  obtain ⟨r, l, rfl⟩ : ∃ r l, x = ix2 r l := ⟨_, _, eq_ix2 x⟩
  obtain ⟨R, q, rfl⟩ : ∃ R q, i = ix2 R q := ⟨_, _, eq_ix2 i⟩
  replace h0 : R.val = 512 * t.val + r.val := h0
  replace h1 : q.val = o + l.val := h1
  obtain rfl : R = ⟨512 * t.val + r.val, row_lt t r⟩ := Fin.ext h0
  have hl := l.isLt
  have hq := q.isLt
  rw [wide_tile (ang (m ((c : Thread nD τ).loc main_arg1))) _ _ _ _ r (cosH_at m c t r) (sinH_at m c t r) l, outK_apply]
  have hx : ∀ j : Fin 128, View.ld (X0_1 m c t) (Rect.unit (s := S512x256) ![0, o] ![512, 128] inb) (ix2 r j)
      = m ((c : Thread nD τ).loc main_arg0) (ix2 ⟨512 * t.val + r.val, row_lt t r⟩ ⟨5120 + (q.val / 128 * 128 + j.val), by omega⟩) := fun j => by
    have hj := j.isLt
    refine (View.ld_unit_apply_of (X0_1 m c t) _ _ inb (ix2 r j) (ix2 r ⟨q.val / 128 * 128 + j.val, by omega⟩) fun a => ?_).trans (X1_at m c t r _)
    fin_cases a
    · exact (Nat.zero_add _).symm
    · show q.val / 128 * 128 + j.val = o + j.val
      omega
  have hm : (⟨q.val % 128, by omega⟩ : Fin 128) = l := Fin.ext (by dsimp only; omega)
  rw [hm]
  exact congrArg (fun f => turnWide f _ _ l) (funext hx)

/-- Two heads of the indexer's queries turned in a block are the turned queries at the array's element. -/
theorem i_point (c : Dev nD) (t : Fin cfg0.N) (o : Nat) (inb) (ho : o % 128 = 0) (x : S512x128.Idx) (i : S10240x512.Idx)
    (h0 : (i 0).val = 512 * t.val + (x 0).val) (h1 : (i 1).val = o + (x 1).val) :
    turned 64#32 8#32 120#32 8#32 (View.ld (X0_3 m c t) (Rect.unit (s := S512x512) ![0, o] ![512, 128] inb)) (iblk m c 7 t) (iblk m c 8 t) x
    = outI (m ((c : Thread nD τ).loc main_arg0)) (m ((c : Thread nD τ).loc main_arg1)) i := by
  obtain ⟨r, l, rfl⟩ : ∃ r l, x = ix2 r l := ⟨_, _, eq_ix2 x⟩
  obtain ⟨R, q, rfl⟩ : ∃ R q, i = ix2 R q := ⟨_, _, eq_ix2 i⟩
  replace h0 : R.val = 512 * t.val + r.val := h0
  replace h1 : q.val = o + l.val := h1
  obtain rfl : R = ⟨512 * t.val + r.val, row_lt t r⟩ := Fin.ext h0
  have hl := l.isLt
  have hq := q.isLt
  rw [idx_tile (angI (m ((c : Thread nD τ).loc main_arg1))) _ _ _ _ r l (cosI_at m c t r l) (sinI_at m c t r l), outI_apply]
  have hx : ∀ j : Fin 64, View.ld (X0_3 m c t) (Rect.unit (s := S512x512) ![0, o] ![512, 128] inb) (ix2 r ⟨l.val / 64 * 64 + j.val, by omega⟩)
      = m ((c : Thread nD τ).loc main_arg0) (ix2 ⟨512 * t.val + r.val, row_lt t r⟩ ⟨5632 + (q.val / 64 * 64 + j.val), by omega⟩) := fun j => by
    have hj := j.isLt
    refine (View.ld_unit_apply_of (X0_3 m c t) _ _ inb (ix2 r ⟨l.val / 64 * 64 + j.val, by omega⟩) (ix2 r ⟨q.val / 64 * 64 + j.val, by omega⟩) fun a => ?_).trans (X3_at m c t r _)
    fin_cases a
    · exact (Nat.zero_add _).symm
    · show q.val / 64 * 64 + j.val = o + (l.val / 64 * 64 + j.val)
      omega
  have hm : (⟨q.val % 64, by omega⟩ : Fin 64) = ⟨l.val % 64, by omega⟩ := Fin.ext (by dsimp only; omega)
  rw [hm]
  exact congrArg (fun f => turnIdx f _ _ ⟨l.val % 64, by omega⟩) (funext hx)

/-- The small columns turned in a block are the turned small columns at the array's element. -/
theorem s_point (c : Dev nD) (t : Fin cfg0.N) (x : S512x128.Idx) (i : S10240x128.Idx)
    (h0 : (i 0).val = 512 * t.val + (x 0).val) (h1 : (i 1).val = (x 1).val) :
    turned 64#32 8#32 120#32 8#32 (iblk m c 4 t) (iblk m c 9 t) (iblk m c 10 t) x
    = outS (m ((c : Thread nD τ).loc main_arg0)) (m ((c : Thread nD τ).loc main_arg1)) i := by
  obtain ⟨r, l, rfl⟩ : ∃ r l, x = ix2 r l := ⟨_, _, eq_ix2 x⟩
  obtain ⟨R, q, rfl⟩ : ∃ R q, i = ix2 R q := ⟨_, _, eq_ix2 i⟩
  obtain rfl : R = ⟨512 * t.val + r.val, row_lt t r⟩ := Fin.ext h0
  obtain rfl : q = l := Fin.ext h1
  rw [small_tile (angI (m ((c : Thread nD τ).loc main_arg1))) _ _ _ _ r q (cosK_at m c t r q) (sinK_at m c t r q), outS_apply]
  simp only [X4_at]

/-- The values in a block are the values at the array's element. -/
theorem v_point (c : Dev nD) (t : Fin cfg0.N) (x : S512x256.Idx) (i : S10240x256.Idx)
    (h0 : (i 0).val = 512 * t.val + (x 0).val) (h1 : (i 1).val = (x 1).val) :
    k0_pay31 (X0_2 m c t) x = outV (m ((c : Thread nD τ).loc main_arg0)) i := by
  obtain ⟨r, l, rfl⟩ : ∃ r l, x = ix2 r l := ⟨_, _, eq_ix2 x⟩
  obtain ⟨R, q, rfl⟩ : ∃ R q, i = ix2 R q := ⟨_, _, eq_ix2 i⟩
  obtain rfl : R = ⟨512 * t.val + r.val, row_lt t r⟩ := Fin.ext h0
  obtain rfl : q = l := Fin.ext h1
  refine Eq.trans ?_ ((X2_at m c t r q).trans ?_)
  · pointwise [k0_pay31]
  · pointwise [outV]

end Cert.PrepIdeal.Value

end
-- ==== Proof.PrepValue.lean ====
module

public import proofs.«01_k».proof.Proof.PrepPoint

@[expose] public section

set_option maxRecDepth 16384

noncomputable section

namespace Cert.PrepIdeal.Value

open Cert.PrepIdeal Cert.PrepIdeal.Gen Idealize.ShloMosaic Idealize.ShloMosaic.TcCoe Idealize.SL.Sem
open Idealize.ShloMosaic.Pipeline (Dat)
open Cert.PrepRefIdeal.Spec (ang angI turnWide turnIdx outQ outK outK16 outV outI outS outS16 outQ_apply outK_apply outI_apply outS_apply)

variable (m : (ℓ : Loc nD τ sig) → Buf (Elt Ideal) ℓ)

/-- Where an element of result block 11 at a point lies in its array. -/
theorem emb11 (t : Fin cfg0.N) (y : S512x1024.Idx) :
    ((((View.whole main_v95_0).slice (win0_11.rect t)).emb y) 0 : Nat) = 512 * t.val + (y 0).val
    ∧ ((((View.whole main_v95_0).slice (win0_11.rect t)).emb y) 1 : Nat) = (y 1).val := by
  have h : win0_11.index t = ![t.val, 0] := by simp only [idx t]
  constructor
  · show win0_11.index t 0 * 512 + 1 * (y 0).val = _
    rw [h]; show t.val * 512 + 1 * (y 0).val = _; omega
  · show win0_11.index t 1 * 1024 + 1 * (y 1).val = _
    rw [h]; show 0 * 1024 + 1 * (y 1).val = _; omega

/-- Where an element of result block 12 at a point lies in its array. -/
theorem emb12 (t : Fin cfg0.N) (y : S512x256.Idx) :
    ((((View.whole main_v95_1).slice (win0_12.rect t)).emb y) 0 : Nat) = 512 * t.val + (y 0).val
    ∧ ((((View.whole main_v95_1).slice (win0_12.rect t)).emb y) 1 : Nat) = (y 1).val := by
  have h : win0_12.index t = ![t.val, 0] := by simp only [idx t]
  constructor
  · show win0_12.index t 0 * 512 + 1 * (y 0).val = _
    rw [h]; show t.val * 512 + 1 * (y 0).val = _; omega
  · show win0_12.index t 1 * 256 + 1 * (y 1).val = _
    rw [h]; show 0 * 256 + 1 * (y 1).val = _; omega

/-- Where an element of result block 13 at a point lies in its array. -/
theorem emb13 (t : Fin cfg0.N) (y : S512x256.Idx) :
    ((((View.whole main_v95_2).slice (win0_13.rect t)).emb y) 0 : Nat) = 512 * t.val + (y 0).val
    ∧ ((((View.whole main_v95_2).slice (win0_13.rect t)).emb y) 1 : Nat) = (y 1).val := by
  have h : win0_13.index t = ![t.val, 0] := by simp only [idx t]
  constructor
  · show win0_13.index t 0 * 512 + 1 * (y 0).val = _
    rw [h]; show t.val * 512 + 1 * (y 0).val = _; omega
  · show win0_13.index t 1 * 256 + 1 * (y 1).val = _
    rw [h]; show 0 * 256 + 1 * (y 1).val = _; omega

/-- Where an element of result block 14 at a point lies in its array. -/
theorem emb14 (t : Fin cfg0.N) (y : S512x256.Idx) :
    ((((View.whole main_v95_3).slice (win0_14.rect t)).emb y) 0 : Nat) = 512 * t.val + (y 0).val
    ∧ ((((View.whole main_v95_3).slice (win0_14.rect t)).emb y) 1 : Nat) = (y 1).val := by
  have h : win0_14.index t = ![t.val, 0] := by simp only [idx t]
  constructor
  · show win0_14.index t 0 * 512 + 1 * (y 0).val = _
    rw [h]; show t.val * 512 + 1 * (y 0).val = _; omega
  · show win0_14.index t 1 * 256 + 1 * (y 1).val = _
    rw [h]; show 0 * 256 + 1 * (y 1).val = _; omega

/-- Where an element of result block 15 at a point lies in its array. -/
theorem emb15 (t : Fin cfg0.N) (y : S512x512.Idx) :
    ((((View.whole main_v95_4).slice (win0_15.rect t)).emb y) 0 : Nat) = 512 * t.val + (y 0).val
    ∧ ((((View.whole main_v95_4).slice (win0_15.rect t)).emb y) 1 : Nat) = (y 1).val := by
  have h : win0_15.index t = ![t.val, 0] := by simp only [idx t]
  constructor
  · show win0_15.index t 0 * 512 + 1 * (y 0).val = _
    rw [h]; show t.val * 512 + 1 * (y 0).val = _; omega
  · show win0_15.index t 1 * 512 + 1 * (y 1).val = _
    rw [h]; show 0 * 512 + 1 * (y 1).val = _; omega

/-- Where an element of result block 16 at a point lies in its array. -/
theorem emb16 (t : Fin cfg0.N) (y : S512x128.Idx) :
    ((((View.whole main_v95_5).slice (win0_16.rect t)).emb y) 0 : Nat) = 512 * t.val + (y 0).val
    ∧ ((((View.whole main_v95_5).slice (win0_16.rect t)).emb y) 1 : Nat) = (y 1).val := by
  have h : win0_16.index t = ![t.val, 0] := by simp only [idx t]
  constructor
  · show win0_16.index t 0 * 512 + 1 * (y 0).val = _
    rw [h]; show t.val * 512 + 1 * (y 0).val = _; omega
  · show win0_16.index t 1 * 128 + 1 * (y 1).val = _
    rw [h]; show 0 * 128 + 1 * (y 1).val = _; omega

/-- Where an element of result block 17 at a point lies in its array. -/
theorem emb17 (t : Fin cfg0.N) (y : S512x128.Idx) :
    ((((View.whole main_v95_6).slice (win0_17.rect t)).emb y) 0 : Nat) = 512 * t.val + (y 0).val
    ∧ ((((View.whole main_v95_6).slice (win0_17.rect t)).emb y) 1 : Nat) = (y 1).val := by
  have h : win0_17.index t = ![t.val, 0] := by simp only [idx t]
  constructor
  · show win0_17.index t 0 * 512 + 1 * (y 0).val = _
    rw [h]; show t.val * 512 + 1 * (y 0).val = _; omega
  · show win0_17.index t 1 * 128 + 1 * (y 1).val = _
    rw [h]; show 0 * 128 + 1 * (y 1).val = _; omega

/-- The first result: the queries turned. -/
theorem final11 (c : Dev nD) : (dats m 0 c).arrAt 11 (cfgs 0).N = outQ (m ((c : Thread nD τ).loc main_arg0)) (m ((c : Thread nD τ).loc main_arg1)) := by
  refine (dats m 0 c).arrAt_eq_of_covers 11 _ (by decide +kernel) fun t _ y => ?_
  blk_simp
  rw [after0_11]; unfold outsAt0; dsimp only; frame_out
  have he := emb11 t y
  revert he
  generalize ((View.whole main_v95_0).slice (win0_11.rect t)).emb y = i
  intro he
  canon_tiles x h
  · exact q_point m c t 896 _ rfl x i (he.1.trans (congrArg _ h0)) (by omega)
  · exact q_point m c t 768 _ rfl x i (he.1.trans (congrArg _ h0)) (by omega)
  · exact q_point m c t 640 _ rfl x i (he.1.trans (congrArg _ h0)) (by omega)
  · exact q_point m c t 512 _ rfl x i (he.1.trans (congrArg _ h0)) (by omega)
  · exact q_point m c t 384 _ rfl x i (he.1.trans (congrArg _ h0)) (by omega)
  · exact q_point m c t 256 _ rfl x i (he.1.trans (congrArg _ h0)) (by omega)
  · exact q_point m c t 128 _ rfl x i (he.1.trans (congrArg _ h0)) (by omega)
  · exact q_point m c t 0 _ rfl x i (he.1.trans (congrArg _ h0)) (by omega)
/-- The second result: the keys turned. -/
theorem final12 (c : Dev nD) : (dats m 0 c).arrAt 12 (cfgs 0).N = outK (m ((c : Thread nD τ).loc main_arg0)) (m ((c : Thread nD τ).loc main_arg1)) := by
  refine (dats m 0 c).arrAt_eq_of_covers 12 _ (by decide +kernel) fun t _ y => ?_
  blk_simp
  rw [after0_12]; frame_out
  have he := emb12 t y
  revert he
  generalize ((View.whole main_v95_1).slice (win0_12.rect t)).emb y = i
  intro he
  canon_tiles x h
  · exact k_point m c t 128 _ rfl x i (he.1.trans (congrArg _ h0)) (by omega)
  · exact k_point m c t 0 _ rfl x i (he.1.trans (congrArg _ h0)) (by omega)
/-- The third result: the keys turned, narrowed. -/
theorem final13 (c : Dev nD) : (dats m 0 c).arrAt 13 (cfgs 0).N = outK16 (m ((c : Thread nD τ).loc main_arg0)) (m ((c : Thread nD τ).loc main_arg1)) := by
  refine (dats m 0 c).arrAt_eq_of_covers 13 _ (by decide +kernel) fun t _ y => ?_
  blk_simp
  rw [after0_13]; frame_out
  have he := emb13 t y
  revert he
  generalize ((View.whole main_v95_2).slice (win0_13.rect t)).emb y = i
  intro he
  canon_tiles x h
  · exact k_point m c t 128 _ rfl x i (he.1.trans (congrArg _ h0)) (by omega)
  · exact k_point m c t 0 _ rfl x i (he.1.trans (congrArg _ h0)) (by omega)
/-- The fourth result: the values, narrowed. -/
theorem final14 (c : Dev nD) : (dats m 0 c).arrAt 14 (cfgs 0).N = outV (m ((c : Thread nD τ).loc main_arg0)) := by
  refine (dats m 0 c).arrAt_eq_of_covers 14 _ (by decide +kernel) fun t _ y => ?_
  blk_simp
  rw [after0_14]; frame_out
  have he := emb14 t y
  exact v_point m c t y _ he.1 he.2

/-- The fifth result: the indexer's queries turned. -/
theorem final15 (c : Dev nD) : (dats m 0 c).arrAt 15 (cfgs 0).N = outI (m ((c : Thread nD τ).loc main_arg0)) (m ((c : Thread nD τ).loc main_arg1)) := by
  refine (dats m 0 c).arrAt_eq_of_covers 15 _ (by decide +kernel) fun t _ y => ?_
  blk_simp
  rw [after0_15]; frame_out
  have he := emb15 t y
  revert he
  generalize ((View.whole main_v95_4).slice (win0_15.rect t)).emb y = i
  intro he
  canon_tiles x h
  · exact i_point m c t 384 _ rfl x i (he.1.trans (congrArg _ h0)) (by omega)
  · exact i_point m c t 256 _ rfl x i (he.1.trans (congrArg _ h0)) (by omega)
  · exact i_point m c t 128 _ rfl x i (he.1.trans (congrArg _ h0)) (by omega)
  · exact i_point m c t 0 _ rfl x i (he.1.trans (congrArg _ h0)) (by omega)
/-- The sixth result: the small columns turned. -/
theorem final16 (c : Dev nD) : (dats m 0 c).arrAt 16 (cfgs 0).N = outS (m ((c : Thread nD τ).loc main_arg0)) (m ((c : Thread nD τ).loc main_arg1)) := by
  refine (dats m 0 c).arrAt_eq_of_covers 16 _ (by decide +kernel) fun t _ y => ?_
  blk_simp
  rw [after0_16]; frame_out
  have he := emb16 t y
  exact s_point m c t y _ he.1 he.2

/-- The seventh result: the small columns turned, narrowed. -/
theorem final17 (c : Dev nD) : (dats m 0 c).arrAt 17 (cfgs 0).N = outS16 (m ((c : Thread nD τ).loc main_arg0)) (m ((c : Thread nD τ).loc main_arg1)) := by
  refine (dats m 0 c).arrAt_eq_of_covers 17 _ (by decide +kernel) fun t _ y => ?_
  blk_simp
  rw [after0_17]; frame_out
  have he := emb17 t y
  exact s_point m c t y _ he.1 he.2

end Cert.PrepIdeal.Value

end
-- ==== Proof.PrepResults.lean ====
module

public import proofs.«01_k».proof.Proof.PrepRef

@[expose] public section

set_option maxRecDepth 65536

noncomputable section

namespace Cert.PrepRefIdeal.Spec

open Cert.PrepRefIdeal Cert.PrepRefIdeal.Gen Idealize.ShloMosaic Idealize.ShloMosaic.TcCoe

variable (m : (ℓ : Loc nD τ sig) → Buf (Elt Ideal) ℓ) (c : Dev nD)

/-- The reference's first result, named. -/
theorem res0 : Value.res_out0 m c = outQ (m ((c.tc : Thread nD τ).loc main_arg0)) (m ((c.tc : Thread nD τ).loc main_arg1)) := by
  unfold Value.res_out0 Value.res_main_v107 outQ turnQ ang
  rfl

/-- The reference's second result, named. -/
theorem res1 : Value.res_out1 m c = outK (m ((c.tc : Thread nD τ).loc main_arg0)) (m ((c.tc : Thread nD τ).loc main_arg1)) := by
  unfold Value.res_out1 Value.res_main_v69 outK turnK ang
  rfl

/-- The reference's third result, named. -/
theorem res2 : Value.res_out2 m c = outK16 (m ((c.tc : Thread nD τ).loc main_arg0)) (m ((c.tc : Thread nD τ).loc main_arg1)) := by
  unfold Value.res_out2 Value.res_main_v108 outK16 outK turnK ang
  rfl

/-- The reference's fifth result, named. -/
theorem res4 : Value.res_out4 m c = outI (m ((c.tc : Thread nD τ).loc main_arg0)) (m ((c.tc : Thread nD τ).loc main_arg1)) := by
  unfold Value.res_out4 Value.res_main_v110 outI turnI angI
  rfl

/-- The reference's sixth result, named. -/
theorem res5 : Value.res_out5 m c = outS (m ((c.tc : Thread nD τ).loc main_arg0)) (m ((c.tc : Thread nD τ).loc main_arg1)) := by
  unfold Value.res_out5 Value.res_main_v106 outS turnS angI
  rfl

/-- The reference's seventh result, named. -/
theorem res6 : Value.res_out6 m c = outS16 (m ((c.tc : Thread nD τ).loc main_arg0)) (m ((c.tc : Thread nD τ).loc main_arg1)) := by
  unfold Value.res_out6 Value.res_main_v111 outS16 outS turnS angI
  rfl

end Cert.PrepRefIdeal.Spec

end
-- ==== Proof.PrepClaims.lean ====
module

public import proofs.«01_k».proof.Defs
public import proofs.«01_k».proof.Proof.Gen.Prep.Frame
public import proofs.«01_k».proof.Proof.PrepValue
public import proofs.«01_k».proof.Proof.PrepResults

@[expose] public section

set_option maxRecDepth 16384

noncomputable section

namespace Cert.Proof.PrepClaims

open Idealize.ShloMosaic Idealize.ShloMosaic.TcCoe Idealize.SL.Sem

/-- The kernel as printed runs to the end from every launch memory and leaves its arguments as they were. -/
theorem frame_p : Cert.quiescent_Prep := fun m ρ _ => Cert.Prep.Gen.frame m ρ

/-- The same for the kernel over the extended reals. -/
theorem frame_pi : Cert.quiescent_PrepIdeal := fun m ρ _ => Cert.PrepIdeal.Gen.frame m ρ

/-- The same for the reference over the extended reals. -/
theorem frame_ri : Cert.quiescent_PrepRefIdeal := fun m ρ _ =>
  (θ_run Cert.PrepRefIdeal.defs _ _).mono (fun r h => ⟨fun c => (h c).2.2.2.2.2.2.2, sem_eq_zero_of_no_sems (by decide) r.2⟩)
    (Cert.PrepRefIdeal.Value.run (F := Ideal) m ρ)

/-- No operation was rewritten on the way to the extended reals. -/
theorem preserves : Cert.preserves_Prep_PrepIdeal := trivial

/-- Over the extended reals the kernel's results are the reference's, element by element. -/
theorem algebraic : Cert.algebraic_PrepIdeal_PrepRefIdeal := by
  pair_intro
  · run_from Cert.PrepIdeal.Value.run_blocks m g
  · run_from Cert.PrepRefIdeal.Value.run m' g'
    · refine Eq.trans ?_ (Cert.PrepIdeal.Value.final11 m c).symm
      rw [← (hagree c).1, ← (hagree c).2]
      exact Cert.PrepRefIdeal.Spec.res0 m' c
    · refine Eq.trans ?_ (Cert.PrepIdeal.Value.final12 m c).symm
      rw [← (hagree c).1, ← (hagree c).2]
      exact Cert.PrepRefIdeal.Spec.res1 m' c
    · refine Eq.trans ?_ (Cert.PrepIdeal.Value.final13 m c).symm
      rw [← (hagree c).1, ← (hagree c).2]
      exact Cert.PrepRefIdeal.Spec.res2 m' c
    · exact (Cert.PrepIdeal.Value.final14 m c).symm
    · refine Eq.trans ?_ (Cert.PrepIdeal.Value.final15 m c).symm
      rw [← (hagree c).1, ← (hagree c).2]
      exact Cert.PrepRefIdeal.Spec.res4 m' c
    · refine Eq.trans ?_ (Cert.PrepIdeal.Value.final16 m c).symm
      rw [← (hagree c).1, ← (hagree c).2]
      exact Cert.PrepRefIdeal.Spec.res5 m' c
    · refine Eq.trans ?_ (Cert.PrepIdeal.Value.final17 m c).symm
      rw [← (hagree c).1, ← (hagree c).2]
      exact Cert.PrepRefIdeal.Spec.res6 m' c

end Cert.Proof.PrepClaims

end
-- ==== Proof.Keeps.lean ====
/-
  Programs that keep what they own: a program that starts with a resource and ends with the same resource, whatever it
  loads and stores on the way. The property is closed under sequencing, branching and counted loops, so a kernel whose
  effects are loads and stores of buffers it owns has it, nested loops included.
-/
module

public import Idealize.ShloMosaic.Lib.Pipeline.FrameBody
public import Idealize.ShloMosaic.Lib.Scf
public import Idealize.ShloMosaic.Lib.Memref
public import Idealize.ShloMosaic.Lib.Tactic

@[expose] public section

noncomputable section

namespace Keeping

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

local notation "𝕄" => MT nD τ sig Unit Val ℕ (UR sig nD τ) ℕ

/-- The program `p` keeps `R`: run from `R` by core `c`, it ends, and `R` holds again. -/
def Keeps (defs : Defs nD τ sig Val Λ) (c : Dev nD) (R : sProp 𝕄) {α : Type}
    (p : Prog (TpuEff nD τ sig Val Λ .tc) α) : Prop :=
  R ⊢ wp frame (wpE defs Variants.none (c : Thread nD τ) none) Set.univ p fun _ => R

variable {defs : Defs nD τ sig Val Λ} {c : Dev nD}

/-- A program that only returns keeps everything. -/
theorem Keeps.ret {R : sProp 𝕄} {α : Type} (a : α) : Keeps defs c R (pure a) := by
  unfold Keeps
  change R ⊢ wp _ _ _ (Prog.ret a) _
  rw [wp_ret]
  iintro H
  imodintro
  iexact H

/-- Two programs in sequence keep what both keep. -/
theorem Keeps.seq {R : sProp 𝕄} {α β : Type} {p : Prog (TpuEff nD τ sig Val Λ .tc) α} {k : α → Prog (TpuEff nD τ sig Val Λ .tc) β}
    (hp : Keeps defs c R p) (hk : ∀ a, Keeps defs c R (k a)) : Keeps defs c R (p >>= k) := by
  unfold Keeps at hp hk ⊢
  rw [wp_bind]
  exact hp.trans (wp_mono _ _ _ fun a => hk a)

/-- A counted loop keeps what each of its trips keeps. -/
theorem Keeps.loop {R : sProp 𝕄} {w : Nat} {σ : Type} (lb ub st : BitVec w) (hok : Scf.OK lb ub st) (init : σ)
    (body : Fin (Scf.trips lb ub st) → σ → Prog (TpuEff nD τ sig Val Λ .tc) σ)
    (h : ∀ k a, Keeps defs c R (body k a)) : Keeps defs c R (Scf.for lb ub st hok init body) := by
  unfold Keeps at h ⊢
  refine Idealize.SL.BI.BIBase.Entails.trans ?_ (Scf.wp_for _ _ _ lb ub st hok init body (fun _ _ => R) h)
  iintro H
  isplitl [H]
  · iexact H
  · iintro %a HR
    iexact HR

/-- A branch keeps what both of its sides keep. -/
theorem Keeps.branch {R : sProp 𝕄} {α : Type} {b : Prop} [Decidable b] {p q : Prog (TpuEff nD τ sig Val Λ .tc) α}
    (hp : Keeps defs c R p) (hq : Keeps defs c R q) : Keeps defs c R (if b then p else q) := by
  by_cases h : b
  · rw [if_pos h]; exact hp
  · rw [if_neg h]; exact hq

/-- The memref is readable inside `R`: every load of it keeps `R`. -/
abbrev Reads (defs : Defs nD τ sig Val Λ) (c : Dev nD) (R : sProp 𝕄) {cs : CoreSpace} {s : Shape} {e : EltTy}
    (m : Memref sig .tc cs s e) : Prop :=
  ∀ (r : LoadRect s) (hl : m.view.LoadsAt r), Keeps defs c R (Prog.lift (.load m r hl))

/-- The memref is writable inside `R`: every store to it keeps `R`. -/
abbrev Writes (defs : Defs nD τ sig Val Λ) (c : Dev nD) (R : sProp 𝕄) {cs : CoreSpace} {s : Shape} {e : EltTy}
    (m : Memref sig .tc cs s e) : Prop :=
  ∀ (r : Rect s) (w : r.shape.Idx → Val e) (Mk : Finset r.shape.Idx) (hx : (m.access r).Stores Mk)
    (hm : Mk = Finset.univ ∨ ∀ a, r.stride a = 1), Keeps defs c R (Prog.lift (.store m r w Mk hx hm))

/-- Ownership of the memref at known contents, held inside `R`, makes it readable. -/
theorem reads_of_owns {R : sProp 𝕄} {cs : CoreSpace} {s : Shape} {e : EltTy} {m : Memref sig .tc cs s e} {q : PosShare TreeShare}
    {X : s.Idx → Val e} (h : R ⊢ iprop(owns (c : Thread nD τ) m q X ∗ (owns (c : Thread nD τ) m q X -∗ R))) :
    Reads defs c R m := by
  intro r hl
  unfold Keeps
  refine h.trans ?_
  unfold owns
  iintro ⟨H, HR⟩
  icases H with ⟨%f, %hf, H⟩
  iapply (wp_load Variants.none (c : Thread nD τ) none Set.univ (S := m.view.set) (q := q) (f := f)
    (m.view.setOn_subset_set r.set)) $$ H
  iintro H
  rw [wp_ret]
  imodintro
  iapply HR
  iexists f
  isplitr
  · ipureintro; exact hf
  · iexact H

/-- Ownership of the memref at some contents, held inside `R`, makes it readable. -/
theorem reads_of_some {R : sProp 𝕄} {cs : CoreSpace} {s : Shape} {e : EltTy} {m : Memref sig .tc cs s e}
    (h : R ⊢ iprop((∃ X, owns (c : Thread nD τ) m fullShare X) ∗ ((∃ X, owns (c : Thread nD τ) m fullShare X) -∗ R))) :
    Reads defs c R m := by
  intro r hl
  unfold Keeps
  refine h.trans ?_
  unfold owns
  iintro ⟨H, HR⟩
  icases H with ⟨%X, %f, %hf, H⟩
  iapply (wp_load Variants.none (c : Thread nD τ) none Set.univ (S := m.view.set) (q := fullShare) (f := f)
    (m.view.setOn_subset_set r.set)) $$ H
  iintro H
  rw [wp_ret]
  imodintro
  iapply HR
  iexists X, f
  isplitr
  · ipureintro; exact hf
  · iexact H

/-- Ownership of the memref at some contents, held inside `R`, makes it writable. -/
theorem writes_of_some {R : sProp 𝕄} {cs : CoreSpace} {s : Shape} {e : EltTy} {m : Memref sig .tc cs s e}
    (h : R ⊢ iprop((∃ X, owns (c : Thread nD τ) m fullShare X) ∗ ((∃ X, owns (c : Thread nD τ) m fullShare X) -∗ R))) :
    Writes defs c R m := by
  intro r w Mk hx hm
  unfold Keeps
  refine h.trans ?_
  unfold owns
  iintro ⟨H, HR⟩
  icases H with ⟨%X, %f, %hf, H⟩
  iapply (wp_store Variants.none (c : Thread nD τ) none Set.univ (S := m.view.set) (f := f)
    (((m.access r).setOn_subset_set Mk).trans (m.view.set_slice_subset r))) $$ H
  iintro H
  rw [wp_ret]
  imodintro
  iapply HR
  iexists _, ((m.access r).write Val f w Mk)
  isplitr
  · ipureintro; rfl
  · iexact H

end Keeping
-- ==== Proof.PromptKeeps.lean ====
/-
  The kernel of the program `Prompt`, part by part: each part keeps the buffers it is called with.
-/
module

public import proofs.«01_k».proof.Prompt
public import proofs.«01_k».proof.Proof.Keeps

@[expose] public section

set_option maxRecDepth 65536

noncomputable section

namespace PromptKeeps

open Cert.Prompt Keeping
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] [Cert.Prompt.Facts]

local notation "𝕄" => MT nD τ sig Unit (Elt F) ℕ (UR sig nD τ) ℕ

/-- What the kernel needs of the resource it runs from: it may load every one of its buffers, and store to those it
    stores to. -/
structure Held (c : Dev nD) (R : sProp 𝕄)
    (arg2 : Memref sig .tc .vmem S128x1024 .bf16) (arg3 : Memref sig .tc .vmem S128x512 .bf16) (arg4 : Memref sig .tc .vmem S128x128 .f32) (arg5 : Memref sig .tc .vmem S4096x256 .bf16) (arg6 : Memref sig .tc .vmem S4096x256 .bf16) (arg7 : Memref sig .tc .vmem S4096x128 .bf16) (arg8 : Memref sig .tc .vmem S128x1024 .bf16) (arg9 : Memref sig .tc .vmem S128x4096 .i32) (arg10 : Memref sig .tc .vmem S128x1 .i32) (arg11 : Memref sig .tc .vmem S2x4x128x1 .f32) (arg12 : Memref sig .tc .vmem S2x4x128x1 .f32) (arg13 : Memref sig .tc .vmem S2x4x128x128 .f32) : Prop where
  r2 : Reads (defs₀ (F := F)) c R arg2
  r3 : Reads (defs₀ (F := F)) c R arg3
  r4 : Reads (defs₀ (F := F)) c R arg4
  r5 : Reads (defs₀ (F := F)) c R arg5
  r6 : Reads (defs₀ (F := F)) c R arg6
  r7 : Reads (defs₀ (F := F)) c R arg7
  r8 : Reads (defs₀ (F := F)) c R arg8
  r9 : Reads (defs₀ (F := F)) c R arg9
  r10 : Reads (defs₀ (F := F)) c R arg10
  r11 : Reads (defs₀ (F := F)) c R arg11
  r12 : Reads (defs₀ (F := F)) c R arg12
  r13 : Reads (defs₀ (F := F)) c R arg13
  w8 : Writes (defs₀ (F := F)) c R arg8
  w9 : Writes (defs₀ (F := F)) c R arg9
  w10 : Writes (defs₀ (F := F)) c R arg10
  w11 : Writes (defs₀ (F := F)) c R arg11
  w12 : Writes (defs₀ (F := F)) c R arg12
  w13 : Writes (defs₀ (F := F)) c R arg13

variable {c : Dev nD}

/-- Part 1 of the kernel keeps its buffers. -/
theorem part1 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v39 : FVec F S128x128 .bf16) (v40 : FVec F S128x1 .f32) (v48 : FVec F S128x128 .bf16) (v49 : FVec F S128x1 .f32) (v56 : FVec F S128x128 .bf16) (v57 : FVec F S128x1 .f32) (v65 : FVec F S128x128 .bf16) (v66 : FVec F S128x1 .f32) (v73 : FVec F S128x128 .bf16) (v74 : FVec F S128x1 .f32) (v82 : FVec F S128x128 .bf16) (v83 : FVec F S128x1 .f32) (v90 : FVec F S128x128 .bf16) (v91 : FVec F S128x1 .f32) (c0_i32_31 : BitVec 32) (c1_i32_33 : BitVec 32) (k0_t1 : Fin (k0_t1_loop i).trips)
    (hh : Held c R arg2 arg3 arg4 arg5 arg6 arg7 arg8 arg9 arg10 arg11 arg12 arg13) :
    Keeps (defs₀ (F := F)) c R (k0_part1 i arg2 harg2 arg3 harg3 arg4 harg4 arg5 harg5 arg6 harg6 arg7 harg7 arg8 harg8 arg9 harg9 arg10 harg10 arg11 harg11 arg12 harg12 arg13 harg13 v39 v40 v48 v49 v56 v57 v65 v66 v73 v74 v82 v83 v90 v91 c0_i32_31 c1_i32_33 k0_t1) := by
  unfold k0_part1
  repeat' first
    | with_reducible exact Keeps.ret _
    | with_reducible exact hh.r7 _ _
    | with_reducible refine Keeps.loop _ _ _ _ _ _ fun _ _ => ?_
    | with_reducible refine Keeps.seq ?_ fun _ => ?_
    | with_reducible refine Keeps.branch ?_ ?_
    | split

/-- Part 2 of the kernel keeps its buffers. -/
theorem part2 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v39 : FVec F S128x128 .bf16) (v40 : FVec F S128x1 .f32) (v48 : FVec F S128x128 .bf16) (v49 : FVec F S128x1 .f32) (v56 : FVec F S128x128 .bf16) (v57 : FVec F S128x1 .f32) (v65 : FVec F S128x128 .bf16) (v66 : FVec F S128x1 .f32) (v73 : FVec F S128x128 .bf16) (v74 : FVec F S128x1 .f32) (v82 : FVec F S128x128 .bf16) (v83 : FVec F S128x1 .f32) (v90 : FVec F S128x128 .bf16) (v91 : FVec F S128x1 .f32) (v105 : BitVec 32) (c1_i32_34 : BitVec 32) (k0_t2 : Fin (k0_t2_loop i).trips)
    (hh : Held c R arg2 arg3 arg4 arg5 arg6 arg7 arg8 arg9 arg10 arg11 arg12 arg13) :
    Keeps (defs₀ (F := F)) c R (k0_part2 i arg2 harg2 arg3 harg3 arg4 harg4 arg5 harg5 arg6 harg6 arg7 harg7 arg8 harg8 arg9 harg9 arg10 harg10 arg11 harg11 arg12 harg12 arg13 harg13 v39 v40 v48 v49 v56 v57 v65 v66 v73 v74 v82 v83 v90 v91 v105 c1_i32_34 k0_t2) := by
  unfold k0_part2
  repeat' first
    | with_reducible exact Keeps.ret _
    | with_reducible exact hh.r7 _ _
    | with_reducible refine Keeps.loop _ _ _ _ _ _ fun _ _ => ?_
    | with_reducible refine Keeps.seq ?_ fun _ => ?_
    | with_reducible refine Keeps.branch ?_ ?_
    | split

/-- Part 3 of the kernel keeps its buffers. -/
theorem part3 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (c0_i32_36 : BitVec 32) (c1_i32_38 : BitVec 32) (k0_t3 : Fin (k0_t3_loop i).trips) (arg15 : FVec F S128x128 .f32)
    (hh : Held c R arg2 arg3 arg4 arg5 arg6 arg7 arg8 arg9 arg10 arg11 arg12 arg13) :
    Keeps (defs₀ (F := F)) c R (k0_part3 i arg2 harg2 arg3 harg3 arg4 harg4 arg5 harg5 arg6 harg6 arg7 harg7 arg8 harg8 arg9 harg9 arg10 harg10 arg11 harg11 arg12 harg12 arg13 harg13 c0_i32_36 c1_i32_38 k0_t3 arg15) := by
  unfold k0_part3
  repeat' first
    | with_reducible exact Keeps.ret _
    | with_reducible exact hh.r9 _ _
    | with_reducible refine Keeps.loop _ _ _ _ _ _ fun _ _ => ?_
    | with_reducible refine Keeps.seq ?_ fun _ => ?_
    | with_reducible refine Keeps.branch ?_ ?_
    | split

/-- Part 4 of the kernel keeps its buffers. -/
theorem part4 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v114 : BitVec 32) (c1_i32_39 : BitVec 32) (k0_t4 : Fin (k0_t4_loop i).trips) (arg15 : FVec F S128x128 .f32)
    (hh : Held c R arg2 arg3 arg4 arg5 arg6 arg7 arg8 arg9 arg10 arg11 arg12 arg13) :
    Keeps (defs₀ (F := F)) c R (k0_part4 i arg2 harg2 arg3 harg3 arg4 harg4 arg5 harg5 arg6 harg6 arg7 harg7 arg8 harg8 arg9 harg9 arg10 harg10 arg11 harg11 arg12 harg12 arg13 harg13 v114 c1_i32_39 k0_t4 arg15) := by
  unfold k0_part4
  repeat' first
    | with_reducible exact Keeps.ret _
    | with_reducible exact hh.r9 _ _
    | with_reducible refine Keeps.loop _ _ _ _ _ _ fun _ _ => ?_
    | with_reducible refine Keeps.seq ?_ fun _ => ?_
    | with_reducible refine Keeps.branch ?_ ?_
    | split

/-- Part 5 of the kernel keeps its buffers. -/
theorem part5 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v227 : IVec S128x128 32) (c0_i32_106 : BitVec 32) (c1_i32_108 : BitVec 32) (k0_t6 : Fin (k0_t6_loop i).trips) (arg17 : FVec F S128x128 .f32)
    (hh : Held c R arg2 arg3 arg4 arg5 arg6 arg7 arg8 arg9 arg10 arg11 arg12 arg13) :
    Keeps (defs₀ (F := F)) c R (k0_part5 i arg2 harg2 arg3 harg3 arg4 harg4 arg5 harg5 arg6 harg6 arg7 harg7 arg8 harg8 arg9 harg9 arg10 harg10 arg11 harg11 arg12 harg12 arg13 harg13 v227 c0_i32_106 c1_i32_108 k0_t6 arg17) := by
  unfold k0_part5
  repeat' first
    | with_reducible exact Keeps.ret _
    | with_reducible exact hh.r9 _ _
    | with_reducible refine Keeps.loop _ _ _ _ _ _ fun _ _ => ?_
    | with_reducible refine Keeps.seq ?_ fun _ => ?_
    | with_reducible refine Keeps.branch ?_ ?_
    | split

/-- Part 6 of the kernel keeps its buffers. -/
theorem part6 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v227 : IVec S128x128 32) (v233 : BitVec 32) (c1_i32_109 : BitVec 32) (k0_t7 : Fin (k0_t7_loop i).trips) (arg17 : FVec F S128x128 .f32)
    (hh : Held c R arg2 arg3 arg4 arg5 arg6 arg7 arg8 arg9 arg10 arg11 arg12 arg13) :
    Keeps (defs₀ (F := F)) c R (k0_part6 i arg2 harg2 arg3 harg3 arg4 harg4 arg5 harg5 arg6 harg6 arg7 harg7 arg8 harg8 arg9 harg9 arg10 harg10 arg11 harg11 arg12 harg12 arg13 harg13 v227 v233 c1_i32_109 k0_t7 arg17) := by
  unfold k0_part6
  repeat' first
    | with_reducible exact Keeps.ret _
    | with_reducible exact hh.r9 _ _
    | with_reducible refine Keeps.loop _ _ _ _ _ _ fun _ _ => ?_
    | with_reducible refine Keeps.seq ?_ fun _ => ?_
    | with_reducible refine Keeps.branch ?_ ?_
    | split

/-- Part 7 of the kernel keeps its buffers. -/
theorem part7 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v126 : IVec S128x128 32) (c0_i32_46 : BitVec 32) (c1_i32_48 : BitVec 32) (k0_t8 : Fin (k0_t8_loop i).trips) (arg15 : FVec F S128x128 .f32)
    (hh : Held c R arg2 arg3 arg4 arg5 arg6 arg7 arg8 arg9 arg10 arg11 arg12 arg13) :
    Keeps (defs₀ (F := F)) c R (k0_part7 i arg2 harg2 arg3 harg3 arg4 harg4 arg5 harg5 arg6 harg6 arg7 harg7 arg8 harg8 arg9 harg9 arg10 harg10 arg11 harg11 arg12 harg12 arg13 harg13 v126 c0_i32_46 c1_i32_48 k0_t8 arg15) := by
  unfold k0_part7
  repeat' first
    | with_reducible exact Keeps.ret _
    | with_reducible exact hh.r9 _ _
    | with_reducible refine Keeps.loop _ _ _ _ _ _ fun _ _ => ?_
    | with_reducible refine Keeps.seq ?_ fun _ => ?_
    | with_reducible refine Keeps.branch ?_ ?_
    | split

/-- Part 8 of the kernel keeps its buffers. -/
theorem part8 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v126 : IVec S128x128 32) (v132 : BitVec 32) (c1_i32_49 : BitVec 32) (k0_t9 : Fin (k0_t9_loop i).trips) (arg15 : FVec F S128x128 .f32)
    (hh : Held c R arg2 arg3 arg4 arg5 arg6 arg7 arg8 arg9 arg10 arg11 arg12 arg13) :
    Keeps (defs₀ (F := F)) c R (k0_part8 i arg2 harg2 arg3 harg3 arg4 harg4 arg5 harg5 arg6 harg6 arg7 harg7 arg8 harg8 arg9 harg9 arg10 harg10 arg11 harg11 arg12 harg12 arg13 harg13 v126 v132 c1_i32_49 k0_t9 arg15) := by
  unfold k0_part8
  repeat' first
    | with_reducible exact Keeps.ret _
    | with_reducible exact hh.r9 _ _
    | with_reducible refine Keeps.loop _ _ _ _ _ _ fun _ _ => ?_
    | with_reducible refine Keeps.seq ?_ fun _ => ?_
    | with_reducible refine Keeps.branch ?_ ?_
    | split

/-- Part 9 of the kernel keeps its buffers. -/
theorem part9 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v126 : IVec S128x128 32) (c0_i32_105 : BitVec 32) (c1_i32_107 : BitVec 32) (k0_t10 : Fin (k0_t10_loop i).trips) (arg15 : FVec F S128x128 .f32)
    (hh : Held c R arg2 arg3 arg4 arg5 arg6 arg7 arg8 arg9 arg10 arg11 arg12 arg13) :
    Keeps (defs₀ (F := F)) c R (k0_part9 i arg2 harg2 arg3 harg3 arg4 harg4 arg5 harg5 arg6 harg6 arg7 harg7 arg8 harg8 arg9 harg9 arg10 harg10 arg11 harg11 arg12 harg12 arg13 harg13 v126 c0_i32_105 c1_i32_107 k0_t10 arg15) := by
  unfold k0_part9
  repeat' first
    | with_reducible exact Keeps.ret _
    | with_reducible exact hh.r9 _ _
    | with_reducible refine Keeps.loop _ _ _ _ _ _ fun _ _ => ?_
    | with_reducible refine Keeps.seq ?_ fun _ => ?_
    | with_reducible refine Keeps.branch ?_ ?_
    | split

/-- Part 10 of the kernel keeps its buffers. -/
theorem part10 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v126 : IVec S128x128 32) (v227 : BitVec 32) (c1_i32_108 : BitVec 32) (k0_t11 : Fin (k0_t11_loop i).trips) (arg15 : FVec F S128x128 .f32)
    (hh : Held c R arg2 arg3 arg4 arg5 arg6 arg7 arg8 arg9 arg10 arg11 arg12 arg13) :
    Keeps (defs₀ (F := F)) c R (k0_part10 i arg2 harg2 arg3 harg3 arg4 harg4 arg5 harg5 arg6 harg6 arg7 harg7 arg8 harg8 arg9 harg9 arg10 harg10 arg11 harg11 arg12 harg12 arg13 harg13 v126 v227 c1_i32_108 k0_t11 arg15) := by
  unfold k0_part10
  repeat' first
    | with_reducible exact Keeps.ret _
    | with_reducible exact hh.r9 _ _
    | with_reducible refine Keeps.loop _ _ _ _ _ _ fun _ _ => ?_
    | with_reducible refine Keeps.seq ?_ fun _ => ?_
    | with_reducible refine Keeps.branch ?_ ?_
    | split

/-- Part 11 of the kernel keeps its buffers. -/
theorem part11 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v126 : IVec S128x128 32) (v244 : IVec S128x128 32) (c0_i32_118 : BitVec 32) (c1_i32_120 : BitVec 32) (k0_t13 : Fin (k0_t13_loop i).trips) (arg17 : FVec F S128x128 .f32)
    (hh : Held c R arg2 arg3 arg4 arg5 arg6 arg7 arg8 arg9 arg10 arg11 arg12 arg13) :
    Keeps (defs₀ (F := F)) c R (k0_part11 i arg2 harg2 arg3 harg3 arg4 harg4 arg5 harg5 arg6 harg6 arg7 harg7 arg8 harg8 arg9 harg9 arg10 harg10 arg11 harg11 arg12 harg12 arg13 harg13 v126 v244 c0_i32_118 c1_i32_120 k0_t13 arg17) := by
  unfold k0_part11
  repeat' first
    | with_reducible exact Keeps.ret _
    | with_reducible exact hh.r9 _ _
    | with_reducible refine Keeps.loop _ _ _ _ _ _ fun _ _ => ?_
    | with_reducible refine Keeps.seq ?_ fun _ => ?_
    | with_reducible refine Keeps.branch ?_ ?_
    | split

/-- Part 12 of the kernel keeps its buffers. -/
theorem part12 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v126 : IVec S128x128 32) (v244 : IVec S128x128 32) (v250 : BitVec 32) (c1_i32_121 : BitVec 32) (k0_t14 : Fin (k0_t14_loop i).trips) (arg17 : FVec F S128x128 .f32)
    (hh : Held c R arg2 arg3 arg4 arg5 arg6 arg7 arg8 arg9 arg10 arg11 arg12 arg13) :
    Keeps (defs₀ (F := F)) c R (k0_part12 i arg2 harg2 arg3 harg3 arg4 harg4 arg5 harg5 arg6 harg6 arg7 harg7 arg8 harg8 arg9 harg9 arg10 harg10 arg11 harg11 arg12 harg12 arg13 harg13 v126 v244 v250 c1_i32_121 k0_t14 arg17) := by
  unfold k0_part12
  repeat' first
    | with_reducible exact Keeps.ret _
    | with_reducible exact hh.r9 _ _
    | with_reducible refine Keeps.loop _ _ _ _ _ _ fun _ _ => ?_
    | with_reducible refine Keeps.seq ?_ fun _ => ?_
    | with_reducible refine Keeps.branch ?_ ?_
    | split

/-- Part 13 of the kernel keeps its buffers. -/
theorem part13 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v124 : IVec S128x1 32) (v149 : Vec F S128x1 .i32) (v155 : FVec F S512x128 .bf16) (c0_i32_76 : BitVec 32) (c1_i32_78 : BitVec 32) (k0_t15 : Fin (k0_t15_loop i).trips)
    (hh : Held c R arg2 arg3 arg4 arg5 arg6 arg7 arg8 arg9 arg10 arg11 arg12 arg13) :
    Keeps (defs₀ (F := F)) c R (k0_part13 i arg2 harg2 arg3 harg3 arg4 harg4 arg5 harg5 arg6 harg6 arg7 harg7 arg8 harg8 arg9 harg9 arg10 harg10 arg11 harg11 arg12 harg12 arg13 harg13 v124 v149 v155 c0_i32_76 c1_i32_78 k0_t15) := by
  unfold k0_part13
  repeat' first
    | with_reducible exact Keeps.ret _
    | with_reducible exact hh.r5 _ _
    | with_reducible exact hh.r6 _ _
    | with_reducible exact hh.r9 _ _
    | with_reducible exact hh.r11 _ _
    | with_reducible refine Keeps.loop _ _ _ _ _ _ fun _ _ => ?_
    | with_reducible refine Keeps.seq ?_ fun _ => ?_
    | with_reducible refine Keeps.branch ?_ ?_
    | split

/-- Part 14 of the kernel keeps its buffers. -/
theorem part14 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v160 : FVec F S512x128 .bf16) (v236 : IVec S128x512 1) (v238 : Vec F S512x256 .bf16) (v240 : Vec F S512x256 .bf16) (v255 : FVec F S4x128x1 .f32) (v257 : FVec F S4x128x1 .f32) (v265 : FVec F S4x128x512 .f32)
    (hh : Held c R arg2 arg3 arg4 arg5 arg6 arg7 arg8 arg9 arg10 arg11 arg12 arg13) :
    Keeps (defs₀ (F := F)) c R (k0_part14 i arg2 harg2 arg3 harg3 arg4 harg4 arg5 harg5 arg6 harg6 arg7 harg7 arg8 harg8 arg9 harg9 arg10 harg10 arg11 harg11 arg12 harg12 arg13 harg13 v160 v236 v238 v240 v255 v257 v265) := by
  unfold k0_part14
  repeat' first
    | with_reducible exact Keeps.ret _
    | with_reducible exact hh.r11 _ _
    | with_reducible exact hh.r12 _ _
    | with_reducible exact hh.r13 _ _
    | with_reducible exact hh.w11 _ _ _ _ _
    | with_reducible exact hh.w12 _ _ _ _ _
    | with_reducible exact hh.w13 _ _ _ _ _
    | with_reducible refine Keeps.seq ?_ fun _ => ?_
    | with_reducible refine Keeps.branch ?_ ?_
    | split

/-- Part 15 of the kernel keeps its buffers. -/
theorem part15 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v236 : IVec S128x512 1) (v240 : Vec F S512x256 .bf16) (v296 : FVec F S4x128x512 .f32) (v298 : IVec S4x128x512 1) (v299 : FVec F S4x128x512 .f32)
    (hh : Held c R arg2 arg3 arg4 arg5 arg6 arg7 arg8 arg9 arg10 arg11 arg12 arg13) :
    Keeps (defs₀ (F := F)) c R (k0_part15 i arg2 harg2 arg3 harg3 arg4 harg4 arg5 harg5 arg6 harg6 arg7 harg7 arg8 harg8 arg9 harg9 arg10 harg10 arg11 harg11 arg12 harg12 arg13 harg13 v236 v240 v296 v298 v299) := by
  unfold k0_part15
  repeat' first
    | with_reducible exact Keeps.ret _
    | with_reducible exact hh.r11 _ _
    | with_reducible exact hh.r12 _ _
    | with_reducible exact hh.r13 _ _
    | with_reducible exact hh.w12 _ _ _ _ _
    | with_reducible refine Keeps.seq ?_ fun _ => ?_
    | with_reducible refine Keeps.branch ?_ ?_
    | split

/-- Part 16 of the kernel keeps its buffers. -/
theorem part16 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v124 : IVec S128x1 32) (v149 : Vec F S128x1 .i32) (v155 : FVec F S512x128 .bf16) (v177 : BitVec 32) (c1_i32_79 : BitVec 32) (k0_t16 : Fin (k0_t16_loop i).trips)
    (hh : Held c R arg2 arg3 arg4 arg5 arg6 arg7 arg8 arg9 arg10 arg11 arg12 arg13) :
    Keeps (defs₀ (F := F)) c R (k0_part16 i arg2 harg2 arg3 harg3 arg4 harg4 arg5 harg5 arg6 harg6 arg7 harg7 arg8 harg8 arg9 harg9 arg10 harg10 arg11 harg11 arg12 harg12 arg13 harg13 v124 v149 v155 v177 c1_i32_79 k0_t16) := by
  unfold k0_part16
  repeat' first
    | with_reducible exact Keeps.ret _
    | with_reducible exact hh.r5 _ _
    | with_reducible exact hh.r6 _ _
    | with_reducible exact hh.r9 _ _
    | with_reducible exact hh.r11 _ _
    | with_reducible refine Keeps.loop _ _ _ _ _ _ fun _ _ => ?_
    | with_reducible refine Keeps.seq ?_ fun _ => ?_
    | with_reducible refine Keeps.branch ?_ ?_
    | split

/-- Part 17 of the kernel keeps its buffers. -/
theorem part17 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v160 : FVec F S512x128 .bf16) (v236 : IVec S128x512 1) (v238 : Vec F S512x256 .bf16) (v240 : Vec F S512x256 .bf16) (v255 : FVec F S4x128x1 .f32) (v257 : FVec F S4x128x1 .f32) (v265 : FVec F S4x128x512 .f32)
    (hh : Held c R arg2 arg3 arg4 arg5 arg6 arg7 arg8 arg9 arg10 arg11 arg12 arg13) :
    Keeps (defs₀ (F := F)) c R (k0_part17 i arg2 harg2 arg3 harg3 arg4 harg4 arg5 harg5 arg6 harg6 arg7 harg7 arg8 harg8 arg9 harg9 arg10 harg10 arg11 harg11 arg12 harg12 arg13 harg13 v160 v236 v238 v240 v255 v257 v265) := by
  unfold k0_part17
  repeat' first
    | with_reducible exact Keeps.ret _
    | with_reducible exact hh.r11 _ _
    | with_reducible exact hh.r12 _ _
    | with_reducible exact hh.r13 _ _
    | with_reducible exact hh.w11 _ _ _ _ _
    | with_reducible exact hh.w12 _ _ _ _ _
    | with_reducible exact hh.w13 _ _ _ _ _
    | with_reducible refine Keeps.seq ?_ fun _ => ?_
    | with_reducible refine Keeps.branch ?_ ?_
    | split

/-- Part 18 of the kernel keeps its buffers. -/
theorem part18 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v236 : IVec S128x512 1) (v240 : Vec F S512x256 .bf16) (v296 : FVec F S4x128x512 .f32) (v298 : IVec S4x128x512 1) (v299 : FVec F S4x128x512 .f32)
    (hh : Held c R arg2 arg3 arg4 arg5 arg6 arg7 arg8 arg9 arg10 arg11 arg12 arg13) :
    Keeps (defs₀ (F := F)) c R (k0_part18 i arg2 harg2 arg3 harg3 arg4 harg4 arg5 harg5 arg6 harg6 arg7 harg7 arg8 harg8 arg9 harg9 arg10 harg10 arg11 harg11 arg12 harg12 arg13 harg13 v236 v240 v296 v298 v299) := by
  unfold k0_part18
  repeat' first
    | with_reducible exact Keeps.ret _
    | with_reducible exact hh.r11 _ _
    | with_reducible exact hh.r12 _ _
    | with_reducible exact hh.r13 _ _
    | with_reducible exact hh.w12 _ _ _ _ _
    | with_reducible refine Keeps.seq ?_ fun _ => ?_
    | with_reducible refine Keeps.branch ?_ ?_
    | split

/-- Part 19 of the kernel keeps its buffers. -/
theorem part19 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole)
    (hh : Held c R arg2 arg3 arg4 arg5 arg6 arg7 arg8 arg9 arg10 arg11 arg12 arg13) :
    Keeps (defs₀ (F := F)) c R (k0_part19 i arg2 harg2 arg3 harg3 arg4 harg4 arg5 harg5 arg6 harg6 arg7 harg7 arg8 harg8 arg9 harg9 arg10 harg10 arg11 harg11 arg12 harg12 arg13 harg13) := by
  unfold k0_part19
  repeat' first
    | with_reducible exact Keeps.ret _
    | with_reducible exact hh.r3 _ _
    | with_reducible exact hh.r4 _ _
    | with_reducible refine Keeps.seq ?_ fun _ => ?_
    | with_reducible refine Keeps.branch ?_ ?_
    | split

/-- Part 20 of the kernel keeps its buffers. -/
theorem part20 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v30 : Vec F S128x512 .bf16) (v31 : Vec F S128x128 .f32) (v32 : IVec S128x128 32) (v34 : FVec F S128x128 .f32) (v36 : IVec S128x128 1) (v37 : FVec F S128x128 .f32)
    (hh : Held c R arg2 arg3 arg4 arg5 arg6 arg7 arg8 arg9 arg10 arg11 arg12 arg13) :
    Keeps (defs₀ (F := F)) c R (k0_part20 i arg2 harg2 arg3 harg3 arg4 harg4 arg5 harg5 arg6 harg6 arg7 harg7 arg8 harg8 arg9 harg9 arg10 harg10 arg11 harg11 arg12 harg12 arg13 harg13 v30 v31 v32 v34 v36 v37) := by
  unfold k0_part20
  repeat' first
    | with_reducible exact Keeps.ret _
    | with_reducible refine Keeps.seq ?_ fun _ => ?_
    | with_reducible refine Keeps.branch ?_ ?_
    | split

/-- Part 21 of the kernel keeps its buffers. -/
theorem part21 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v9 : IVec S128x1 32) (v29 : BitVec 32) (v30 : Vec F S128x512 .bf16) (v31 : Vec F S128x128 .f32) (v32 : IVec S128x128 32) (v39 : FVec F S128x128 .bf16) (v40 : FVec F S128x1 .f32) (v48 : FVec F S128x128 .bf16) (v49 : FVec F S128x1 .f32) (v56 : FVec F S128x128 .bf16) (v57 : FVec F S128x1 .f32) (v65 : FVec F S128x128 .bf16) (v66 : FVec F S128x1 .f32) (v73 : FVec F S128x128 .bf16) (v74 : FVec F S128x1 .f32) (v82 : FVec F S128x128 .bf16) (v83 : FVec F S128x1 .f32) (v84 : FVec F S128x128 .bf16)
    (hh : Held c R arg2 arg3 arg4 arg5 arg6 arg7 arg8 arg9 arg10 arg11 arg12 arg13) :
    Keeps (defs₀ (F := F)) c R (k0_part21 i arg2 harg2 arg3 harg3 arg4 harg4 arg5 harg5 arg6 harg6 arg7 harg7 arg8 harg8 arg9 harg9 arg10 harg10 arg11 harg11 arg12 harg12 arg13 harg13 v9 v29 v30 v31 v32 v39 v40 v48 v49 v56 v57 v65 v66 v73 v74 v82 v83 v84) := by
  unfold k0_part21
  repeat' first
    | with_reducible exact Keeps.ret _
    | with_reducible exact part1 _ _ _ _ _ _ _ _ _ _ _ _ _ _ _ _ _ _ _ _ _ _ _ _ _ _ _ _ _ _ _ _ _ _ _ _ _ _ _ _ _ _ hh
    | with_reducible exact part2 _ _ _ _ _ _ _ _ _ _ _ _ _ _ _ _ _ _ _ _ _ _ _ _ _ _ _ _ _ _ _ _ _ _ _ _ _ _ _ _ _ _ hh
    | with_reducible exact part3 _ _ _ _ _ _ _ _ _ _ _ _ _ _ _ _ _ _ _ _ _ _ _ _ _ _ _ _ _ hh
    | with_reducible exact part4 _ _ _ _ _ _ _ _ _ _ _ _ _ _ _ _ _ _ _ _ _ _ _ _ _ _ _ _ _ hh
    | with_reducible exact hh.r9 _ _
    | with_reducible exact hh.w9 _ _ _ _ _
    | with_reducible refine Keeps.loop _ _ _ _ _ _ fun _ _ => ?_
    | with_reducible refine Keeps.seq ?_ fun _ => ?_
    | with_reducible refine Keeps.branch ?_ ?_
    | split

/-- Part 22 of the kernel keeps its buffers. -/
theorem part22 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v29 : BitVec 32) (v108 : FVec F S128x1 .f32) (v122 : IVec S128x1 32) (c0_i32_42 : BitVec 32)
    (hh : Held c R arg2 arg3 arg4 arg5 arg6 arg7 arg8 arg9 arg10 arg11 arg12 arg13) :
    Keeps (defs₀ (F := F)) c R (k0_part22 i arg2 harg2 arg3 harg3 arg4 harg4 arg5 harg5 arg6 harg6 arg7 harg7 arg8 harg8 arg9 harg9 arg10 harg10 arg11 harg11 arg12 harg12 arg13 harg13 v29 v108 v122 c0_i32_42) := by
  unfold k0_part22
  repeat' first
    | with_reducible exact Keeps.ret _
    | with_reducible exact part5 _ _ _ _ _ _ _ _ _ _ _ _ _ _ _ _ _ _ _ _ _ _ _ _ _ _ _ _ _ _ hh
    | with_reducible exact part6 _ _ _ _ _ _ _ _ _ _ _ _ _ _ _ _ _ _ _ _ _ _ _ _ _ _ _ _ _ _ hh
    | with_reducible exact part7 _ _ _ _ _ _ _ _ _ _ _ _ _ _ _ _ _ _ _ _ _ _ _ _ _ _ _ _ _ _ hh
    | with_reducible exact part8 _ _ _ _ _ _ _ _ _ _ _ _ _ _ _ _ _ _ _ _ _ _ _ _ _ _ _ _ _ _ hh
    | with_reducible exact part9 _ _ _ _ _ _ _ _ _ _ _ _ _ _ _ _ _ _ _ _ _ _ _ _ _ _ _ _ _ _ hh
    | with_reducible exact part10 _ _ _ _ _ _ _ _ _ _ _ _ _ _ _ _ _ _ _ _ _ _ _ _ _ _ _ _ _ _ hh
    | with_reducible exact part11 _ _ _ _ _ _ _ _ _ _ _ _ _ _ _ _ _ _ _ _ _ _ _ _ _ _ _ _ _ _ _ hh
    | with_reducible exact part12 _ _ _ _ _ _ _ _ _ _ _ _ _ _ _ _ _ _ _ _ _ _ _ _ _ _ _ _ _ _ _ hh
    | with_reducible exact hh.r2 _ _
    | with_reducible exact hh.r9 _ _
    | with_reducible exact hh.r10 _ _
    | with_reducible exact hh.w10 _ _ _ _ _
    | with_reducible refine Keeps.loop _ _ _ _ _ _ fun _ _ => ?_
    | with_reducible refine Keeps.seq ?_ fun _ => ?_
    | with_reducible refine Keeps.branch ?_ ?_
    | split

/-- Part 23 of the kernel keeps its buffers. -/
theorem part23 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v29 : BitVec 32) (v124 : IVec S128x1 32) (v149 : Vec F S128x1 .i32) (v155 : FVec F S512x128 .bf16) (v160 : FVec F S512x128 .bf16) (cst_60 : F .f32)
    (hh : Held c R arg2 arg3 arg4 arg5 arg6 arg7 arg8 arg9 arg10 arg11 arg12 arg13) :
    Keeps (defs₀ (F := F)) c R (k0_part23 i arg2 harg2 arg3 harg3 arg4 harg4 arg5 harg5 arg6 harg6 arg7 harg7 arg8 harg8 arg9 harg9 arg10 harg10 arg11 harg11 arg12 harg12 arg13 harg13 v29 v124 v149 v155 v160 cst_60) := by
  unfold k0_part23
  repeat' first
    | with_reducible exact Keeps.ret _
    | with_reducible exact part13 _ _ _ _ _ _ _ _ _ _ _ _ _ _ _ _ _ _ _ _ _ _ _ _ _ _ _ _ _ _ _ hh
    | with_reducible exact part14 _ _ _ _ _ _ _ _ _ _ _ _ _ _ _ _ _ _ _ _ _ _ _ _ _ _ _ _ _ _ _ _ hh
    | with_reducible exact part15 _ _ _ _ _ _ _ _ _ _ _ _ _ _ _ _ _ _ _ _ _ _ _ _ _ _ _ _ _ _ hh
    | with_reducible exact part16 _ _ _ _ _ _ _ _ _ _ _ _ _ _ _ _ _ _ _ _ _ _ _ _ _ _ _ _ _ _ _ hh
    | with_reducible exact part17 _ _ _ _ _ _ _ _ _ _ _ _ _ _ _ _ _ _ _ _ _ _ _ _ _ _ _ _ _ _ _ _ hh
    | with_reducible exact part18 _ _ _ _ _ _ _ _ _ _ _ _ _ _ _ _ _ _ _ _ _ _ _ _ _ _ _ _ _ _ hh
    | with_reducible exact hh.r11 _ _
    | with_reducible exact hh.r12 _ _
    | with_reducible exact hh.r13 _ _
    | with_reducible exact hh.w11 _ _ _ _ _
    | with_reducible exact hh.w12 _ _ _ _ _
    | with_reducible exact hh.w13 _ _ _ _ _
    | with_reducible refine Keeps.loop _ _ _ _ _ _ fun _ _ => ?_
    | with_reducible refine Keeps.seq ?_ fun _ => ?_
    | with_reducible refine Keeps.branch ?_ ?_
    | split

/-- Part 24 of the kernel keeps its buffers. -/
theorem part24 {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole) (v183 : FVec F S4x128x128 .f32) (v186 : FVec F S128x128 .bf16)
    (hh : Held c R arg2 arg3 arg4 arg5 arg6 arg7 arg8 arg9 arg10 arg11 arg12 arg13) :
    Keeps (defs₀ (F := F)) c R (k0_part24 i arg2 harg2 arg3 harg3 arg4 harg4 arg5 harg5 arg6 harg6 arg7 harg7 arg8 harg8 arg9 harg9 arg10 harg10 arg11 harg11 arg12 harg12 arg13 harg13 v183 v186) := by
  unfold k0_part24
  repeat' first
    | with_reducible exact Keeps.ret _
    | with_reducible exact hh.r8 _ _
    | with_reducible exact hh.r12 _ _
    | with_reducible exact hh.r13 _ _
    | with_reducible exact hh.w8 _ _ _ _ _
    | with_reducible refine Keeps.seq ?_ fun _ => ?_
    | with_reducible refine Keeps.branch ?_ ?_
    | split

/-- The whole kernel keeps its buffers. -/
theorem body {R : sProp 𝕄} (i : grid0.Coords) (arg2 : Memref sig .tc .vmem S128x1024 .bf16) (harg2 : arg2.IsWhole) (arg3 : Memref sig .tc .vmem S128x512 .bf16) (harg3 : arg3.IsWhole) (arg4 : Memref sig .tc .vmem S128x128 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S128x1024 .bf16) (harg8 : arg8.IsWhole) (arg9 : Memref sig .tc .vmem S128x4096 .i32) (harg9 : arg9.IsWhole) (arg10 : Memref sig .tc .vmem S128x1 .i32) (harg10 : arg10.IsWhole) (arg11 : Memref sig .tc .vmem S2x4x128x1 .f32) (harg11 : arg11.IsWhole) (arg12 : Memref sig .tc .vmem S2x4x128x1 .f32) (harg12 : arg12.IsWhole) (arg13 : Memref sig .tc .vmem S2x4x128x128 .f32) (harg13 : arg13.IsWhole)
    (hh : Held c R arg2 arg3 arg4 arg5 arg6 arg7 arg8 arg9 arg10 arg11 arg12 arg13) :
    Keeps (defs₀ (F := F)) c R (cc0__dsa_prompt_body i arg2 harg2 arg3 harg3 arg4 harg4 arg5 harg5 arg6 harg6 arg7 harg7 arg8 harg8 arg9 harg9 arg10 harg10 arg11 harg11 arg12 harg12 arg13 harg13) := by
  unfold cc0__dsa_prompt_body
  repeat' first
    | with_reducible exact Keeps.ret _
    | with_reducible exact part19 _ _ _ _ _ _ _ _ _ _ _ _ _ _ _ _ _ _ _ _ _ _ _ _ _ hh
    | with_reducible exact part20 _ _ _ _ _ _ _ _ _ _ _ _ _ _ _ _ _ _ _ _ _ _ _ _ _ _ _ _ _ _ _ hh
    | with_reducible exact part21 _ _ _ _ _ _ _ _ _ _ _ _ _ _ _ _ _ _ _ _ _ _ _ _ _ _ _ _ _ _ _ _ _ _ _ _ _ _ _ _ _ _ _ hh
    | with_reducible exact part22 _ _ _ _ _ _ _ _ _ _ _ _ _ _ _ _ _ _ _ _ _ _ _ _ _ _ _ _ _ hh
    | with_reducible exact part23 _ _ _ _ _ _ _ _ _ _ _ _ _ _ _ _ _ _ _ _ _ _ _ _ _ _ _ _ _ _ _ hh
    | with_reducible exact part24 _ _ _ _ _ _ _ _ _ _ _ _ _ _ _ _ _ _ _ _ _ _ _ _ _ _ _ hh
    | with_reducible exact hh.r8 _ _
    | with_reducible exact hh.w8 _ _ _ _ _
    | with_reducible refine Keeps.seq ?_ fun _ => ?_
    | with_reducible refine Keeps.branch ?_ ?_
    | split

end PromptKeeps

end
-- ==== Proof.PromptFrame.lean ====
/-
  The frame of the program `Prompt`: it runs to the end, leaves its arguments as they were and every semaphore at zero.
  Its one output is not named: the kernel's body is only shown to keep the buffers it is called with (`PromptKeeps`).
-/
module

public import proofs.«01_k».proof.Proof.Gen.Prompt.Frame
public import proofs.«01_k».proof.Proof.PromptKeeps

@[expose] public section

set_option maxRecDepth 16384

noncomputable section

namespace PromptFrame

open Cert.Prompt Cert.Prompt.Gen Keeping
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- What the body holds at point `t`: each input's block as the region found it, the output's buffer and the scratch
    buffers at some contents. -/
def held (c : Dev nD) (t : Fin cfg0.N) : sProp 𝕄 :=
  iprop(owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (X0_3 m c t)
    ∗ owns (c : Thread nD τ) (st0_4 t) fullShare (X0_4 m c t)
    ∗ owns (c : Thread nD τ) (st0_5 t) fullShare (X0_5 m c t)
    ∗ (∃ d, owns (c : Thread nD τ) (st0_6 t) fullShare d)
    ∗ (∃ d, owns (c : Thread nD τ) (Memref.whole cc0_scratch0) fullShare d)
    ∗ (∃ d, owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d)
    ∗ (∃ d, owns (c : Thread nD τ) (Memref.whole cc0_scratch4) fullShare d))

/-- The buffer of window 0 can be taken out of what the body holds, and put back. -/
theorem take0 (c : Dev nD) (t : Fin cfg0.N) :
    held m c t ⊢ iprop(owns (c : Thread nD τ) (st0_0 t) fullShare (iblk m c 0 t) ∗ (owns (c : Thread nD τ) (st0_0 t) fullShare (iblk m c 0 t) -∗ held m c t)) := by
  unfold held
  iintro ⟨H0, H1, H2, H3, H4, H5, H6, HS0, HS1, HS2, HS3, HS4⟩
  isplitl [H0]
  · iexact H0
  iintro H0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iexact HS4

/-- The buffer of window 1 can be taken out of what the body holds, and put back. -/
theorem take1 (c : Dev nD) (t : Fin cfg0.N) :
    held m c t ⊢ iprop(owns (c : Thread nD τ) (st0_1 t) fullShare (iblk m c 1 t) ∗ (owns (c : Thread nD τ) (st0_1 t) fullShare (iblk m c 1 t) -∗ held m c t)) := by
  unfold held
  iintro ⟨H0, H1, H2, H3, H4, H5, H6, HS0, HS1, HS2, HS3, HS4⟩
  isplitl [H1]
  · iexact H1
  iintro H1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iexact HS4

/-- The buffer of window 2 can be taken out of what the body holds, and put back. -/
theorem take2 (c : Dev nD) (t : Fin cfg0.N) :
    held m c t ⊢ iprop(owns (c : Thread nD τ) (st0_2 t) fullShare (iblk m c 2 t) ∗ (owns (c : Thread nD τ) (st0_2 t) fullShare (iblk m c 2 t) -∗ held m c t)) := by
  unfold held
  iintro ⟨H0, H1, H2, H3, H4, H5, H6, HS0, HS1, HS2, HS3, HS4⟩
  isplitl [H2]
  · iexact H2
  iintro H2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iexact HS4

/-- The buffer of window 3 can be taken out of what the body holds, and put back. -/
theorem take3 (c : Dev nD) (t : Fin cfg0.N) :
    held m c t ⊢ iprop(owns (c : Thread nD τ) (st0_3 t) fullShare (X0_3 m c t) ∗ (owns (c : Thread nD τ) (st0_3 t) fullShare (X0_3 m c t) -∗ held m c t)) := by
  unfold held
  iintro ⟨H0, H1, H2, H3, H4, H5, H6, HS0, HS1, HS2, HS3, HS4⟩
  isplitl [H3]
  · iexact H3
  iintro H3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iexact HS4

/-- The buffer of window 4 can be taken out of what the body holds, and put back. -/
theorem take4 (c : Dev nD) (t : Fin cfg0.N) :
    held m c t ⊢ iprop(owns (c : Thread nD τ) (st0_4 t) fullShare (X0_4 m c t) ∗ (owns (c : Thread nD τ) (st0_4 t) fullShare (X0_4 m c t) -∗ held m c t)) := by
  unfold held
  iintro ⟨H0, H1, H2, H3, H4, H5, H6, HS0, HS1, HS2, HS3, HS4⟩
  isplitl [H4]
  · iexact H4
  iintro H4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iexact HS4

/-- The buffer of window 5 can be taken out of what the body holds, and put back. -/
theorem take5 (c : Dev nD) (t : Fin cfg0.N) :
    held m c t ⊢ iprop(owns (c : Thread nD τ) (st0_5 t) fullShare (X0_5 m c t) ∗ (owns (c : Thread nD τ) (st0_5 t) fullShare (X0_5 m c t) -∗ held m c t)) := by
  unfold held
  iintro ⟨H0, H1, H2, H3, H4, H5, H6, HS0, HS1, HS2, HS3, HS4⟩
  isplitl [H5]
  · iexact H5
  iintro H5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iexact HS4

/-- The buffer of window 6 can be taken out of what the body holds, and put back. -/
theorem take6 (c : Dev nD) (t : Fin cfg0.N) :
    held m c t ⊢ iprop((∃ d, owns (c : Thread nD τ) (st0_6 t) fullShare d) ∗ ((∃ d, owns (c : Thread nD τ) (st0_6 t) fullShare d) -∗ held m c t)) := by
  unfold held
  iintro ⟨H0, H1, H2, H3, H4, H5, H6, HS0, HS1, HS2, HS3, HS4⟩
  isplitl [H6]
  · iexact H6
  iintro H6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iexact HS4

/-- The buffer of scratch 0 can be taken out of what the body holds, and put back. -/
theorem take7 (c : Dev nD) (t : Fin cfg0.N) :
    held m c t ⊢ iprop((∃ d, owns (c : Thread nD τ) (Memref.whole cc0_scratch0) fullShare d) ∗ ((∃ d, owns (c : Thread nD τ) (Memref.whole cc0_scratch0) fullShare d) -∗ held m c t)) := by
  unfold held
  iintro ⟨H0, H1, H2, H3, H4, H5, H6, HS0, HS1, HS2, HS3, HS4⟩
  isplitl [HS0]
  · iexact HS0
  iintro HS0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iexact HS4

/-- The buffer of scratch 1 can be taken out of what the body holds, and put back. -/
theorem take8 (c : Dev nD) (t : Fin cfg0.N) :
    held m c t ⊢ iprop((∃ d, owns (c : Thread nD τ) (Memref.whole cc0_scratch1) fullShare d) ∗ ((∃ d, owns (c : Thread nD τ) (Memref.whole cc0_scratch1) fullShare d) -∗ held m c t)) := by
  unfold held
  iintro ⟨H0, H1, H2, H3, H4, H5, H6, HS0, HS1, HS2, HS3, HS4⟩
  isplitl [HS1]
  · iexact HS1
  iintro HS1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iexact HS4

/-- The buffer of scratch 2 can be taken out of what the body holds, and put back. -/
theorem take9 (c : Dev nD) (t : Fin cfg0.N) :
    held m c t ⊢ iprop((∃ d, owns (c : Thread nD τ) (Memref.whole cc0_scratch2) fullShare d) ∗ ((∃ d, owns (c : Thread nD τ) (Memref.whole cc0_scratch2) fullShare d) -∗ held m c t)) := by
  unfold held
  iintro ⟨H0, H1, H2, H3, H4, H5, H6, HS0, HS1, HS2, HS3, HS4⟩
  isplitl [HS2]
  · iexact HS2
  iintro HS2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iexact HS4

/-- The buffer of scratch 3 can be taken out of what the body holds, and put back. -/
theorem take10 (c : Dev nD) (t : Fin cfg0.N) :
    held m c t ⊢ iprop((∃ d, owns (c : Thread nD τ) (Memref.whole cc0_scratch3) fullShare d) ∗ ((∃ d, owns (c : Thread nD τ) (Memref.whole cc0_scratch3) fullShare d) -∗ held m c t)) := by
  unfold held
  iintro ⟨H0, H1, H2, H3, H4, H5, H6, HS0, HS1, HS2, HS3, HS4⟩
  isplitl [HS3]
  · iexact HS3
  iintro HS3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iexact HS4

/-- The buffer of scratch 4 can be taken out of what the body holds, and put back. -/
theorem take11 (c : Dev nD) (t : Fin cfg0.N) :
    held m c t ⊢ iprop((∃ d, owns (c : Thread nD τ) (Memref.whole cc0_scratch4) fullShare d) ∗ ((∃ d, owns (c : Thread nD τ) (Memref.whole cc0_scratch4) fullShare d) -∗ held m c t)) := by
  unfold held
  iintro ⟨H0, H1, H2, H3, H4, H5, H6, HS0, HS1, HS2, HS3, HS4⟩
  isplitl [HS4]
  · iexact HS4
  iintro HS4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iexact HS4

/-- What the body holds is what its parts need. -/
theorem holds (c : Dev nD) (t : Fin cfg0.N) :
    PromptKeeps.Held (F := F) c (held m c t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (Memref.whole cc0_scratch0) (Memref.whole cc0_scratch1) (Memref.whole cc0_scratch2) (Memref.whole cc0_scratch3) (Memref.whole cc0_scratch4) where
  r2 := reads_of_owns (take0 m c t)
  r3 := reads_of_owns (take1 m c t)
  r4 := reads_of_owns (take2 m c t)
  r5 := reads_of_owns (take3 m c t)
  r6 := reads_of_owns (take4 m c t)
  r7 := reads_of_owns (take5 m c t)
  r8 := reads_of_some (take6 m c t)
  r9 := reads_of_some (take7 m c t)
  r10 := reads_of_some (take8 m c t)
  r11 := reads_of_some (take9 m c t)
  r12 := reads_of_some (take10 m c t)
  r13 := reads_of_some (take11 m c t)
  w8 := writes_of_some (take6 m c t)
  w9 := writes_of_some (take7 m c t)
  w10 := writes_of_some (take8 m c t)
  w11 := writes_of_some (take9 m c t)
  w12 := writes_of_some (take10 m c t)
  w13 := writes_of_some (take11 m c t)

/-- The windows whose contents are not followed: the output. -/
def loosened (w : Fin cfg0.W) : Bool := decide (w.val = 6)

/-- The proof data: the arrays as the region finds them; after each point every input's buffer at its block, the
    output's not named; the scratch buffers at some contents throughout; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => X0_5 m c t
    | ⟨6, h⟩ => Dat.unnamed (Val := Elt F) (cfg := cfg0) ⟨6, h⟩ t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- After the body the buffer of input 0 holds its block. -/
theorem after0 (c : Dev nD) (t : Fin cfg0.N) : (dats m 0 c).after 0 t = iblk m c 0 t := by dsimp only [dats]

/-- Before the body the buffer of input 0 holds its block. -/
theorem before0 (c : Dev nD) (t : Fin cfg0.N) (d) : (dats m 0 c).before 0 t d = iblk m c 0 t :=
  before0_0_of m (dats m 0 c) (A_eq m c 0) (after0 m c) t d

/-- What the body gives back of input 0: its buffer at its block. -/
theorem leaves0 (c : Dev nD) (t : Fin cfg0.N) :
    (dats m 0 c).leavesExact 0 t = owns (c : Thread nD τ) (st0_0 t) fullShare (iblk m c 0 t) := by
  unfold Dat.leavesExact
  rw [show cfg0.idle 0 (cfg0.grid.coords t) = false from rfl, after0]

/-- After the body the buffer of input 1 holds its block. -/
theorem after1 (c : Dev nD) (t : Fin cfg0.N) : (dats m 0 c).after 1 t = iblk m c 1 t := by dsimp only [dats]

/-- Before the body the buffer of input 1 holds its block. -/
theorem before1 (c : Dev nD) (t : Fin cfg0.N) (d) : (dats m 0 c).before 1 t d = iblk m c 1 t :=
  before0_1_of m (dats m 0 c) (A_eq m c 1) (after1 m c) t d

/-- What the body gives back of input 1: its buffer at its block. -/
theorem leaves1 (c : Dev nD) (t : Fin cfg0.N) :
    (dats m 0 c).leavesExact 1 t = owns (c : Thread nD τ) (st0_1 t) fullShare (iblk m c 1 t) := by
  unfold Dat.leavesExact
  rw [show cfg0.idle 1 (cfg0.grid.coords t) = false from rfl, after1]

/-- After the body the buffer of input 2 holds its block. -/
theorem after2 (c : Dev nD) (t : Fin cfg0.N) : (dats m 0 c).after 2 t = iblk m c 2 t := by dsimp only [dats]

/-- Before the body the buffer of input 2 holds its block. -/
theorem before2 (c : Dev nD) (t : Fin cfg0.N) (d) : (dats m 0 c).before 2 t d = iblk m c 2 t :=
  before0_2_of m (dats m 0 c) (A_eq m c 2) (after2 m c) t d

/-- What the body gives back of input 2: its buffer at its block. -/
theorem leaves2 (c : Dev nD) (t : Fin cfg0.N) :
    (dats m 0 c).leavesExact 2 t = owns (c : Thread nD τ) (st0_2 t) fullShare (iblk m c 2 t) := by
  unfold Dat.leavesExact
  rw [show cfg0.idle 2 (cfg0.grid.coords t) = false from rfl, after2]

/-- After the body the buffer of input 3 holds its block. -/
theorem after3 (c : Dev nD) (t : Fin cfg0.N) : (dats m 0 c).after 3 t = X0_3 m c t := by dsimp only [dats]

/-- Before the body the buffer of input 3 holds its block. -/
theorem before3 (c : Dev nD) (t : Fin cfg0.N) (d) : (dats m 0 c).before 3 t d = X0_3 m c t :=
  before0_3_of m (dats m 0 c) (A_eq m c 3) (after3 m c) t d

/-- What the body gives back of input 3: its buffer at its block. -/
theorem leaves3 (c : Dev nD) (t : Fin cfg0.N) :
    (dats m 0 c).leavesExact 3 t = owns (c : Thread nD τ) (st0_3 t) fullShare (X0_3 m c t) := by
  unfold Dat.leavesExact
  rw [show cfg0.idle 3 (cfg0.grid.coords t) = false from rfl, after3]

/-- After the body the buffer of input 4 holds its block. -/
theorem after4 (c : Dev nD) (t : Fin cfg0.N) : (dats m 0 c).after 4 t = X0_4 m c t := by dsimp only [dats]

/-- Before the body the buffer of input 4 holds its block. -/
theorem before4 (c : Dev nD) (t : Fin cfg0.N) (d) : (dats m 0 c).before 4 t d = X0_4 m c t :=
  before0_4_of m (dats m 0 c) (A_eq m c 4) (after4 m c) t d

/-- What the body gives back of input 4: its buffer at its block. -/
theorem leaves4 (c : Dev nD) (t : Fin cfg0.N) :
    (dats m 0 c).leavesExact 4 t = owns (c : Thread nD τ) (st0_4 t) fullShare (X0_4 m c t) := by
  unfold Dat.leavesExact
  rw [show cfg0.idle 4 (cfg0.grid.coords t) = false from rfl, after4]

/-- After the body the buffer of input 5 holds its block. -/
theorem after5 (c : Dev nD) (t : Fin cfg0.N) : (dats m 0 c).after 5 t = X0_5 m c t := by dsimp only [dats]

/-- Before the body the buffer of input 5 holds its block. -/
theorem before5 (c : Dev nD) (t : Fin cfg0.N) (d) : (dats m 0 c).before 5 t d = X0_5 m c t :=
  before0_5_of m (dats m 0 c) (A_eq m c 5) (after5 m c) t d

/-- What the body gives back of input 5: its buffer at its block. -/
theorem leaves5 (c : Dev nD) (t : Fin cfg0.N) :
    (dats m 0 c).leavesExact 5 t = owns (c : Thread nD τ) (st0_5 t) fullShare (X0_5 m c t) := by
  unfold Dat.leavesExact
  rw [show cfg0.idle 5 (cfg0.grid.coords t) = false from rfl, after5]

/-- The region's own invariant: the scratch buffers at some contents, and the generator's register. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA
  rw [scopedRest0_eq]
  simp only [owns_whole]
  try rfl

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- What the body gives back at point `t`. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (st0_6 t) fullShare d))

/-- The body, at any point: from what it is called with to what it gives back. -/
theorem sound (c : Dev nD) (t : Fin cfg0.N) :
    pre m c t ⊢ wp frame (wpE (defs₀ (F := F)) Variants.none c none) Set.univ (bodyAt0 t) (fun _ => post m c t) := by
  have hk := PromptKeeps.body (F := F) (c := c) (R := held m c t) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (holds m c t)
  unfold Keeps at hk
  unfold pre post
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, inv_eq]
  simp only [before0, before1, before2, before3, before4, before5, leaves0, leaves1, leaves2, leaves3, leaves4, leaves5]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, H6⟩
  iapply (wp_wand_r frame (wpE (defs₀ (F := F)) Variants.none c none) Set.univ)
  isplitl [H0 H1 H2 H3 H4 H5 H6 HS0 HS1 HS2 HS3 HS4]
  · iapply hk
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iexact HS4
  iintro %a HR
  unfold held
  icases HR with ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body. -/
theorem row (t : Fin cfg0.N) :
    defs₀ (F := F) .tc cfg0.body (cfg0.bodyArgs t (cfg0.slots t)) = bodyAt0 t := by
  unfold defs₀; rw [Defs.onTc_tc]

/-- The pipeline's obligation of the body, with the output's contents not followed. -/
theorem obligation (c : Dev nD) :
    BodyObligation (dats (F := F) m 0 c) (defs₀ (F := F)) Variants.none () Set.univ loosened := fun t => by
  rw [bigSep_W0, bigSep_W0, row]
  exact triple_restated (sound m c t) rfl .rfl fun _ => .rfl

set_option backward.isDefEq.respectTransparency.types false in
/-- The run: it ends with every input array as the region found it and every counter at zero. -/
theorem run : θ_run defs (onTc (τ := τ) (main (F := F))) (s₀ m ρ)
    (fun r => Pipeline.RDat.FramePost cfg0 (fun c => (dats m 0 c).toRForget loosened) (V m) r ∧ r.2.sem = fun _ => 0) :=
  Pipeline.θ_run_frame_forget (Q' := _) cfgs (dats m) (0 : Fin 1) launch0 defs₀ Variants.none loosened m ρ main
    (hbody := fun c => (obligation m c).loose) (hshare := fun c => (dats m 0 c).share_full fun _ => rfl)
    (howed := fun _ _ => rfl) (V := V m) (hmain := hmain m Variants.none) (hA := A_eq m) (hΦ := fun _ _ => rfl)
    (hQ' := fun _ h => h)

/-- The frame: every execution of the program ends, its argument arrays hold what they held, and every semaphore
    counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c))⟩, h.2⟩) (run m ρ)

end PromptFrame

end
-- ==== Proof.SampleKeeps.lean ====
/-
  The kernel of the program `Sample`, part by part: each part keeps the buffers it is called with.
-/
module

public import proofs.«01_k».proof.Sample
public import proofs.«01_k».proof.Proof.Keeps

@[expose] public section

set_option maxRecDepth 65536

noncomputable section

namespace SampleKeeps

open Cert.Sample Keeping
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] [Cert.Sample.Facts]

local notation "𝕄" => MT nD τ sig Unit (Elt F) ℕ (UR sig nD τ) ℕ

/-- What the kernel needs of the resource it runs from: it may load every one of its buffers, and store to those it
    stores to. -/
structure Held (c : Dev nD) (R : sProp 𝕄)
    (arg1 : Memref sig .tc .vmem S64x1024 .bf16) (arg2 : Memref sig .tc .vmem S64x512 .bf16) (arg3 : Memref sig .tc .vmem S64x128 .f32) (arg4 : Memref sig .tc .vmem S64x256 .bf16) (arg5 : Memref sig .tc .vmem S64x256 .bf16) (arg6 : Memref sig .tc .vmem S64x128 .bf16) (arg7 : Memref sig .tc .vmem S1x2048x256 .f32) (arg8 : Memref sig .tc .vmem S1x2048x256 .f32) (arg9 : Memref sig .tc .vmem S1x2048x128 .bf16) (arg10 : Memref sig .tc .vmem S64x1024 .bf16) (arg11 : Memref sig .tc .vmem S64x2176 .i32) (arg12 : Memref sig .tc .vmem S64x1 .i32) (arg13 : Memref sig .tc .vmem S2x4x64x1 .f32) (arg14 : Memref sig .tc .vmem S2x4x64x1 .f32) (arg15 : Memref sig .tc .vmem S2x4x64x128 .f32) : Prop where
  r1 : Reads (defs₀ (F := F)) c R arg1
  r2 : Reads (defs₀ (F := F)) c R arg2
  r3 : Reads (defs₀ (F := F)) c R arg3
  r4 : Reads (defs₀ (F := F)) c R arg4
  r5 : Reads (defs₀ (F := F)) c R arg5
  r6 : Reads (defs₀ (F := F)) c R arg6
  r7 : Reads (defs₀ (F := F)) c R arg7
  r8 : Reads (defs₀ (F := F)) c R arg8
  r9 : Reads (defs₀ (F := F)) c R arg9
  r10 : Reads (defs₀ (F := F)) c R arg10
  r11 : Reads (defs₀ (F := F)) c R arg11
  r12 : Reads (defs₀ (F := F)) c R arg12
  r13 : Reads (defs₀ (F := F)) c R arg13
  r14 : Reads (defs₀ (F := F)) c R arg14
  r15 : Reads (defs₀ (F := F)) c R arg15
  w10 : Writes (defs₀ (F := F)) c R arg10
  w11 : Writes (defs₀ (F := F)) c R arg11
  w12 : Writes (defs₀ (F := F)) c R arg12
  w13 : Writes (defs₀ (F := F)) c R arg13
  w14 : Writes (defs₀ (F := F)) c R arg14
  w15 : Writes (defs₀ (F := F)) c R arg15

variable {c : Dev nD}

/-- Part 1 of the kernel keeps its buffers. -/
theorem part1 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole)
    (hh : Held c R arg1 arg2 arg3 arg4 arg5 arg6 arg7 arg8 arg9 arg10 arg11 arg12 arg13 arg14 arg15) :
    Keeps (defs₀ (F := F)) c R (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  unfold k0_part1
  repeat' first
    | with_reducible exact Keeps.ret _
    | with_reducible exact hh.r2 _ _
    | with_reducible exact hh.r3 _ _
    | with_reducible refine Keeps.seq ?_ fun _ => ?_
    | with_reducible refine Keeps.branch ?_ ?_
    | split

/-- Part 2 of the kernel keeps its buffers. -/
theorem part2 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v0 : Vec F S64x512 .bf16) (v1 : Vec F S64x128 .f32) (v2 : IVec S64x128 32) (v9 : FVec F S64x128 .bf16) (v10 : FVec F S64x1 .f32) (v18 : FVec F S64x128 .bf16) (v19 : FVec F S64x1 .f32) (v26 : FVec F S64x128 .bf16) (v42 : FVec F S64x128 .f32)
    (hh : Held c R arg1 arg2 arg3 arg4 arg5 arg6 arg7 arg8 arg9 arg10 arg11 arg12 arg13 arg14 arg15) :
    Keeps (defs₀ (F := F)) c R (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v1 v2 v9 v10 v18 v19 v26 v42) := by
  unfold k0_part2
  repeat' first
    | with_reducible exact Keeps.ret _
    | with_reducible exact hh.r9 _ _
    | with_reducible refine Keeps.seq ?_ fun _ => ?_
    | with_reducible refine Keeps.branch ?_ ?_
    | split

/-- Part 3 of the kernel keeps its buffers. -/
theorem part3 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v27 : FVec F S64x1 .f32) (v35 : FVec F S64x128 .bf16) (v36 : FVec F S64x1 .f32) (v43 : FVec F S64x128 .bf16) (v44 : FVec F S64x1 .f32) (v52 : FVec F S64x128 .bf16) (v53 : FVec F S64x1 .f32) (v60 : FVec F S64x128 .bf16) (v61 : FVec F S64x1 .f32) (v69 : FVec F S64x128 .bf16) (v70 : FVec F S64x1 .f32) (v72 : FVec F S512x128 .bf16) (v83 : FVec F S64x512 .f32) (v84 : FVec F S64x512 .f32) (v85 : FVec F S64x512 .f32)
    (hh : Held c R arg1 arg2 arg3 arg4 arg5 arg6 arg7 arg8 arg9 arg10 arg11 arg12 arg13 arg14 arg15) :
    Keeps (defs₀ (F := F)) c R (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 v27 v35 v36 v43 v44 v52 v53 v60 v61 v69 v70 v72 v83 v84 v85) := by
  unfold k0_part3
  repeat' first
    | with_reducible exact Keeps.ret _
    | with_reducible exact hh.r11 _ _
    | with_reducible refine Keeps.seq ?_ fun _ => ?_
    | with_reducible refine Keeps.branch ?_ ?_
    | split

/-- Part 4 of the kernel keeps its buffers. -/
theorem part4 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v9 : FVec F S64x128 .bf16) (v10 : FVec F S64x1 .f32) (v18 : FVec F S64x128 .bf16) (v19 : FVec F S64x1 .f32) (v26 : FVec F S64x128 .bf16) (v27 : FVec F S64x1 .f32) (v35 : FVec F S64x128 .bf16) (v36 : FVec F S64x1 .f32) (v43 : FVec F S64x128 .bf16) (v44 : FVec F S64x1 .f32) (v52 : FVec F S64x128 .bf16) (v53 : FVec F S64x1 .f32) (v60 : FVec F S64x128 .bf16) (v61 : FVec F S64x1 .f32) (v130 : IVec S64x512 32)
    (hh : Held c R arg1 arg2 arg3 arg4 arg5 arg6 arg7 arg8 arg9 arg10 arg11 arg12 arg13 arg14 arg15) :
    Keeps (defs₀ (F := F)) c R (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 v10 v18 v19 v26 v27 v35 v36 v43 v44 v52 v53 v60 v61 v130) := by
  unfold k0_part4
  repeat' first
    | with_reducible exact Keeps.ret _
    | with_reducible exact hh.r9 _ _
    | with_reducible exact hh.w11 _ _ _ _ _
    | with_reducible refine Keeps.seq ?_ fun _ => ?_
    | with_reducible refine Keeps.branch ?_ ?_
    | split

/-- Part 5 of the kernel keeps its buffers. -/
theorem part5 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v9 : FVec F S64x128 .bf16) (v10 : FVec F S64x1 .f32) (v18 : FVec F S64x128 .bf16) (v19 : FVec F S64x1 .f32) (v26 : FVec F S64x128 .bf16) (v27 : FVec F S64x1 .f32) (v35 : FVec F S64x128 .bf16) (v36 : FVec F S64x1 .f32) (v69 : FVec F S64x128 .bf16) (v70 : FVec F S64x1 .f32) (v132 : FVec F S512x128 .bf16) (v167 : FVec F S64x512 .f32) (v172 : FVec F S64x512 .f32)
    (hh : Held c R arg1 arg2 arg3 arg4 arg5 arg6 arg7 arg8 arg9 arg10 arg11 arg12 arg13 arg14 arg15) :
    Keeps (defs₀ (F := F)) c R (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 v10 v18 v19 v26 v27 v35 v36 v69 v70 v132 v167 v172) := by
  unfold k0_part5
  repeat' first
    | with_reducible exact Keeps.ret _
    | with_reducible exact hh.r9 _ _
    | with_reducible exact hh.r11 _ _
    | with_reducible exact hh.w11 _ _ _ _ _
    | with_reducible refine Keeps.seq ?_ fun _ => ?_
    | with_reducible refine Keeps.branch ?_ ?_
    | split

/-- Part 6 of the kernel keeps its buffers. -/
theorem part6 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v9 : FVec F S64x128 .bf16) (v43 : FVec F S64x128 .bf16) (v44 : FVec F S64x1 .f32) (v52 : FVec F S64x128 .bf16) (v53 : FVec F S64x1 .f32) (v60 : FVec F S64x128 .bf16) (v61 : FVec F S64x1 .f32) (v69 : FVec F S64x128 .bf16) (v70 : FVec F S64x1 .f32) (v192 : FVec F S512x128 .bf16) (v209 : FVec F S64x512 .f32) (v212 : FVec F S64x512 .f32) (v213 : FVec F S64x512 .f32)
    (hh : Held c R arg1 arg2 arg3 arg4 arg5 arg6 arg7 arg8 arg9 arg10 arg11 arg12 arg13 arg14 arg15) :
    Keeps (defs₀ (F := F)) c R (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 v43 v44 v52 v53 v60 v61 v69 v70 v192 v209 v212 v213) := by
  unfold k0_part6
  repeat' first
    | with_reducible exact Keeps.ret _
    | with_reducible exact hh.r9 _ _
    | with_reducible exact hh.r11 _ _
    | with_reducible exact hh.w11 _ _ _ _ _
    | with_reducible refine Keeps.seq ?_ fun _ => ?_
    | with_reducible refine Keeps.branch ?_ ?_
    | split

/-- Part 7 of the kernel keeps its buffers. -/
theorem part7 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v10 : FVec F S64x1 .f32) (v18 : FVec F S64x128 .bf16) (v19 : FVec F S64x1 .f32) (v26 : FVec F S64x128 .bf16) (v27 : FVec F S64x1 .f32) (v35 : FVec F S64x128 .bf16) (v36 : FVec F S64x1 .f32) (v43 : FVec F S64x128 .bf16) (v44 : FVec F S64x1 .f32) (v52 : FVec F S64x128 .bf16) (v53 : FVec F S64x1 .f32) (v60 : FVec F S64x128 .bf16) (v61 : FVec F S64x1 .f32) (v69 : FVec F S64x128 .bf16) (v70 : FVec F S64x1 .f32) (v252 : FVec F S512x128 .bf16) (v253 : FVec F S64x512 .f32) (v254 : FVec F S64x512 .f32)
    (hh : Held c R arg1 arg2 arg3 arg4 arg5 arg6 arg7 arg8 arg9 arg10 arg11 arg12 arg13 arg14 arg15) :
    Keeps (defs₀ (F := F)) c R (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 v10 v18 v19 v26 v27 v35 v36 v43 v44 v52 v53 v60 v61 v69 v70 v252 v253 v254) := by
  unfold k0_part7
  repeat' first
    | with_reducible exact Keeps.ret _
    | with_reducible refine Keeps.seq ?_ fun _ => ?_
    | with_reducible refine Keeps.branch ?_ ?_
    | split

/-- Part 8 of the kernel keeps its buffers. -/
theorem part8 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v9 : FVec F S64x128 .bf16) (v10 : FVec F S64x1 .f32) (v18 : FVec F S64x128 .bf16) (v19 : FVec F S64x1 .f32) (v26 : FVec F S64x128 .bf16) (v27 : FVec F S64x1 .f32) (v35 : FVec F S64x128 .bf16) (v36 : FVec F S64x1 .f32) (v43 : FVec F S64x128 .bf16) (v44 : FVec F S64x1 .f32) (v299 : FVec F S64x512 .f32) (cst_107 : F .f32)
    (hh : Held c R arg1 arg2 arg3 arg4 arg5 arg6 arg7 arg8 arg9 arg10 arg11 arg12 arg13 arg14 arg15) :
    Keeps (defs₀ (F := F)) c R (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 v10 v18 v19 v26 v27 v35 v36 v43 v44 v299 cst_107) := by
  unfold k0_part8
  repeat' first
    | with_reducible exact Keeps.ret _
    | with_reducible exact hh.r6 _ _
    | with_reducible exact hh.r11 _ _
    | with_reducible exact hh.w11 _ _ _ _ _
    | with_reducible refine Keeps.seq ?_ fun _ => ?_
    | with_reducible refine Keeps.branch ?_ ?_
    | split

/-- Part 9 of the kernel keeps its buffers. -/
theorem part9 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v52 : FVec F S64x128 .bf16) (v53 : FVec F S64x1 .f32) (v60 : FVec F S64x128 .bf16) (v61 : FVec F S64x1 .f32) (v69 : FVec F S64x128 .bf16) (v70 : FVec F S64x1 .f32) (v313 : FVec F S128x128 .bf16) (v336 : FVec F S64x128 .f32) (v341 : FVec F S64x128 .f32)
    (hh : Held c R arg1 arg2 arg3 arg4 arg5 arg6 arg7 arg8 arg9 arg10 arg11 arg12 arg13 arg14 arg15) :
    Keeps (defs₀ (F := F)) c R (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 v52 v53 v60 v61 v69 v70 v313 v336 v341) := by
  unfold k0_part9
  repeat' first
    | with_reducible exact Keeps.ret _
    | with_reducible exact hh.r11 _ _
    | with_reducible exact hh.w11 _ _ _ _ _
    | with_reducible refine Keeps.seq ?_ fun _ => ?_
    | with_reducible refine Keeps.branch ?_ ?_
    | split

/-- Part 10 of the kernel keeps its buffers. -/
theorem part10 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v379 : FVec F S64x1 .f32) (v380 : FVec F S64x128 .f32) (c0_i32 : BitVec 32) (c1_i32 : BitVec 32)
    (hh : Held c R arg1 arg2 arg3 arg4 arg5 arg6 arg7 arg8 arg9 arg10 arg11 arg12 arg13 arg14 arg15) :
    Keeps (defs₀ (F := F)) c R (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 v379 v380 c0_i32 c1_i32) := by
  unfold k0_part10
  repeat' first
    | with_reducible exact Keeps.ret _
    | with_reducible exact hh.r1 _ _
    | with_reducible exact hh.r11 _ _
    | with_reducible exact hh.r12 _ _
    | with_reducible exact hh.w12 _ _ _ _ _
    | with_reducible refine Keeps.loop _ _ _ _ _ _ fun _ _ => ?_
    | with_reducible refine Keeps.seq ?_ fun _ => ?_
    | with_reducible refine Keeps.branch ?_ ?_
    | split

/-- Part 11 of the kernel keeps its buffers. -/
theorem part11 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v390 : IVec S64x1 32) (v410 : Vec F S64x1 .i32) (v411 : Vec F S64x1024 .bf16) (v412 : FVec F S64x128 .bf16) (v413 : FVec F S64x128 .bf16) (v414 : FVec F S64x128 .bf16) (v415 : FVec F S64x128 .bf16)
    (hh : Held c R arg1 arg2 arg3 arg4 arg5 arg6 arg7 arg8 arg9 arg10 arg11 arg12 arg13 arg14 arg15) :
    Keeps (defs₀ (F := F)) c R (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 v390 v410 v411 v412 v413 v414 v415) := by
  unfold k0_part11
  repeat' first
    | with_reducible exact Keeps.ret _
    | with_reducible exact hh.r7 _ _
    | with_reducible exact hh.r11 _ _
    | with_reducible exact hh.r13 _ _
    | with_reducible exact hh.r14 _ _
    | with_reducible exact hh.r15 _ _
    | with_reducible exact hh.w13 _ _ _ _ _
    | with_reducible exact hh.w14 _ _ _ _ _
    | with_reducible exact hh.w15 _ _ _ _ _
    | with_reducible refine Keeps.seq ?_ fun _ => ?_
    | with_reducible refine Keeps.branch ?_ ?_
    | split

/-- Part 12 of the kernel keeps its buffers. -/
theorem part12 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v416 : FVec F S256x128 .bf16) (v445 : IVec S64x512 1) (v448 : FVec F S512x256 .bf16)
    (hh : Held c R arg1 arg2 arg3 arg4 arg5 arg6 arg7 arg8 arg9 arg10 arg11 arg12 arg13 arg14 arg15) :
    Keeps (defs₀ (F := F)) c R (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 v416 v445 v448) := by
  unfold k0_part12
  repeat' first
    | with_reducible exact Keeps.ret _
    | with_reducible exact hh.r8 _ _
    | with_reducible exact hh.r13 _ _
    | with_reducible exact hh.r14 _ _
    | with_reducible exact hh.w14 _ _ _ _ _
    | with_reducible refine Keeps.seq ?_ fun _ => ?_
    | with_reducible refine Keeps.branch ?_ ?_
    | split

/-- Part 13 of the kernel keeps its buffers. -/
theorem part13 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v421 : FVec F S256x128 .bf16) (v445 : IVec S64x512 1) (v448 : FVec F S512x256 .bf16) (v466 : FVec F S4x64x1 .f32) (v468 : FVec F S4x64x1 .f32) (v487 : FVec F S256x512 .bf16) (v488 : FVec F S512x128 .bf16) (cst_202 : FVec F S256x128 .f32)
    (hh : Held c R arg1 arg2 arg3 arg4 arg5 arg6 arg7 arg8 arg9 arg10 arg11 arg12 arg13 arg14 arg15) :
    Keeps (defs₀ (F := F)) c R (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 v421 v445 v448 v466 v468 v487 v488 cst_202) := by
  unfold k0_part13
  repeat' first
    | with_reducible exact Keeps.ret _
    | with_reducible exact hh.r13 _ _
    | with_reducible exact hh.r15 _ _
    | with_reducible exact hh.w13 _ _ _ _ _
    | with_reducible exact hh.w15 _ _ _ _ _
    | with_reducible refine Keeps.seq ?_ fun _ => ?_
    | with_reducible refine Keeps.branch ?_ ?_
    | split

/-- Part 14 of the kernel keeps its buffers. -/
theorem part14 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v390 : IVec S64x1 32) (v451 : FVec F S512x256 .bf16) (v516 : FVec F S4x64x1 .f32) (v518 : FVec F S4x64x1 .f32) (v522 : FVec F S4x64x512 .f32) (v524 : IVec S4x64x512 1) (v525 : FVec F S4x64x512 .f32)
    (hh : Held c R arg1 arg2 arg3 arg4 arg5 arg6 arg7 arg8 arg9 arg10 arg11 arg12 arg13 arg14 arg15) :
    Keeps (defs₀ (F := F)) c R (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 v390 v451 v516 v518 v522 v524 v525) := by
  unfold k0_part14
  repeat' first
    | with_reducible exact Keeps.ret _
    | with_reducible exact hh.r11 _ _
    | with_reducible exact hh.r13 _ _
    | with_reducible exact hh.r14 _ _
    | with_reducible exact hh.r15 _ _
    | with_reducible exact hh.w13 _ _ _ _ _
    | with_reducible exact hh.w14 _ _ _ _ _
    | with_reducible exact hh.w15 _ _ _ _ _
    | with_reducible refine Keeps.seq ?_ fun _ => ?_
    | with_reducible refine Keeps.branch ?_ ?_
    | split

/-- Part 15 of the kernel keeps its buffers. -/
theorem part15 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v390 : IVec S64x1 32) (v410 : Vec F S64x1 .i32) (v416 : FVec F S256x128 .bf16) (v554 : IVec S64x512 32) (v555 : Vec F S64x512 .i32) (v557 : IVec S64x512 1)
    (hh : Held c R arg1 arg2 arg3 arg4 arg5 arg6 arg7 arg8 arg9 arg10 arg11 arg12 arg13 arg14 arg15) :
    Keeps (defs₀ (F := F)) c R (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 v390 v410 v416 v554 v555 v557) := by
  unfold k0_part15
  repeat' first
    | with_reducible exact Keeps.ret _
    | with_reducible exact hh.r7 _ _
    | with_reducible exact hh.r8 _ _
    | with_reducible exact hh.r13 _ _
    | with_reducible exact hh.r14 _ _
    | with_reducible refine Keeps.seq ?_ fun _ => ?_
    | with_reducible refine Keeps.branch ?_ ?_
    | split

/-- Part 16 of the kernel keeps its buffers. -/
theorem part16 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v421 : FVec F S256x128 .bf16) (v563 : IVec S64x512 1) (v566 : FVec F S512x256 .bf16) (v569 : FVec F S512x256 .bf16) (v584 : FVec F S4x64x1 .f32) (v586 : FVec F S4x64x1 .f32) (v594 : FVec F S4x64x512 .f32) (v597 : FVec F S4x64x1 .f32)
    (hh : Held c R arg1 arg2 arg3 arg4 arg5 arg6 arg7 arg8 arg9 arg10 arg11 arg12 arg13 arg14 arg15) :
    Keeps (defs₀ (F := F)) c R (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 v421 v563 v566 v569 v584 v586 v594 v597) := by
  unfold k0_part16
  repeat' first
    | with_reducible exact Keeps.ret _
    | with_reducible exact hh.r13 _ _
    | with_reducible exact hh.r14 _ _
    | with_reducible exact hh.r15 _ _
    | with_reducible exact hh.w13 _ _ _ _ _
    | with_reducible exact hh.w14 _ _ _ _ _
    | with_reducible exact hh.w15 _ _ _ _ _
    | with_reducible refine Keeps.seq ?_ fun _ => ?_
    | with_reducible refine Keeps.branch ?_ ?_
    | split

/-- Part 17 of the kernel keeps its buffers. -/
theorem part17 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v563 : IVec S64x512 1) (v569 : FVec F S512x256 .bf16) (v629 : FVec F S4x64x512 .f32) (v630 : Vec F S1x4x64x1 .f32)
    (hh : Held c R arg1 arg2 arg3 arg4 arg5 arg6 arg7 arg8 arg9 arg10 arg11 arg12 arg13 arg14 arg15) :
    Keeps (defs₀ (F := F)) c R (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 v563 v569 v629 v630) := by
  unfold k0_part17
  repeat' first
    | with_reducible exact Keeps.ret _
    | with_reducible exact hh.r14 _ _
    | with_reducible exact hh.r15 _ _
    | with_reducible exact hh.w14 _ _ _ _ _
    | with_reducible exact hh.w15 _ _ _ _ _
    | with_reducible refine Keeps.seq ?_ fun _ => ?_
    | with_reducible refine Keeps.branch ?_ ?_
    | split

/-- Part 18 of the kernel keeps its buffers. -/
theorem part18 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v390 : IVec S64x1 32) (v410 : Vec F S64x1 .i32) (v416 : FVec F S256x128 .bf16) (v634 : FVec F S4x64x1 .f32)
    (hh : Held c R arg1 arg2 arg3 arg4 arg5 arg6 arg7 arg8 arg9 arg10 arg11 arg12 arg13 arg14 arg15) :
    Keeps (defs₀ (F := F)) c R (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 v390 v410 v416 v634) := by
  unfold k0_part18
  repeat' first
    | with_reducible exact Keeps.ret _
    | with_reducible exact hh.r7 _ _
    | with_reducible exact hh.r8 _ _
    | with_reducible exact hh.r11 _ _
    | with_reducible exact hh.r13 _ _
    | with_reducible exact hh.w13 _ _ _ _ _
    | with_reducible refine Keeps.seq ?_ fun _ => ?_
    | with_reducible refine Keeps.branch ?_ ?_
    | split

/-- Part 19 of the kernel keeps its buffers. -/
theorem part19 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v421 : FVec F S256x128 .bf16) (v684 : FVec F S512x256 .bf16) (v687 : FVec F S512x256 .bf16) (v697 : FVec F S4x64x512 .f32) (v702 : FVec F S4x64x1 .f32) (v704 : FVec F S4x64x1 .f32) (v705 : IVec S1x64x512 1) (v706 : FVec F S4x64x512 .f32)
    (hh : Held c R arg1 arg2 arg3 arg4 arg5 arg6 arg7 arg8 arg9 arg10 arg11 arg12 arg13 arg14 arg15) :
    Keeps (defs₀ (F := F)) c R (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 v421 v684 v687 v697 v702 v704 v705 v706) := by
  unfold k0_part19
  repeat' first
    | with_reducible exact Keeps.ret _
    | with_reducible exact hh.r13 _ _
    | with_reducible exact hh.r14 _ _
    | with_reducible exact hh.r15 _ _
    | with_reducible exact hh.w13 _ _ _ _ _
    | with_reducible exact hh.w14 _ _ _ _ _
    | with_reducible exact hh.w15 _ _ _ _ _
    | with_reducible refine Keeps.seq ?_ fun _ => ?_
    | with_reducible refine Keeps.branch ?_ ?_
    | split

/-- Part 20 of the kernel keeps its buffers. -/
theorem part20 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v681 : IVec S64x512 1) (v687 : FVec F S512x256 .bf16) (v739 : FVec F S256x512 .f32)
    (hh : Held c R arg1 arg2 arg3 arg4 arg5 arg6 arg7 arg8 arg9 arg10 arg11 arg12 arg13 arg14 arg15) :
    Keeps (defs₀ (F := F)) c R (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 v681 v687 v739) := by
  unfold k0_part20
  repeat' first
    | with_reducible exact Keeps.ret _
    | with_reducible exact hh.r13 _ _
    | with_reducible exact hh.r14 _ _
    | with_reducible exact hh.r15 _ _
    | with_reducible exact hh.w14 _ _ _ _ _
    | with_reducible refine Keeps.seq ?_ fun _ => ?_
    | with_reducible refine Keeps.branch ?_ ?_
    | split

/-- Part 21 of the kernel keeps its buffers. -/
theorem part21 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v390 : IVec S64x1 32) (v410 : Vec F S64x1 .i32) (v416 : FVec F S256x128 .bf16) (v752 : FVec F S4x64x1 .f32) (v754 : FVec F S4x64x1 .f32) (v775 : FVec F S256x128 .f32) (v776 : Vec F S1x4x64x128 .f32)
    (hh : Held c R arg1 arg2 arg3 arg4 arg5 arg6 arg7 arg8 arg9 arg10 arg11 arg12 arg13 arg14 arg15) :
    Keeps (defs₀ (F := F)) c R (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 v390 v410 v416 v752 v754 v775 v776) := by
  unfold k0_part21
  repeat' first
    | with_reducible exact Keeps.ret _
    | with_reducible exact hh.r7 _ _
    | with_reducible exact hh.r8 _ _
    | with_reducible exact hh.r11 _ _
    | with_reducible exact hh.r13 _ _
    | with_reducible exact hh.r15 _ _
    | with_reducible exact hh.w13 _ _ _ _ _
    | with_reducible exact hh.w15 _ _ _ _ _
    | with_reducible refine Keeps.seq ?_ fun _ => ?_
    | with_reducible refine Keeps.branch ?_ ?_
    | split

/-- Part 22 of the kernel keeps its buffers. -/
theorem part22 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v799 : IVec S64x512 1) (v805 : FVec F S512x256 .bf16) (v811 : FVec F S4x64x512 .f32) (v813 : IVec S4x64x512 1) (v814 : FVec F S4x64x512 .f32)
    (hh : Held c R arg1 arg2 arg3 arg4 arg5 arg6 arg7 arg8 arg9 arg10 arg11 arg12 arg13 arg14 arg15) :
    Keeps (defs₀ (F := F)) c R (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 v799 v805 v811 v813 v814) := by
  unfold k0_part22
  repeat' first
    | with_reducible exact Keeps.ret _
    | with_reducible exact hh.r13 _ _
    | with_reducible exact hh.r14 _ _
    | with_reducible exact hh.r15 _ _
    | with_reducible exact hh.w14 _ _ _ _ _
    | with_reducible refine Keeps.seq ?_ fun _ => ?_
    | with_reducible refine Keeps.branch ?_ ?_
    | split

/-- Part 23 of the kernel keeps its buffers. -/
theorem part23 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v421 : FVec F S256x128 .bf16) (v799 : IVec S64x512 1) (v802 : FVec F S512x256 .bf16) (v820 : FVec F S4x64x1 .f32) (v849 : FVec F S4x64x128 .f32)
    (hh : Held c R arg1 arg2 arg3 arg4 arg5 arg6 arg7 arg8 arg9 arg10 arg11 arg12 arg13 arg14 arg15) :
    Keeps (defs₀ (F := F)) c R (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 v421 v799 v802 v820 v849) := by
  unfold k0_part23
  repeat' first
    | with_reducible exact Keeps.ret _
    | with_reducible exact hh.r13 _ _
    | with_reducible exact hh.r14 _ _
    | with_reducible exact hh.r15 _ _
    | with_reducible exact hh.w13 _ _ _ _ _
    | with_reducible exact hh.w15 _ _ _ _ _
    | with_reducible refine Keeps.seq ?_ fun _ => ?_
    | with_reducible refine Keeps.branch ?_ ?_
    | split

/-- Part 24 of the kernel keeps its buffers. -/
theorem part24 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v363 : IVec S64x128 32) (v390 : IVec S64x1 32) (v410 : Vec F S64x1 .i32) (v805 : FVec F S512x256 .bf16) (v870 : FVec F S4x64x1 .f32) (v872 : FVec F S4x64x1 .f32) (v880 : FVec F S4x64x512 .f32) (v886 : FVec F S4x64x1 .f32)
    (hh : Held c R arg1 arg2 arg3 arg4 arg5 arg6 arg7 arg8 arg9 arg10 arg11 arg12 arg13 arg14 arg15) :
    Keeps (defs₀ (F := F)) c R (k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 v363 v390 v410 v805 v870 v872 v880 v886) := by
  unfold k0_part24
  repeat' first
    | with_reducible exact Keeps.ret _
    | with_reducible exact hh.r4 _ _
    | with_reducible exact hh.r5 _ _
    | with_reducible exact hh.r11 _ _
    | with_reducible exact hh.r13 _ _
    | with_reducible exact hh.r14 _ _
    | with_reducible exact hh.r15 _ _
    | with_reducible exact hh.w13 _ _ _ _ _
    | with_reducible exact hh.w14 _ _ _ _ _
    | with_reducible exact hh.w15 _ _ _ _ _
    | with_reducible refine Keeps.seq ?_ fun _ => ?_
    | with_reducible refine Keeps.branch ?_ ?_
    | split

/-- Part 25 of the kernel keeps its buffers. -/
theorem part25 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v416 : FVec F S256x128 .bf16) (v914 : IVec S64x128 1) (v920 : FVec F S128x256 .bf16) (v921 : FVec F S128x128 .bf16)
    (hh : Held c R arg1 arg2 arg3 arg4 arg5 arg6 arg7 arg8 arg9 arg10 arg11 arg12 arg13 arg14 arg15) :
    Keeps (defs₀ (F := F)) c R (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 v416 v914 v920 v921) := by
  unfold k0_part25
  repeat' first
    | with_reducible exact Keeps.ret _
    | with_reducible exact hh.r13 _ _
    | with_reducible exact hh.r14 _ _
    | with_reducible exact hh.w14 _ _ _ _ _
    | with_reducible refine Keeps.seq ?_ fun _ => ?_
    | with_reducible refine Keeps.branch ?_ ?_
    | split

/-- Part 26 of the kernel keeps its buffers. -/
theorem part26 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v421 : FVec F S256x128 .bf16) (v914 : IVec S64x128 1) (v917 : FVec F S128x256 .bf16) (v935 : FVec F S4x64x1 .f32) (v937 : FVec F S4x64x1 .f32) (v958 : FVec F S256x128 .f32)
    (hh : Held c R arg1 arg2 arg3 arg4 arg5 arg6 arg7 arg8 arg9 arg10 arg11 arg12 arg13 arg14 arg15) :
    Keeps (defs₀ (F := F)) c R (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 v421 v914 v917 v935 v937 v958) := by
  unfold k0_part26
  repeat' first
    | with_reducible exact Keeps.ret _
    | with_reducible exact hh.r13 _ _
    | with_reducible exact hh.r15 _ _
    | with_reducible exact hh.w13 _ _ _ _ _
    | with_reducible exact hh.w15 _ _ _ _ _
    | with_reducible refine Keeps.seq ?_ fun _ => ?_
    | with_reducible refine Keeps.branch ?_ ?_
    | split

/-- Part 27 of the kernel keeps its buffers. -/
theorem part27 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v920 : FVec F S128x256 .bf16) (v985 : FVec F S4x64x1 .f32) (v987 : FVec F S4x64x1 .f32) (v995 : FVec F S4x64x128 .f32)
    (hh : Held c R arg1 arg2 arg3 arg4 arg5 arg6 arg7 arg8 arg9 arg10 arg11 arg12 arg13 arg14 arg15) :
    Keeps (defs₀ (F := F)) c R (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 v920 v985 v987 v995) := by
  unfold k0_part27
  repeat' first
    | with_reducible exact Keeps.ret _
    | with_reducible exact hh.r13 _ _
    | with_reducible exact hh.r14 _ _
    | with_reducible exact hh.r15 _ _
    | with_reducible exact hh.w13 _ _ _ _ _
    | with_reducible exact hh.w14 _ _ _ _ _
    | with_reducible exact hh.w15 _ _ _ _ _
    | with_reducible refine Keeps.seq ?_ fun _ => ?_
    | with_reducible refine Keeps.branch ?_ ?_
    | split

/-- Part 28 of the kernel keeps its buffers. -/
theorem part28 {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole) (v1022 : FVec F S4x64x128 .f32) (v1025 : FVec F S4x64x128 .f32)
    (hh : Held c R arg1 arg2 arg3 arg4 arg5 arg6 arg7 arg8 arg9 arg10 arg11 arg12 arg13 arg14 arg15) :
    Keeps (defs₀ (F := F)) c R (k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 v1022 v1025) := by
  unfold k0_part28
  repeat' first
    | with_reducible exact Keeps.ret _
    | with_reducible exact hh.r10 _ _
    | with_reducible exact hh.r14 _ _
    | with_reducible exact hh.r15 _ _
    | with_reducible exact hh.w10 _ _ _ _ _
    | with_reducible refine Keeps.seq ?_ fun _ => ?_
    | with_reducible refine Keeps.branch ?_ ?_
    | split

/-- The whole kernel keeps its buffers. -/
theorem body {R : sProp 𝕄} (i : grid0.Coords) (arg1 : Memref sig .tc .vmem S64x1024 .bf16) (harg1 : arg1.IsWhole) (arg2 : Memref sig .tc .vmem S64x512 .bf16) (harg2 : arg2.IsWhole) (arg3 : Memref sig .tc .vmem S64x128 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S64x128 .bf16) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x128 .bf16) (harg9 : arg9.IsWhole) (arg10 : Memref sig .tc .vmem S64x1024 .bf16) (harg10 : arg10.IsWhole) (arg11 : Memref sig .tc .vmem S64x2176 .i32) (harg11 : arg11.IsWhole) (arg12 : Memref sig .tc .vmem S64x1 .i32) (harg12 : arg12.IsWhole) (arg13 : Memref sig .tc .vmem S2x4x64x1 .f32) (harg13 : arg13.IsWhole) (arg14 : Memref sig .tc .vmem S2x4x64x1 .f32) (harg14 : arg14.IsWhole) (arg15 : Memref sig .tc .vmem S2x4x64x128 .f32) (harg15 : arg15.IsWhole)
    (hh : Held c R arg1 arg2 arg3 arg4 arg5 arg6 arg7 arg8 arg9 arg10 arg11 arg12 arg13 arg14 arg15) :
    Keeps (defs₀ (F := F)) c R (cc0__dsa_sample_body i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  unfold cc0__dsa_sample_body
  repeat' first
    | with_reducible exact Keeps.ret _
    | with_reducible exact part1 _ _ _ _ _ _ _ _ _ _ _ _ _ _ _ _ _ _ _ _ _ _ _ _ _ _ _ _ _ _ _ hh
    | with_reducible exact part2 _ _ _ _ _ _ _ _ _ _ _ _ _ _ _ _ _ _ _ _ _ _ _ _ _ _ _ _ _ _ _ _ _ _ _ _ _ _ _ _ hh
    | with_reducible exact part3 _ _ _ _ _ _ _ _ _ _ _ _ _ _ _ _ _ _ _ _ _ _ _ _ _ _ _ _ _ _ _ _ _ _ _ _ _ _ _ _ _ _ _ _ _ _ hh
    | with_reducible exact part4 _ _ _ _ _ _ _ _ _ _ _ _ _ _ _ _ _ _ _ _ _ _ _ _ _ _ _ _ _ _ _ _ _ _ _ _ _ _ _ _ _ _ _ _ _ _ hh
    | with_reducible exact part5 _ _ _ _ _ _ _ _ _ _ _ _ _ _ _ _ _ _ _ _ _ _ _ _ _ _ _ _ _ _ _ _ _ _ _ _ _ _ _ _ _ _ _ _ hh
    | with_reducible exact part6 _ _ _ _ _ _ _ _ _ _ _ _ _ _ _ _ _ _ _ _ _ _ _ _ _ _ _ _ _ _ _ _ _ _ _ _ _ _ _ _ _ _ _ _ hh
    | with_reducible exact part7 _ _ _ _ _ _ _ _ _ _ _ _ _ _ _ _ _ _ _ _ _ _ _ _ _ _ _ _ _ _ _ _ _ _ _ _ _ _ _ _ _ _ _ _ _ _ _ _ _ hh
    | with_reducible exact part8 _ _ _ _ _ _ _ _ _ _ _ _ _ _ _ _ _ _ _ _ _ _ _ _ _ _ _ _ _ _ _ _ _ _ _ _ _ _ _ _ _ _ _ hh
    | with_reducible exact part9 _ _ _ _ _ _ _ _ _ _ _ _ _ _ _ _ _ _ _ _ _ _ _ _ _ _ _ _ _ _ _ _ _ _ _ _ _ _ _ _ hh
    | with_reducible exact part10 _ _ _ _ _ _ _ _ _ _ _ _ _ _ _ _ _ _ _ _ _ _ _ _ _ _ _ _ _ _ _ _ _ _ _ hh
    | with_reducible exact part11 _ _ _ _ _ _ _ _ _ _ _ _ _ _ _ _ _ _ _ _ _ _ _ _ _ _ _ _ _ _ _ _ _ _ _ _ _ _ hh
    | with_reducible exact part12 _ _ _ _ _ _ _ _ _ _ _ _ _ _ _ _ _ _ _ _ _ _ _ _ _ _ _ _ _ _ _ _ _ _ hh
    | with_reducible exact part13 _ _ _ _ _ _ _ _ _ _ _ _ _ _ _ _ _ _ _ _ _ _ _ _ _ _ _ _ _ _ _ _ _ _ _ _ _ _ _ hh
    | with_reducible exact part14 _ _ _ _ _ _ _ _ _ _ _ _ _ _ _ _ _ _ _ _ _ _ _ _ _ _ _ _ _ _ _ _ _ _ _ _ _ _ hh
    | with_reducible exact part15 _ _ _ _ _ _ _ _ _ _ _ _ _ _ _ _ _ _ _ _ _ _ _ _ _ _ _ _ _ _ _ _ _ _ _ _ _ hh
    | with_reducible exact part16 _ _ _ _ _ _ _ _ _ _ _ _ _ _ _ _ _ _ _ _ _ _ _ _ _ _ _ _ _ _ _ _ _ _ _ _ _ _ _ hh
    | with_reducible exact part17 _ _ _ _ _ _ _ _ _ _ _ _ _ _ _ _ _ _ _ _ _ _ _ _ _ _ _ _ _ _ _ _ _ _ _ hh
    | with_reducible exact part18 _ _ _ _ _ _ _ _ _ _ _ _ _ _ _ _ _ _ _ _ _ _ _ _ _ _ _ _ _ _ _ _ _ _ _ hh
    | with_reducible exact part19 _ _ _ _ _ _ _ _ _ _ _ _ _ _ _ _ _ _ _ _ _ _ _ _ _ _ _ _ _ _ _ _ _ _ _ _ _ _ _ hh
    | with_reducible exact part20 _ _ _ _ _ _ _ _ _ _ _ _ _ _ _ _ _ _ _ _ _ _ _ _ _ _ _ _ _ _ _ _ _ _ hh
    | with_reducible exact part21 _ _ _ _ _ _ _ _ _ _ _ _ _ _ _ _ _ _ _ _ _ _ _ _ _ _ _ _ _ _ _ _ _ _ _ _ _ _ hh
    | with_reducible exact part22 _ _ _ _ _ _ _ _ _ _ _ _ _ _ _ _ _ _ _ _ _ _ _ _ _ _ _ _ _ _ _ _ _ _ _ _ hh
    | with_reducible exact part23 _ _ _ _ _ _ _ _ _ _ _ _ _ _ _ _ _ _ _ _ _ _ _ _ _ _ _ _ _ _ _ _ _ _ _ _ hh
    | with_reducible exact part24 _ _ _ _ _ _ _ _ _ _ _ _ _ _ _ _ _ _ _ _ _ _ _ _ _ _ _ _ _ _ _ _ _ _ _ _ _ _ _ hh
    | with_reducible exact part25 _ _ _ _ _ _ _ _ _ _ _ _ _ _ _ _ _ _ _ _ _ _ _ _ _ _ _ _ _ _ _ _ _ _ _ hh
    | with_reducible exact part26 _ _ _ _ _ _ _ _ _ _ _ _ _ _ _ _ _ _ _ _ _ _ _ _ _ _ _ _ _ _ _ _ _ _ _ _ _ hh
    | with_reducible exact part27 _ _ _ _ _ _ _ _ _ _ _ _ _ _ _ _ _ _ _ _ _ _ _ _ _ _ _ _ _ _ _ _ _ _ _ hh
    | with_reducible exact part28 _ _ _ _ _ _ _ _ _ _ _ _ _ _ _ _ _ _ _ _ _ _ _ _ _ _ _ _ _ _ _ _ _ hh
    | with_reducible exact hh.r10 _ _
    | with_reducible exact hh.w10 _ _ _ _ _
    | with_reducible refine Keeps.seq ?_ fun _ => ?_
    | with_reducible refine Keeps.branch ?_ ?_
    | split

end SampleKeeps

end
-- ==== Proof.SampleFrame.lean ====
/-
  The frame of the program `Sample`: it runs to the end, leaves its arguments as they were and every semaphore at zero.
  Its one output is not named: the kernel's body is only shown to keep the buffers it is called with (`SampleKeeps`).
-/
module

public import proofs.«01_k».proof.Proof.Gen.Sample.Frame
public import proofs.«01_k».proof.Proof.SampleKeeps

@[expose] public section

set_option maxRecDepth 16384

noncomputable section

namespace SampleFrame

open Cert.Sample Cert.Sample.Gen Keeping
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- What the body holds at point `t`: each input's block as the region found it, the output's buffer and the scratch
    buffers at some contents. -/
def held (c : Dev nD) (t : Fin cfg0.N) : sProp 𝕄 :=
  iprop(owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ (∃ d, owns (c : Thread nD τ) (st0_9 t) fullShare d)
    ∗ (∃ d, owns (c : Thread nD τ) (Memref.whole cc0_scratch0) fullShare d)
    ∗ (∃ d, owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d)
    ∗ (∃ d, owns (c : Thread nD τ) (Memref.whole cc0_scratch4) fullShare d))

/-- The buffer of window 0 can be taken out of what the body holds, and put back. -/
theorem take0 (c : Dev nD) (t : Fin cfg0.N) :
    held m c t ⊢ iprop(owns (c : Thread nD τ) (st0_0 t) fullShare (iblk m c 0 t) ∗ (owns (c : Thread nD τ) (st0_0 t) fullShare (iblk m c 0 t) -∗ held m c t)) := by
  unfold held
  iintro ⟨H0, H1, H2, H3, H4, H5, H6, H7, H8, H9, HS0, HS1, HS2, HS3, HS4⟩
  isplitl [H0]
  · iexact H0
  iintro H0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of window 1 can be taken out of what the body holds, and put back. -/
theorem take1 (c : Dev nD) (t : Fin cfg0.N) :
    held m c t ⊢ iprop(owns (c : Thread nD τ) (st0_1 t) fullShare (iblk m c 1 t) ∗ (owns (c : Thread nD τ) (st0_1 t) fullShare (iblk m c 1 t) -∗ held m c t)) := by
  unfold held
  iintro ⟨H0, H1, H2, H3, H4, H5, H6, H7, H8, H9, HS0, HS1, HS2, HS3, HS4⟩
  isplitl [H1]
  · iexact H1
  iintro H1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of window 2 can be taken out of what the body holds, and put back. -/
theorem take2 (c : Dev nD) (t : Fin cfg0.N) :
    held m c t ⊢ iprop(owns (c : Thread nD τ) (st0_2 t) fullShare (iblk m c 2 t) ∗ (owns (c : Thread nD τ) (st0_2 t) fullShare (iblk m c 2 t) -∗ held m c t)) := by
  unfold held
  iintro ⟨H0, H1, H2, H3, H4, H5, H6, H7, H8, H9, HS0, HS1, HS2, HS3, HS4⟩
  isplitl [H2]
  · iexact H2
  iintro H2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of window 3 can be taken out of what the body holds, and put back. -/
theorem take3 (c : Dev nD) (t : Fin cfg0.N) :
    held m c t ⊢ iprop(owns (c : Thread nD τ) (st0_3 t) fullShare (iblk m c 3 t) ∗ (owns (c : Thread nD τ) (st0_3 t) fullShare (iblk m c 3 t) -∗ held m c t)) := by
  unfold held
  iintro ⟨H0, H1, H2, H3, H4, H5, H6, H7, H8, H9, HS0, HS1, HS2, HS3, HS4⟩
  isplitl [H3]
  · iexact H3
  iintro H3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of window 4 can be taken out of what the body holds, and put back. -/
theorem take4 (c : Dev nD) (t : Fin cfg0.N) :
    held m c t ⊢ iprop(owns (c : Thread nD τ) (st0_4 t) fullShare (iblk m c 4 t) ∗ (owns (c : Thread nD τ) (st0_4 t) fullShare (iblk m c 4 t) -∗ held m c t)) := by
  unfold held
  iintro ⟨H0, H1, H2, H3, H4, H5, H6, H7, H8, H9, HS0, HS1, HS2, HS3, HS4⟩
  isplitl [H4]
  · iexact H4
  iintro H4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of window 5 can be taken out of what the body holds, and put back. -/
theorem take5 (c : Dev nD) (t : Fin cfg0.N) :
    held m c t ⊢ iprop(owns (c : Thread nD τ) (st0_5 t) fullShare (iblk m c 5 t) ∗ (owns (c : Thread nD τ) (st0_5 t) fullShare (iblk m c 5 t) -∗ held m c t)) := by
  unfold held
  iintro ⟨H0, H1, H2, H3, H4, H5, H6, H7, H8, H9, HS0, HS1, HS2, HS3, HS4⟩
  isplitl [H5]
  · iexact H5
  iintro H5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of window 6 can be taken out of what the body holds, and put back. -/
theorem take6 (c : Dev nD) (t : Fin cfg0.N) :
    held m c t ⊢ iprop(owns (c : Thread nD τ) (st0_6 t) fullShare (iblk m c 6 t) ∗ (owns (c : Thread nD τ) (st0_6 t) fullShare (iblk m c 6 t) -∗ held m c t)) := by
  unfold held
  iintro ⟨H0, H1, H2, H3, H4, H5, H6, H7, H8, H9, HS0, HS1, HS2, HS3, HS4⟩
  isplitl [H6]
  · iexact H6
  iintro H6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of window 7 can be taken out of what the body holds, and put back. -/
theorem take7 (c : Dev nD) (t : Fin cfg0.N) :
    held m c t ⊢ iprop(owns (c : Thread nD τ) (st0_7 t) fullShare (iblk m c 7 t) ∗ (owns (c : Thread nD τ) (st0_7 t) fullShare (iblk m c 7 t) -∗ held m c t)) := by
  unfold held
  iintro ⟨H0, H1, H2, H3, H4, H5, H6, H7, H8, H9, HS0, HS1, HS2, HS3, HS4⟩
  isplitl [H7]
  · iexact H7
  iintro H7
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of window 8 can be taken out of what the body holds, and put back. -/
theorem take8 (c : Dev nD) (t : Fin cfg0.N) :
    held m c t ⊢ iprop(owns (c : Thread nD τ) (st0_8 t) fullShare (iblk m c 8 t) ∗ (owns (c : Thread nD τ) (st0_8 t) fullShare (iblk m c 8 t) -∗ held m c t)) := by
  unfold held
  iintro ⟨H0, H1, H2, H3, H4, H5, H6, H7, H8, H9, HS0, HS1, HS2, HS3, HS4⟩
  isplitl [H8]
  · iexact H8
  iintro H8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of window 9 can be taken out of what the body holds, and put back. -/
theorem take9 (c : Dev nD) (t : Fin cfg0.N) :
    held m c t ⊢ iprop((∃ d, owns (c : Thread nD τ) (st0_9 t) fullShare d) ∗ ((∃ d, owns (c : Thread nD τ) (st0_9 t) fullShare d) -∗ held m c t)) := by
  unfold held
  iintro ⟨H0, H1, H2, H3, H4, H5, H6, H7, H8, H9, HS0, HS1, HS2, HS3, HS4⟩
  isplitl [H9]
  · iexact H9
  iintro H9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of scratch 0 can be taken out of what the body holds, and put back. -/
theorem take10 (c : Dev nD) (t : Fin cfg0.N) :
    held m c t ⊢ iprop((∃ d, owns (c : Thread nD τ) (Memref.whole cc0_scratch0) fullShare d) ∗ ((∃ d, owns (c : Thread nD τ) (Memref.whole cc0_scratch0) fullShare d) -∗ held m c t)) := by
  unfold held
  iintro ⟨H0, H1, H2, H3, H4, H5, H6, H7, H8, H9, HS0, HS1, HS2, HS3, HS4⟩
  isplitl [HS0]
  · iexact HS0
  iintro HS0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of scratch 1 can be taken out of what the body holds, and put back. -/
theorem take11 (c : Dev nD) (t : Fin cfg0.N) :
    held m c t ⊢ iprop((∃ d, owns (c : Thread nD τ) (Memref.whole cc0_scratch1) fullShare d) ∗ ((∃ d, owns (c : Thread nD τ) (Memref.whole cc0_scratch1) fullShare d) -∗ held m c t)) := by
  unfold held
  iintro ⟨H0, H1, H2, H3, H4, H5, H6, H7, H8, H9, HS0, HS1, HS2, HS3, HS4⟩
  isplitl [HS1]
  · iexact HS1
  iintro HS1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of scratch 2 can be taken out of what the body holds, and put back. -/
theorem take12 (c : Dev nD) (t : Fin cfg0.N) :
    held m c t ⊢ iprop((∃ d, owns (c : Thread nD τ) (Memref.whole cc0_scratch2) fullShare d) ∗ ((∃ d, owns (c : Thread nD τ) (Memref.whole cc0_scratch2) fullShare d) -∗ held m c t)) := by
  unfold held
  iintro ⟨H0, H1, H2, H3, H4, H5, H6, H7, H8, H9, HS0, HS1, HS2, HS3, HS4⟩
  isplitl [HS2]
  · iexact HS2
  iintro HS2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of scratch 3 can be taken out of what the body holds, and put back. -/
theorem take13 (c : Dev nD) (t : Fin cfg0.N) :
    held m c t ⊢ iprop((∃ d, owns (c : Thread nD τ) (Memref.whole cc0_scratch3) fullShare d) ∗ ((∃ d, owns (c : Thread nD τ) (Memref.whole cc0_scratch3) fullShare d) -∗ held m c t)) := by
  unfold held
  iintro ⟨H0, H1, H2, H3, H4, H5, H6, H7, H8, H9, HS0, HS1, HS2, HS3, HS4⟩
  isplitl [HS3]
  · iexact HS3
  iintro HS3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- The buffer of scratch 4 can be taken out of what the body holds, and put back. -/
theorem take14 (c : Dev nD) (t : Fin cfg0.N) :
    held m c t ⊢ iprop((∃ d, owns (c : Thread nD τ) (Memref.whole cc0_scratch4) fullShare d) ∗ ((∃ d, owns (c : Thread nD τ) (Memref.whole cc0_scratch4) fullShare d) -∗ held m c t)) := by
  unfold held
  iintro ⟨H0, H1, H2, H3, H4, H5, H6, H7, H8, H9, HS0, HS1, HS2, HS3, HS4⟩
  isplitl [HS4]
  · iexact HS4
  iintro HS4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact HS4

/-- What the body holds is what its parts need. -/
theorem holds (c : Dev nD) (t : Fin cfg0.N) :
    SampleKeeps.Held (F := F) c (held m c t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (Memref.whole cc0_scratch0) (Memref.whole cc0_scratch1) (Memref.whole cc0_scratch2) (Memref.whole cc0_scratch3) (Memref.whole cc0_scratch4) where
  r1 := reads_of_owns (take0 m c t)
  r2 := reads_of_owns (take1 m c t)
  r3 := reads_of_owns (take2 m c t)
  r4 := reads_of_owns (take3 m c t)
  r5 := reads_of_owns (take4 m c t)
  r6 := reads_of_owns (take5 m c t)
  r7 := reads_of_owns (take6 m c t)
  r8 := reads_of_owns (take7 m c t)
  r9 := reads_of_owns (take8 m c t)
  r10 := reads_of_some (take9 m c t)
  r11 := reads_of_some (take10 m c t)
  r12 := reads_of_some (take11 m c t)
  r13 := reads_of_some (take12 m c t)
  r14 := reads_of_some (take13 m c t)
  r15 := reads_of_some (take14 m c t)
  w10 := writes_of_some (take9 m c t)
  w11 := writes_of_some (take10 m c t)
  w12 := writes_of_some (take11 m c t)
  w13 := writes_of_some (take12 m c t)
  w14 := writes_of_some (take13 m c t)
  w15 := writes_of_some (take14 m c t)

/-- The windows whose contents are not followed: the output. -/
def loosened (w : Fin cfg0.W) : Bool := decide (w.val = 9)

/-- The proof data: the arrays as the region finds them; after each point every input's buffer at its block, the
    output's not named; the scratch buffers at some contents throughout; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Dat.unnamed (Val := Elt F) (cfg := cfg0) ⟨9, h⟩ t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- After the body the buffer of input 0 holds its block. -/
theorem after0 (c : Dev nD) (t : Fin cfg0.N) : (dats m 0 c).after 0 t = iblk m c 0 t := by dsimp only [dats]

/-- Before the body the buffer of input 0 holds its block. -/
theorem before0 (c : Dev nD) (t : Fin cfg0.N) (d) : (dats m 0 c).before 0 t d = iblk m c 0 t :=
  before0_0_of m (dats m 0 c) (A_eq m c 0) (after0 m c) t d

/-- What the body gives back of input 0: its buffer at its block. -/
theorem leaves0 (c : Dev nD) (t : Fin cfg0.N) :
    (dats m 0 c).leavesExact 0 t = owns (c : Thread nD τ) (st0_0 t) fullShare (iblk m c 0 t) := by
  unfold Dat.leavesExact
  rw [show cfg0.idle 0 (cfg0.grid.coords t) = false from rfl, after0]

/-- After the body the buffer of input 1 holds its block. -/
theorem after1 (c : Dev nD) (t : Fin cfg0.N) : (dats m 0 c).after 1 t = iblk m c 1 t := by dsimp only [dats]

/-- Before the body the buffer of input 1 holds its block. -/
theorem before1 (c : Dev nD) (t : Fin cfg0.N) (d) : (dats m 0 c).before 1 t d = iblk m c 1 t :=
  before0_1_of m (dats m 0 c) (A_eq m c 1) (after1 m c) t d

/-- What the body gives back of input 1: its buffer at its block. -/
theorem leaves1 (c : Dev nD) (t : Fin cfg0.N) :
    (dats m 0 c).leavesExact 1 t = owns (c : Thread nD τ) (st0_1 t) fullShare (iblk m c 1 t) := by
  unfold Dat.leavesExact
  rw [show cfg0.idle 1 (cfg0.grid.coords t) = false from rfl, after1]

/-- After the body the buffer of input 2 holds its block. -/
theorem after2 (c : Dev nD) (t : Fin cfg0.N) : (dats m 0 c).after 2 t = iblk m c 2 t := by dsimp only [dats]

/-- Before the body the buffer of input 2 holds its block. -/
theorem before2 (c : Dev nD) (t : Fin cfg0.N) (d) : (dats m 0 c).before 2 t d = iblk m c 2 t :=
  before0_2_of m (dats m 0 c) (A_eq m c 2) (after2 m c) t d

/-- What the body gives back of input 2: its buffer at its block. -/
theorem leaves2 (c : Dev nD) (t : Fin cfg0.N) :
    (dats m 0 c).leavesExact 2 t = owns (c : Thread nD τ) (st0_2 t) fullShare (iblk m c 2 t) := by
  unfold Dat.leavesExact
  rw [show cfg0.idle 2 (cfg0.grid.coords t) = false from rfl, after2]

/-- After the body the buffer of input 3 holds its block. -/
theorem after3 (c : Dev nD) (t : Fin cfg0.N) : (dats m 0 c).after 3 t = iblk m c 3 t := by dsimp only [dats]

/-- Before the body the buffer of input 3 holds its block. -/
theorem before3 (c : Dev nD) (t : Fin cfg0.N) (d) : (dats m 0 c).before 3 t d = iblk m c 3 t :=
  before0_3_of m (dats m 0 c) (A_eq m c 3) (after3 m c) t d

/-- What the body gives back of input 3: its buffer at its block. -/
theorem leaves3 (c : Dev nD) (t : Fin cfg0.N) :
    (dats m 0 c).leavesExact 3 t = owns (c : Thread nD τ) (st0_3 t) fullShare (iblk m c 3 t) := by
  unfold Dat.leavesExact
  rw [show cfg0.idle 3 (cfg0.grid.coords t) = false from rfl, after3]

/-- After the body the buffer of input 4 holds its block. -/
theorem after4 (c : Dev nD) (t : Fin cfg0.N) : (dats m 0 c).after 4 t = iblk m c 4 t := by dsimp only [dats]

/-- Before the body the buffer of input 4 holds its block. -/
theorem before4 (c : Dev nD) (t : Fin cfg0.N) (d) : (dats m 0 c).before 4 t d = iblk m c 4 t :=
  before0_4_of m (dats m 0 c) (A_eq m c 4) (after4 m c) t d

/-- What the body gives back of input 4: its buffer at its block. -/
theorem leaves4 (c : Dev nD) (t : Fin cfg0.N) :
    (dats m 0 c).leavesExact 4 t = owns (c : Thread nD τ) (st0_4 t) fullShare (iblk m c 4 t) := by
  unfold Dat.leavesExact
  rw [show cfg0.idle 4 (cfg0.grid.coords t) = false from rfl, after4]

/-- After the body the buffer of input 5 holds its block. -/
theorem after5 (c : Dev nD) (t : Fin cfg0.N) : (dats m 0 c).after 5 t = iblk m c 5 t := by dsimp only [dats]

/-- Before the body the buffer of input 5 holds its block. -/
theorem before5 (c : Dev nD) (t : Fin cfg0.N) (d) : (dats m 0 c).before 5 t d = iblk m c 5 t :=
  before0_5_of m (dats m 0 c) (A_eq m c 5) (after5 m c) t d

/-- What the body gives back of input 5: its buffer at its block. -/
theorem leaves5 (c : Dev nD) (t : Fin cfg0.N) :
    (dats m 0 c).leavesExact 5 t = owns (c : Thread nD τ) (st0_5 t) fullShare (iblk m c 5 t) := by
  unfold Dat.leavesExact
  rw [show cfg0.idle 5 (cfg0.grid.coords t) = false from rfl, after5]

/-- After the body the buffer of input 6 holds its block. -/
theorem after6 (c : Dev nD) (t : Fin cfg0.N) : (dats m 0 c).after 6 t = iblk m c 6 t := by dsimp only [dats]

/-- Before the body the buffer of input 6 holds its block. -/
theorem before6 (c : Dev nD) (t : Fin cfg0.N) (d) : (dats m 0 c).before 6 t d = iblk m c 6 t :=
  before0_6_of m (dats m 0 c) (A_eq m c 6) (after6 m c) t d

/-- What the body gives back of input 6: its buffer at its block. -/
theorem leaves6 (c : Dev nD) (t : Fin cfg0.N) :
    (dats m 0 c).leavesExact 6 t = owns (c : Thread nD τ) (st0_6 t) fullShare (iblk m c 6 t) := by
  unfold Dat.leavesExact
  rw [show cfg0.idle 6 (cfg0.grid.coords t) = false from rfl, after6]

/-- After the body the buffer of input 7 holds its block. -/
theorem after7 (c : Dev nD) (t : Fin cfg0.N) : (dats m 0 c).after 7 t = iblk m c 7 t := by dsimp only [dats]

/-- Before the body the buffer of input 7 holds its block. -/
theorem before7 (c : Dev nD) (t : Fin cfg0.N) (d) : (dats m 0 c).before 7 t d = iblk m c 7 t :=
  before0_7_of m (dats m 0 c) (A_eq m c 7) (after7 m c) t d

/-- What the body gives back of input 7: its buffer at its block. -/
theorem leaves7 (c : Dev nD) (t : Fin cfg0.N) :
    (dats m 0 c).leavesExact 7 t = owns (c : Thread nD τ) (st0_7 t) fullShare (iblk m c 7 t) := by
  unfold Dat.leavesExact
  rw [show cfg0.idle 7 (cfg0.grid.coords t) = false from rfl, after7]

/-- After the body the buffer of input 8 holds its block. -/
theorem after8 (c : Dev nD) (t : Fin cfg0.N) : (dats m 0 c).after 8 t = iblk m c 8 t := by dsimp only [dats]

/-- Before the body the buffer of input 8 holds its block. -/
theorem before8 (c : Dev nD) (t : Fin cfg0.N) (d) : (dats m 0 c).before 8 t d = iblk m c 8 t :=
  before0_8_of m (dats m 0 c) (A_eq m c 8) (after8 m c) t d

/-- What the body gives back of input 8: its buffer at its block. -/
theorem leaves8 (c : Dev nD) (t : Fin cfg0.N) :
    (dats m 0 c).leavesExact 8 t = owns (c : Thread nD τ) (st0_8 t) fullShare (iblk m c 8 t) := by
  unfold Dat.leavesExact
  rw [show cfg0.idle 8 (cfg0.grid.coords t) = false from rfl, after8]

/-- The region's own invariant: the scratch buffers at some contents, and the generator's register. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA
  rw [scopedRest0_eq]
  simp only [owns_whole]
  try rfl

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d))

/-- What the body gives back at point `t`. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (st0_9 t) fullShare d))

/-- The body, at any point: from what it is called with to what it gives back. -/
theorem sound (c : Dev nD) (t : Fin cfg0.N) :
    pre m c t ⊢ wp frame (wpE (defs₀ (F := F)) Variants.none c none) Set.univ (bodyAt0 t) (fun _ => post m c t) := by
  have hk := SampleKeeps.body (F := F) (c := c) (R := held m c t) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (holds m c t)
  unfold Keeps at hk
  unfold pre post
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, inv_eq]
  simp only [before0, before1, before2, before3, before4, before5, before6, before7, before8, leaves0, leaves1, leaves2, leaves3, leaves4, leaves5, leaves6, leaves7, leaves8]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (wp_wand_r frame (wpE (defs₀ (F := F)) Variants.none c none) Set.univ)
  isplitl [H0 H1 H2 H3 H4 H5 H6 H7 H8 H9 HS0 HS1 HS2 HS3 HS4]
  · iapply hk
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    iexact HS4
  iintro %a HR
  unfold held
  icases HR with ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t` is the body. -/
theorem row (t : Fin cfg0.N) :
    defs₀ (F := F) .tc cfg0.body (cfg0.bodyArgs t (cfg0.slots t)) = bodyAt0 t := by
  unfold defs₀; rw [Defs.onTc_tc]

/-- The pipeline's obligation of the body, with the output's contents not followed. -/
theorem obligation (c : Dev nD) :
    BodyObligation (dats (F := F) m 0 c) (defs₀ (F := F)) Variants.none () Set.univ loosened := fun t => by
  rw [bigSep_W0, bigSep_W0, row]
  exact triple_restated (sound m c t) rfl .rfl fun _ => .rfl

set_option backward.isDefEq.respectTransparency.types false in
/-- The run: it ends with every input array as the region found it and every counter at zero. -/
theorem run : θ_run defs (onTc (τ := τ) (main (F := F))) (s₀ m ρ)
    (fun r => Pipeline.RDat.FramePost cfg0 (fun c => (dats m 0 c).toRForget loosened) (V m) r ∧ r.2.sem = fun _ => 0) :=
  Pipeline.θ_run_frame_forget (Q' := _) cfgs (dats m) (0 : Fin 1) launch0 defs₀ Variants.none loosened m ρ main
    (hbody := fun c => (obligation m c).loose) (hshare := fun c => (dats m 0 c).share_full fun _ => rfl)
    (howed := fun _ _ => rfl) (V := V m) (hmain := hmain m Variants.none) (hA := A_eq m) (hΦ := fun _ _ => rfl)
    (hQ' := fun _ h => h)

/-- The frame: every execution of the program ends, its argument arrays hold what they held, and every semaphore
    counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c)),
      (h.1.arr_in c 6 rfl).trans ((A_eq m c 6).trans (V_main_arg6 m c)),
      (h.1.arr_in c 7 rfl).trans ((A_eq m c 7).trans (V_main_arg7 m c)),
      (h.1.arr_in c 8 rfl).trans ((A_eq m c 8).trans (V_main_arg8 m c))⟩, h.2⟩) (run m ρ)

end SampleFrame

end
-- ==== Proof.AttnClaims.lean ====
/-
  The frames of the two programs of the sparse attention: the one over the prompt's blocks and the one over the samples.
-/
module

public import proofs.«01_k».proof.Defs
public import proofs.«01_k».proof.Proof.PromptFrame
public import proofs.«01_k».proof.Proof.SampleFrame

@[expose] public section

namespace AttnClaims

/-- The prompt's attention ends, with its arguments unchanged and every semaphore at zero. -/
theorem frame_prompt : Cert.quiescent_Prompt := fun m ρ _ => PromptFrame.frame m ρ

/-- The samples' attention ends, with its arguments unchanged and every semaphore at zero. -/
theorem frame_sample : Cert.quiescent_Sample := fun m ρ _ => SampleFrame.frame m ρ

end AttnClaims

end
-- ==== Proof.lean ====
module

public import proofs.«01_k».proof.Defs
public import proofs.«01_k».proof.Proof.DenseClaims
public import proofs.«01_k».proof.Proof.InProjClaims
public import proofs.«01_k».proof.Proof.MergeClaims
public import proofs.«01_k».proof.Proof.OutLnClaims
public import proofs.«01_k».proof.Proof.ScoresClaims
public import proofs.«01_k».proof.Proof.ResLnClaims
public import proofs.«01_k».proof.Proof.PrepClaims
public import proofs.«01_k».proof.Proof.AttnClaims

@[expose] public section

noncomputable section

namespace Cert.Proof

/-- Every claim of this directory. -/
theorem claim : Cert.Claim :=
  ⟨Cert.Dense.Gen.facts, Cert.DenseIdeal.Gen.facts, Cert.DenseRefIdeal.Gen.facts,
    Cert.InProj.Gen.facts, Cert.InProjIdeal.Gen.facts, Cert.InProjRefIdeal.Gen.facts,
    Cert.Merge.Gen.facts, Cert.MergeIdeal.Gen.facts, Cert.MergeRefIdeal.Gen.facts,
    Cert.OutLn.Gen.facts, Cert.OutLnIdeal.Gen.facts, Cert.OutLnRefIdeal.Gen.facts,
    Cert.Scores.Gen.facts, Cert.ScoresIdeal.Gen.facts, Cert.ScoresRefIdeal.Gen.facts,
    Cert.ResLn.Gen.facts, Cert.ResLnIdeal.Gen.facts, Cert.ResLnRefIdeal.Gen.facts,
    Cert.Prep.Gen.facts, Cert.PrepIdeal.Gen.facts, Cert.PrepRefIdeal.Gen.facts,
    Cert.Prompt.Gen.facts, Cert.Sample.Gen.facts,
    DenseClaims.frame_p, DenseClaims.frame_pi, DenseClaims.frame_ri,
    InProjClaims.frame_p, InProjClaims.frame_pi, InProjClaims.frame_ri,
    MergeClaims.frame_p, MergeClaims.frame_pi, MergeClaims.frame_ri,
    OutLnClaims.frame_p, OutLnClaims.frame_pi, OutLnClaims.frame_ri,
    ScoresClaims.frame_p, ScoresClaims.frame_pi, ScoresClaims.frame_ri,
    ResLnClaims.frame_p, ResLnClaims.frame_pi, ResLnClaims.frame_ri,
    PrepClaims.frame_p, PrepClaims.frame_pi, PrepClaims.frame_ri,
    AttnClaims.frame_prompt, AttnClaims.frame_sample,
    DenseClaims.preserves, DenseClaims.algebraic,
    InProjClaims.preserves, InProjClaims.algebraic,
    MergeClaims.preserves, MergeClaims.algebraic,
    OutLnClaims.preserves, OutLnClaims.algebraic,
    ScoresClaims.preserves, ScoresClaims.algebraic,
    ResLnClaims.preserves, ResLnClaims.algebraic,
    PrepClaims.preserves, PrepClaims.algebraic⟩

end Cert.Proof

end
